-- ==== Defs.lean ====
def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandRefIdeal (m : (ℓ : Loc Cert.BandRefIdeal.nD Cert.BandRefIdeal.τ Cert.BandRefIdeal.sig) → Buf (Elt Ideal) ℓ) : Prop :=
  True

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7)
      ∧ r.2.mem ((c.tc : Thread Cert.PromptRefIdeal.nD Cert.PromptRefIdeal.τ).loc Cert.PromptRefIdeal.main_arg8) = m ((c.tc : Thread Cert.PromptRefIdeal.nD Cert.PromptRefIdeal.τ).loc Cert.PromptRefIdeal.main_arg8)
      ∧ r.2.mem ((c.tc : Thread Cert.PromptRefIdeal.nD Cert.PromptRefIdeal.τ).loc Cert.PromptRefIdeal.main_arg9) = m ((c.tc : Thread Cert.PromptRefIdeal.nD Cert.PromptRefIdeal.τ).loc Cert.PromptRefIdeal.main_arg9)
      ∧ r.2.mem ((c.tc : Thread Cert.PromptRefIdeal.nD Cert.PromptRefIdeal.τ).loc Cert.PromptRefIdeal.main_arg10) = m ((c.tc : Thread Cert.PromptRefIdeal.nD Cert.PromptRefIdeal.τ).loc Cert.PromptRefIdeal.main_arg10))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10)
      ∧ r.2.mem ((c.tc : Thread Cert.SampleRefIdeal.nD Cert.SampleRefIdeal.τ).loc Cert.SampleRefIdeal.main_arg11) = m ((c.tc : Thread Cert.SampleRefIdeal.nD Cert.SampleRefIdeal.τ).loc Cert.SampleRefIdeal.main_arg11))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12)
      ∧ r.2.mem ((c.tc : Thread Cert.Out.nD Cert.Out.τ).loc Cert.Out.main_arg13) = m ((c.tc : Thread Cert.Out.nD Cert.Out.τ).loc Cert.Out.main_arg13)
      ∧ r.2.mem ((c.tc : Thread Cert.Out.nD Cert.Out.τ).loc Cert.Out.main_arg14) = m ((c.tc : Thread Cert.Out.nD Cert.Out.τ).loc Cert.Out.main_arg14))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
      ∧ r.2.mem ((c.tc : Thread Cert.OutIdeal.nD Cert.OutIdeal.τ).loc Cert.OutIdeal.main_arg13) = m ((c.tc : Thread Cert.OutIdeal.nD Cert.OutIdeal.τ).loc Cert.OutIdeal.main_arg13)
      ∧ r.2.mem ((c.tc : Thread Cert.OutIdeal.nD Cert.OutIdeal.τ).loc Cert.OutIdeal.main_arg14) = m ((c.tc : Thread Cert.OutIdeal.nD Cert.OutIdeal.τ).loc Cert.OutIdeal.main_arg14))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12)
      ∧ r.2.mem ((c.tc : Thread Cert.OutRefIdeal.nD Cert.OutRefIdeal.τ).loc Cert.OutRefIdeal.main_arg13) = m ((c.tc : Thread Cert.OutRefIdeal.nD Cert.OutRefIdeal.τ).loc Cert.OutRefIdeal.main_arg13)
      ∧ r.2.mem ((c.tc : Thread Cert.OutRefIdeal.nD Cert.OutRefIdeal.τ).loc Cert.OutRefIdeal.main_arg14) = m ((c.tc : Thread Cert.OutRefIdeal.nD Cert.OutRefIdeal.τ).loc Cert.OutRefIdeal.main_arg14))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2)
      ∧ r.2.mem ((c.tc : Thread Cert.OutS.nD Cert.OutS.τ).loc Cert.OutS.main_arg3) = m ((c.tc : Thread Cert.OutS.nD Cert.OutS.τ).loc Cert.OutS.main_arg3)
      ∧ r.2.mem ((c.tc : Thread Cert.OutS.nD Cert.OutS.τ).loc Cert.OutS.main_arg4) = m ((c.tc : Thread Cert.OutS.nD Cert.OutS.τ).loc Cert.OutS.main_arg4)
      ∧ r.2.mem ((c.tc : Thread Cert.OutS.nD Cert.OutS.τ).loc Cert.OutS.main_arg5) = m ((c.tc : Thread Cert.OutS.nD Cert.OutS.τ).loc Cert.OutS.main_arg5)
      ∧ r.2.mem ((c.tc : Thread Cert.OutS.nD Cert.OutS.τ).loc Cert.OutS.main_arg6) = m ((c.tc : Thread Cert.OutS.nD Cert.OutS.τ).loc Cert.OutS.main_arg6)
      ∧ r.2.mem ((c.tc : Thread Cert.OutS.nD Cert.OutS.τ).loc Cert.OutS.main_arg7) = m ((c.tc : Thread Cert.OutS.nD Cert.OutS.τ).loc Cert.OutS.main_arg7)
      ∧ r.2.mem ((c.tc : Thread Cert.OutS.nD Cert.OutS.τ).loc Cert.OutS.main_arg8) = m ((c.tc : Thread Cert.OutS.nD Cert.OutS.τ).loc Cert.OutS.main_arg8)
      ∧ r.2.mem ((c.tc : Thread Cert.OutS.nD Cert.OutS.τ).loc Cert.OutS.main_arg9) = m ((c.tc : Thread Cert.OutS.nD Cert.OutS.τ).loc Cert.OutS.main_arg9)
      ∧ r.2.mem ((c.tc : Thread Cert.OutS.nD Cert.OutS.τ).loc Cert.OutS.main_arg10) = m ((c.tc : Thread Cert.OutS.nD Cert.OutS.τ).loc Cert.OutS.main_arg10)
      ∧ r.2.mem ((c.tc : Thread Cert.OutS.nD Cert.OutS.τ).loc Cert.OutS.main_arg11) = m ((c.tc : Thread Cert.OutS.nD Cert.OutS.τ).loc Cert.OutS.main_arg11)
      ∧ r.2.mem ((c.tc : Thread Cert.OutS.nD Cert.OutS.τ).loc Cert.OutS.main_arg12) = m ((c.tc : Thread Cert.OutS.nD Cert.OutS.τ).loc Cert.OutS.main_arg12)
      ∧ r.2.mem ((c.tc : Thread Cert.OutS.nD Cert.OutS.τ).loc Cert.OutS.main_arg13) = m ((c.tc : Thread Cert.OutS.nD Cert.OutS.τ).loc Cert.OutS.main_arg13)
      ∧ r.2.mem ((c.tc : Thread Cert.OutS.nD Cert.OutS.τ).loc Cert.OutS.main_arg14) = m ((c.tc : Thread Cert.OutS.nD Cert.OutS.τ).loc Cert.OutS.main_arg14))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
      ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
      ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4)
      ∧ r.2.mem ((c.tc : Thread Cert.OutSIdeal.nD Cert.OutSIdeal.τ).loc Cert.OutSIdeal.main_arg5) = m ((c.tc : Thread Cert.OutSIdeal.nD Cert.OutSIdeal.τ).loc Cert.OutSIdeal.main_arg5)
      ∧ r.2.mem ((c.tc : Thread Cert.OutSIdeal.nD Cert.OutSIdeal.τ).loc Cert.OutSIdeal.main_arg6) = m ((c.tc : Thread Cert.OutSIdeal.nD Cert.OutSIdeal.τ).loc Cert.OutSIdeal.main_arg6)
      ∧ r.2.mem ((c.tc : Thread Cert.OutSIdeal.nD Cert.OutSIdeal.τ).loc Cert.OutSIdeal.main_arg7) = m ((c.tc : Thread Cert.OutSIdeal.nD Cert.OutSIdeal.τ).loc Cert.OutSIdeal.main_arg7)
      ∧ r.2.mem ((c.tc : Thread Cert.OutSIdeal.nD Cert.OutSIdeal.τ).loc Cert.OutSIdeal.main_arg8) = m ((c.tc : Thread Cert.OutSIdeal.nD Cert.OutSIdeal.τ).loc Cert.OutSIdeal.main_arg8)
      ∧ r.2.mem ((c.tc : Thread Cert.OutSIdeal.nD Cert.OutSIdeal.τ).loc Cert.OutSIdeal.main_arg9) = m ((c.tc : Thread Cert.OutSIdeal.nD Cert.OutSIdeal.τ).loc Cert.OutSIdeal.main_arg9)
      ∧ r.2.mem ((c.tc : Thread Cert.OutSIdeal.nD Cert.OutSIdeal.τ).loc Cert.OutSIdeal.main_arg10) = m ((c.tc : Thread Cert.OutSIdeal.nD Cert.OutSIdeal.τ).loc Cert.OutSIdeal.main_arg10)
      ∧ r.2.mem ((c.tc : Thread Cert.OutSIdeal.nD Cert.OutSIdeal.τ).loc Cert.OutSIdeal.main_arg11) = m ((c.tc : Thread Cert.OutSIdeal.nD Cert.OutSIdeal.τ).loc Cert.OutSIdeal.main_arg11)
      ∧ r.2.mem ((c.tc : Thread Cert.OutSIdeal.nD Cert.OutSIdeal.τ).loc Cert.OutSIdeal.main_arg12) = m ((c.tc : Thread Cert.OutSIdeal.nD Cert.OutSIdeal.τ).loc Cert.OutSIdeal.main_arg12)
      ∧ r.2.mem ((c.tc : Thread Cert.OutSIdeal.nD Cert.OutSIdeal.τ).loc Cert.OutSIdeal.main_arg13) = m ((c.tc : Thread Cert.OutSIdeal.nD Cert.OutSIdeal.τ).loc Cert.OutSIdeal.main_arg13)
      ∧ r.2.mem ((c.tc : Thread Cert.OutSIdeal.nD Cert.OutSIdeal.τ).loc Cert.OutSIdeal.main_arg14) = m ((c.tc : Thread Cert.OutSIdeal.nD Cert.OutSIdeal.τ).loc Cert.OutSIdeal.main_arg14))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3)
      ∧ r.2.mem ((c.tc : Thread Cert.OutSRefIdeal.nD Cert.OutSRefIdeal.τ).loc Cert.OutSRefIdeal.main_arg4) = m ((c.tc : Thread Cert.OutSRefIdeal.nD Cert.OutSRefIdeal.τ).loc Cert.OutSRefIdeal.main_arg4)
      ∧ r.2.mem ((c.tc : Thread Cert.OutSRefIdeal.nD Cert.OutSRefIdeal.τ).loc Cert.OutSRefIdeal.main_arg5) = m ((c.tc : Thread Cert.OutSRefIdeal.nD Cert.OutSRefIdeal.τ).loc Cert.OutSRefIdeal.main_arg5)
      ∧ r.2.mem ((c.tc : Thread Cert.OutSRefIdeal.nD Cert.OutSRefIdeal.τ).loc Cert.OutSRefIdeal.main_arg6) = m ((c.tc : Thread Cert.OutSRefIdeal.nD Cert.OutSRefIdeal.τ).loc Cert.OutSRefIdeal.main_arg6)
      ∧ r.2.mem ((c.tc : Thread Cert.OutSRefIdeal.nD Cert.OutSRefIdeal.τ).loc Cert.OutSRefIdeal.main_arg7) = m ((c.tc : Thread Cert.OutSRefIdeal.nD Cert.OutSRefIdeal.τ).loc Cert.OutSRefIdeal.main_arg7)
      ∧ r.2.mem ((c.tc : Thread Cert.OutSRefIdeal.nD Cert.OutSRefIdeal.τ).loc Cert.OutSRefIdeal.main_arg8) = m ((c.tc : Thread Cert.OutSRefIdeal.nD Cert.OutSRefIdeal.τ).loc Cert.OutSRefIdeal.main_arg8)
      ∧ r.2.mem ((c.tc : Thread Cert.OutSRefIdeal.nD Cert.OutSRefIdeal.τ).loc Cert.OutSRefIdeal.main_arg9) = m ((c.tc : Thread Cert.OutSRefIdeal.nD Cert.OutSRefIdeal.τ).loc Cert.OutSRefIdeal.main_arg9)
      ∧ r.2.mem ((c.tc : Thread Cert.OutSRefIdeal.nD Cert.OutSRefIdeal.τ).loc Cert.OutSRefIdeal.main_arg10) = m ((c.tc : Thread Cert.OutSRefIdeal.nD Cert.OutSRefIdeal.τ).loc Cert.OutSRefIdeal.main_arg10)
      ∧ r.2.mem ((c.tc : Thread Cert.OutSRefIdeal.nD Cert.OutSRefIdeal.τ).loc Cert.OutSRefIdeal.main_arg11) = m ((c.tc : Thread Cert.OutSRefIdeal.nD Cert.OutSRefIdeal.τ).loc Cert.OutSRefIdeal.main_arg11)
      ∧ r.2.mem ((c.tc : Thread Cert.OutSRefIdeal.nD Cert.OutSRefIdeal.τ).loc Cert.OutSRefIdeal.main_arg12) = m ((c.tc : Thread Cert.OutSRefIdeal.nD Cert.OutSRefIdeal.τ).loc Cert.OutSRefIdeal.main_arg12)
      ∧ r.2.mem ((c.tc : Thread Cert.OutSRefIdeal.nD Cert.OutSRefIdeal.τ).loc Cert.OutSRefIdeal.main_arg13) = m ((c.tc : Thread Cert.OutSRefIdeal.nD Cert.OutSRefIdeal.τ).loc Cert.OutSRefIdeal.main_arg13)
      ∧ r.2.mem ((c.tc : Thread Cert.OutSRefIdeal.nD Cert.OutSRefIdeal.τ).loc Cert.OutSRefIdeal.main_arg14) = m ((c.tc : Thread Cert.OutSRefIdeal.nD Cert.OutSRefIdeal.τ).loc Cert.OutSRefIdeal.main_arg14))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)
      ∧ m' ((c.tc : Thread Cert.PromptRefIdeal.nD Cert.PromptRefIdeal.τ).loc Cert.PromptRefIdeal.main_arg7) = m ((c.tc : Thread Cert.PromptIdeal.nD Cert.PromptIdeal.τ).loc Cert.PromptIdeal.main_arg7)
      ∧ m' ((c.tc : Thread Cert.PromptRefIdeal.nD Cert.PromptRefIdeal.τ).loc Cert.PromptRefIdeal.main_arg8) = m ((c.tc : Thread Cert.PromptIdeal.nD Cert.PromptIdeal.τ).loc Cert.PromptIdeal.main_arg8)
      ∧ m' ((c.tc : Thread Cert.PromptRefIdeal.nD Cert.PromptRefIdeal.τ).loc Cert.PromptRefIdeal.main_arg9) = m ((c.tc : Thread Cert.PromptIdeal.nD Cert.PromptIdeal.τ).loc Cert.PromptIdeal.main_arg9)
      ∧ m' ((c.tc : Thread Cert.PromptRefIdeal.nD Cert.PromptRefIdeal.τ).loc Cert.PromptRefIdeal.main_arg10) = m ((c.tc : Thread Cert.PromptIdeal.nD Cert.PromptIdeal.τ).loc Cert.PromptIdeal.main_arg10)) →
    ∃ (v0 : (c : Dev Cert.PromptIdeal.nD) → Buf (Elt Ideal) ((c.tc : Thread Cert.PromptIdeal.nD Cert.PromptIdeal.τ).loc Cert.PromptIdeal.main_v52)) (v1 : (c : Dev Cert.PromptIdeal.nD) → Buf (Elt Ideal) ((c.tc : Thread Cert.PromptIdeal.nD Cert.PromptIdeal.τ).loc Cert.PromptIdeal.main_v54)) (v2 : (c : Dev Cert.PromptIdeal.nD) → Buf (Elt Ideal) ((c.tc : Thread Cert.PromptIdeal.nD Cert.PromptIdeal.τ).loc Cert.PromptIdeal.main_v62)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v52) = v0 c
          ∧ r.2.mem ((c.tc : Thread Cert.PromptIdeal.nD Cert.PromptIdeal.τ).loc Cert.PromptIdeal.main_v54) = v1 c
          ∧ r.2.mem ((c.tc : Thread Cert.PromptIdeal.nD Cert.PromptIdeal.τ).loc Cert.PromptIdeal.main_v62) = v2 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v112) = v0 c
          ∧ r.2.mem ((c.tc : Thread Cert.PromptRefIdeal.nD Cert.PromptRefIdeal.τ).loc Cert.PromptRefIdeal.main_v114) = v1 c
          ∧ r.2.mem ((c.tc : Thread Cert.PromptRefIdeal.nD Cert.PromptRefIdeal.τ).loc Cert.PromptRefIdeal.main_v115) = v2 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6)
          ∧ r.2.mem ((c.tc : Thread Cert.PromptRefIdeal.nD Cert.PromptRefIdeal.τ).loc Cert.PromptRefIdeal.main_arg7) = m' ((c.tc : Thread Cert.PromptRefIdeal.nD Cert.PromptRefIdeal.τ).loc Cert.PromptRefIdeal.main_arg7)
          ∧ r.2.mem ((c.tc : Thread Cert.PromptRefIdeal.nD Cert.PromptRefIdeal.τ).loc Cert.PromptRefIdeal.main_arg8) = m' ((c.tc : Thread Cert.PromptRefIdeal.nD Cert.PromptRefIdeal.τ).loc Cert.PromptRefIdeal.main_arg8)
          ∧ r.2.mem ((c.tc : Thread Cert.PromptRefIdeal.nD Cert.PromptRefIdeal.τ).loc Cert.PromptRefIdeal.main_arg9) = m' ((c.tc : Thread Cert.PromptRefIdeal.nD Cert.PromptRefIdeal.τ).loc Cert.PromptRefIdeal.main_arg9)
          ∧ r.2.mem ((c.tc : Thread Cert.PromptRefIdeal.nD Cert.PromptRefIdeal.τ).loc Cert.PromptRefIdeal.main_arg10) = m' ((c.tc : Thread Cert.PromptRefIdeal.nD Cert.PromptRefIdeal.τ).loc Cert.PromptRefIdeal.main_arg10))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)
      ∧ m' ((c.tc : Thread Cert.SampleRefIdeal.nD Cert.SampleRefIdeal.τ).loc Cert.SampleRefIdeal.main_arg11) = m ((c.tc : Thread Cert.SampleIdeal.nD Cert.SampleIdeal.τ).loc Cert.SampleIdeal.main_arg11)) →
    ∃ (v0 : (c : Dev Cert.SampleIdeal.nD) → Buf (Elt Ideal) ((c.tc : Thread Cert.SampleIdeal.nD Cert.SampleIdeal.τ).loc Cert.SampleIdeal.main_v55)) (v1 : (c : Dev Cert.SampleIdeal.nD) → Buf (Elt Ideal) ((c.tc : Thread Cert.SampleIdeal.nD Cert.SampleIdeal.τ).loc Cert.SampleIdeal.main_v60)) (v2 : (c : Dev Cert.SampleIdeal.nD) → Buf (Elt Ideal) ((c.tc : Thread Cert.SampleIdeal.nD Cert.SampleIdeal.τ).loc Cert.SampleIdeal.main_v69)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v55) = v0 c
          ∧ r.2.mem ((c.tc : Thread Cert.SampleIdeal.nD Cert.SampleIdeal.τ).loc Cert.SampleIdeal.main_v60) = v1 c
          ∧ r.2.mem ((c.tc : Thread Cert.SampleIdeal.nD Cert.SampleIdeal.τ).loc Cert.SampleIdeal.main_v69) = v2 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v115) = v0 c
          ∧ r.2.mem ((c.tc : Thread Cert.SampleRefIdeal.nD Cert.SampleRefIdeal.τ).loc Cert.SampleRefIdeal.main_v117) = v1 c
          ∧ r.2.mem ((c.tc : Thread Cert.SampleRefIdeal.nD Cert.SampleRefIdeal.τ).loc Cert.SampleRefIdeal.main_v118) = v2 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10)
          ∧ r.2.mem ((c.tc : Thread Cert.SampleRefIdeal.nD Cert.SampleRefIdeal.τ).loc Cert.SampleRefIdeal.main_arg11) = m' ((c.tc : Thread Cert.SampleRefIdeal.nD Cert.SampleRefIdeal.τ).loc Cert.SampleRefIdeal.main_arg11))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)
      ∧ m' ((c.tc : Thread Cert.OutRefIdeal.nD Cert.OutRefIdeal.τ).loc Cert.OutRefIdeal.main_arg13) = m ((c.tc : Thread Cert.OutIdeal.nD Cert.OutIdeal.τ).loc Cert.OutIdeal.main_arg13)
      ∧ m' ((c.tc : Thread Cert.OutRefIdeal.nD Cert.OutRefIdeal.τ).loc Cert.OutRefIdeal.main_arg14) = m ((c.tc : Thread Cert.OutIdeal.nD Cert.OutIdeal.τ).loc Cert.OutIdeal.main_arg14)) →
    ∃ (v0 : (c : Dev Cert.OutIdeal.nD) → Buf (Elt Ideal) ((c.tc : Thread Cert.OutIdeal.nD Cert.OutIdeal.τ).loc Cert.OutIdeal.main_v12)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v12) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
          ∧ r.2.mem ((c.tc : Thread Cert.OutIdeal.nD Cert.OutIdeal.τ).loc Cert.OutIdeal.main_arg13) = m ((c.tc : Thread Cert.OutIdeal.nD Cert.OutIdeal.τ).loc Cert.OutIdeal.main_arg13)
          ∧ r.2.mem ((c.tc : Thread Cert.OutIdeal.nD Cert.OutIdeal.τ).loc Cert.OutIdeal.main_arg14) = m ((c.tc : Thread Cert.OutIdeal.nD Cert.OutIdeal.τ).loc Cert.OutIdeal.main_arg14))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v80) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12)
          ∧ r.2.mem ((c.tc : Thread Cert.OutRefIdeal.nD Cert.OutRefIdeal.τ).loc Cert.OutRefIdeal.main_arg13) = m' ((c.tc : Thread Cert.OutRefIdeal.nD Cert.OutRefIdeal.τ).loc Cert.OutRefIdeal.main_arg13)
          ∧ r.2.mem ((c.tc : Thread Cert.OutRefIdeal.nD Cert.OutRefIdeal.τ).loc Cert.OutRefIdeal.main_arg14) = m' ((c.tc : Thread Cert.OutRefIdeal.nD Cert.OutRefIdeal.τ).loc Cert.OutRefIdeal.main_arg14))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)
      ∧ m' ((c.tc : Thread Cert.OutSRefIdeal.nD Cert.OutSRefIdeal.τ).loc Cert.OutSRefIdeal.main_arg3) = m ((c.tc : Thread Cert.OutSIdeal.nD Cert.OutSIdeal.τ).loc Cert.OutSIdeal.main_arg3)
      ∧ m' ((c.tc : Thread Cert.OutSRefIdeal.nD Cert.OutSRefIdeal.τ).loc Cert.OutSRefIdeal.main_arg4) = m ((c.tc : Thread Cert.OutSIdeal.nD Cert.OutSIdeal.τ).loc Cert.OutSIdeal.main_arg4)
      ∧ m' ((c.tc : Thread Cert.OutSRefIdeal.nD Cert.OutSRefIdeal.τ).loc Cert.OutSRefIdeal.main_arg5) = m ((c.tc : Thread Cert.OutSIdeal.nD Cert.OutSIdeal.τ).loc Cert.OutSIdeal.main_arg5)
      ∧ m' ((c.tc : Thread Cert.OutSRefIdeal.nD Cert.OutSRefIdeal.τ).loc Cert.OutSRefIdeal.main_arg6) = m ((c.tc : Thread Cert.OutSIdeal.nD Cert.OutSIdeal.τ).loc Cert.OutSIdeal.main_arg6)
      ∧ m' ((c.tc : Thread Cert.OutSRefIdeal.nD Cert.OutSRefIdeal.τ).loc Cert.OutSRefIdeal.main_arg7) = m ((c.tc : Thread Cert.OutSIdeal.nD Cert.OutSIdeal.τ).loc Cert.OutSIdeal.main_arg7)
      ∧ m' ((c.tc : Thread Cert.OutSRefIdeal.nD Cert.OutSRefIdeal.τ).loc Cert.OutSRefIdeal.main_arg8) = m ((c.tc : Thread Cert.OutSIdeal.nD Cert.OutSIdeal.τ).loc Cert.OutSIdeal.main_arg8)
      ∧ m' ((c.tc : Thread Cert.OutSRefIdeal.nD Cert.OutSRefIdeal.τ).loc Cert.OutSRefIdeal.main_arg9) = m ((c.tc : Thread Cert.OutSIdeal.nD Cert.OutSIdeal.τ).loc Cert.OutSIdeal.main_arg9)
      ∧ m' ((c.tc : Thread Cert.OutSRefIdeal.nD Cert.OutSRefIdeal.τ).loc Cert.OutSRefIdeal.main_arg10) = m ((c.tc : Thread Cert.OutSIdeal.nD Cert.OutSIdeal.τ).loc Cert.OutSIdeal.main_arg10)
      ∧ m' ((c.tc : Thread Cert.OutSRefIdeal.nD Cert.OutSRefIdeal.τ).loc Cert.OutSRefIdeal.main_arg11) = m ((c.tc : Thread Cert.OutSIdeal.nD Cert.OutSIdeal.τ).loc Cert.OutSIdeal.main_arg11)
      ∧ m' ((c.tc : Thread Cert.OutSRefIdeal.nD Cert.OutSRefIdeal.τ).loc Cert.OutSRefIdeal.main_arg12) = m ((c.tc : Thread Cert.OutSIdeal.nD Cert.OutSIdeal.τ).loc Cert.OutSIdeal.main_arg12)
      ∧ m' ((c.tc : Thread Cert.OutSRefIdeal.nD Cert.OutSRefIdeal.τ).loc Cert.OutSRefIdeal.main_arg13) = m ((c.tc : Thread Cert.OutSIdeal.nD Cert.OutSIdeal.τ).loc Cert.OutSIdeal.main_arg13)
      ∧ m' ((c.tc : Thread Cert.OutSRefIdeal.nD Cert.OutSRefIdeal.τ).loc Cert.OutSRefIdeal.main_arg14) = m ((c.tc : Thread Cert.OutSIdeal.nD Cert.OutSIdeal.τ).loc Cert.OutSIdeal.main_arg14)) →
    ∃ (v0 : (c : Dev Cert.OutSIdeal.nD) → Buf (Elt Ideal) ((c.tc : Thread Cert.OutSIdeal.nD Cert.OutSIdeal.τ).loc Cert.OutSIdeal.main_v12)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v12) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
          ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
          ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4)
          ∧ r.2.mem ((c.tc : Thread Cert.OutSIdeal.nD Cert.OutSIdeal.τ).loc Cert.OutSIdeal.main_arg5) = m ((c.tc : Thread Cert.OutSIdeal.nD Cert.OutSIdeal.τ).loc Cert.OutSIdeal.main_arg5)
          ∧ r.2.mem ((c.tc : Thread Cert.OutSIdeal.nD Cert.OutSIdeal.τ).loc Cert.OutSIdeal.main_arg6) = m ((c.tc : Thread Cert.OutSIdeal.nD Cert.OutSIdeal.τ).loc Cert.OutSIdeal.main_arg6)
          ∧ r.2.mem ((c.tc : Thread Cert.OutSIdeal.nD Cert.OutSIdeal.τ).loc Cert.OutSIdeal.main_arg7) = m ((c.tc : Thread Cert.OutSIdeal.nD Cert.OutSIdeal.τ).loc Cert.OutSIdeal.main_arg7)
          ∧ r.2.mem ((c.tc : Thread Cert.OutSIdeal.nD Cert.OutSIdeal.τ).loc Cert.OutSIdeal.main_arg8) = m ((c.tc : Thread Cert.OutSIdeal.nD Cert.OutSIdeal.τ).loc Cert.OutSIdeal.main_arg8)
          ∧ r.2.mem ((c.tc : Thread Cert.OutSIdeal.nD Cert.OutSIdeal.τ).loc Cert.OutSIdeal.main_arg9) = m ((c.tc : Thread Cert.OutSIdeal.nD Cert.OutSIdeal.τ).loc Cert.OutSIdeal.main_arg9)
          ∧ r.2.mem ((c.tc : Thread Cert.OutSIdeal.nD Cert.OutSIdeal.τ).loc Cert.OutSIdeal.main_arg10) = m ((c.tc : Thread Cert.OutSIdeal.nD Cert.OutSIdeal.τ).loc Cert.OutSIdeal.main_arg10)
          ∧ r.2.mem ((c.tc : Thread Cert.OutSIdeal.nD Cert.OutSIdeal.τ).loc Cert.OutSIdeal.main_arg11) = m ((c.tc : Thread Cert.OutSIdeal.nD Cert.OutSIdeal.τ).loc Cert.OutSIdeal.main_arg11)
          ∧ r.2.mem ((c.tc : Thread Cert.OutSIdeal.nD Cert.OutSIdeal.τ).loc Cert.OutSIdeal.main_arg12) = m ((c.tc : Thread Cert.OutSIdeal.nD Cert.OutSIdeal.τ).loc Cert.OutSIdeal.main_arg12)
          ∧ r.2.mem ((c.tc : Thread Cert.OutSIdeal.nD Cert.OutSIdeal.τ).loc Cert.OutSIdeal.main_arg13) = m ((c.tc : Thread Cert.OutSIdeal.nD Cert.OutSIdeal.τ).loc Cert.OutSIdeal.main_arg13)
          ∧ r.2.mem ((c.tc : Thread Cert.OutSIdeal.nD Cert.OutSIdeal.τ).loc Cert.OutSIdeal.main_arg14) = m ((c.tc : Thread Cert.OutSIdeal.nD Cert.OutSIdeal.τ).loc Cert.OutSIdeal.main_arg14))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v76) = v0 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2)
          ∧ r.2.mem ((c.tc : Thread Cert.OutSRefIdeal.nD Cert.OutSRefIdeal.τ).loc Cert.OutSRefIdeal.main_arg3) = m' ((c.tc : Thread Cert.OutSRefIdeal.nD Cert.OutSRefIdeal.τ).loc Cert.OutSRefIdeal.main_arg3)
          ∧ r.2.mem ((c.tc : Thread Cert.OutSRefIdeal.nD Cert.OutSRefIdeal.τ).loc Cert.OutSRefIdeal.main_arg4) = m' ((c.tc : Thread Cert.OutSRefIdeal.nD Cert.OutSRefIdeal.τ).loc Cert.OutSRefIdeal.main_arg4)
          ∧ r.2.mem ((c.tc : Thread Cert.OutSRefIdeal.nD Cert.OutSRefIdeal.τ).loc Cert.OutSRefIdeal.main_arg5) = m' ((c.tc : Thread Cert.OutSRefIdeal.nD Cert.OutSRefIdeal.τ).loc Cert.OutSRefIdeal.main_arg5)
          ∧ r.2.mem ((c.tc : Thread Cert.OutSRefIdeal.nD Cert.OutSRefIdeal.τ).loc Cert.OutSRefIdeal.main_arg6) = m' ((c.tc : Thread Cert.OutSRefIdeal.nD Cert.OutSRefIdeal.τ).loc Cert.OutSRefIdeal.main_arg6)
          ∧ r.2.mem ((c.tc : Thread Cert.OutSRefIdeal.nD Cert.OutSRefIdeal.τ).loc Cert.OutSRefIdeal.main_arg7) = m' ((c.tc : Thread Cert.OutSRefIdeal.nD Cert.OutSRefIdeal.τ).loc Cert.OutSRefIdeal.main_arg7)
          ∧ r.2.mem ((c.tc : Thread Cert.OutSRefIdeal.nD Cert.OutSRefIdeal.τ).loc Cert.OutSRefIdeal.main_arg8) = m' ((c.tc : Thread Cert.OutSRefIdeal.nD Cert.OutSRefIdeal.τ).loc Cert.OutSRefIdeal.main_arg8)
          ∧ r.2.mem ((c.tc : Thread Cert.OutSRefIdeal.nD Cert.OutSRefIdeal.τ).loc Cert.OutSRefIdeal.main_arg9) = m' ((c.tc : Thread Cert.OutSRefIdeal.nD Cert.OutSRefIdeal.τ).loc Cert.OutSRefIdeal.main_arg9)
          ∧ r.2.mem ((c.tc : Thread Cert.OutSRefIdeal.nD Cert.OutSRefIdeal.τ).loc Cert.OutSRefIdeal.main_arg10) = m' ((c.tc : Thread Cert.OutSRefIdeal.nD Cert.OutSRefIdeal.τ).loc Cert.OutSRefIdeal.main_arg10)
          ∧ r.2.mem ((c.tc : Thread Cert.OutSRefIdeal.nD Cert.OutSRefIdeal.τ).loc Cert.OutSRefIdeal.main_arg11) = m' ((c.tc : Thread Cert.OutSRefIdeal.nD Cert.OutSRefIdeal.τ).loc Cert.OutSRefIdeal.main_arg11)
          ∧ r.2.mem ((c.tc : Thread Cert.OutSRefIdeal.nD Cert.OutSRefIdeal.τ).loc Cert.OutSRefIdeal.main_arg12) = m' ((c.tc : Thread Cert.OutSRefIdeal.nD Cert.OutSRefIdeal.τ).loc Cert.OutSRefIdeal.main_arg12)
          ∧ r.2.mem ((c.tc : Thread Cert.OutSRefIdeal.nD Cert.OutSRefIdeal.τ).loc Cert.OutSRefIdeal.main_arg13) = m' ((c.tc : Thread Cert.OutSRefIdeal.nD Cert.OutSRefIdeal.τ).loc Cert.OutSRefIdeal.main_arg13)
          ∧ r.2.mem ((c.tc : Thread Cert.OutSRefIdeal.nD Cert.OutSRefIdeal.τ).loc Cert.OutSRefIdeal.main_arg14) = m' ((c.tc : Thread Cert.OutSRefIdeal.nD Cert.OutSRefIdeal.τ).loc Cert.OutSRefIdeal.main_arg14))

def preserves_Band_BandIdeal : Prop :=
  True

def algebraic_BandIdeal_BandRefIdeal [hBandIdeal : Cert.BandIdeal.Facts] [hBandRefIdeal : Cert.BandRefIdeal.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v0)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v0) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v15) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1))

def Claim : Prop :=
  ∃ (hPrompt : Cert.Prompt.Facts) (hPromptIdeal : Cert.PromptIdeal.Facts) (hPromptRefIdeal : Cert.PromptRefIdeal.Facts) (hSample : Cert.Sample.Facts) (hSampleIdeal : Cert.SampleIdeal.Facts) (hSampleRefIdeal : Cert.SampleRefIdeal.Facts) (hOut : Cert.Out.Facts) (hOutIdeal : Cert.OutIdeal.Facts) (hOutRefIdeal : Cert.OutRefIdeal.Facts) (hOutS : Cert.OutS.Facts) (hOutSIdeal : Cert.OutSIdeal.Facts) (hOutSRefIdeal : Cert.OutSRefIdeal.Facts) (hBand : Cert.Band.Facts) (hBandIdeal : Cert.BandIdeal.Facts) (hBandRefIdeal : Cert.BandRefIdeal.Facts),
    quiescent_Prompt (hPrompt := hPrompt)
    ∧ quiescent_PromptIdeal (hPromptIdeal := hPromptIdeal)
    ∧ quiescent_PromptRefIdeal (hPromptRefIdeal := hPromptRefIdeal)
    ∧ quiescent_Sample (hSample := hSample)
    ∧ quiescent_SampleIdeal (hSampleIdeal := hSampleIdeal)
    ∧ quiescent_SampleRefIdeal (hSampleRefIdeal := hSampleRefIdeal)
    ∧ quiescent_Out (hOut := hOut)
    ∧ quiescent_OutIdeal (hOutIdeal := hOutIdeal)
    ∧ quiescent_OutRefIdeal (hOutRefIdeal := hOutRefIdeal)
    ∧ quiescent_OutS (hOutS := hOutS)
    ∧ quiescent_OutSIdeal (hOutSIdeal := hOutSIdeal)
    ∧ quiescent_OutSRefIdeal (hOutSRefIdeal := hOutSRefIdeal)
    ∧ quiescent_Band (hBand := hBand)
    ∧ quiescent_BandIdeal (hBandIdeal := hBandIdeal)
    ∧ quiescent_BandRefIdeal (hBandRefIdeal := hBandRefIdeal)
    ∧ preserves_Prompt_PromptIdeal
    ∧ algebraic_PromptIdeal_PromptRefIdeal (hPromptIdeal := hPromptIdeal) (hPromptRefIdeal := hPromptRefIdeal)
    ∧ preserves_Sample_SampleIdeal
    ∧ algebraic_SampleIdeal_SampleRefIdeal (hSampleIdeal := hSampleIdeal) (hSampleRefIdeal := hSampleRefIdeal)
    ∧ preserves_Out_OutIdeal
    ∧ algebraic_OutIdeal_OutRefIdeal (hOutIdeal := hOutIdeal) (hOutRefIdeal := hOutRefIdeal)
    ∧ preserves_OutS_OutSIdeal
    ∧ algebraic_OutSIdeal_OutSRefIdeal (hOutSIdeal := hOutSIdeal) (hOutSRefIdeal := hOutSRefIdeal)
    ∧ preserves_Band_BandIdeal
    ∧ algebraic_BandIdeal_BandRefIdeal (hBandIdeal := hBandIdeal) (hBandRefIdeal := hBandRefIdeal)
-- ==== Prompt.lean ====
abbrev S1x16384x1024 : Shape := ⟨3, ![1, 16384, 1024]⟩
abbrev S1x1024 : Shape := ⟨2, ![1, 1024]⟩
abbrev S32x1024 : Shape := ⟨2, ![32, 1024]⟩
abbrev S1x1024x9216 : Shape := ⟨3, ![1, 1024, 9216]⟩
abbrev S1x9216 : Shape := ⟨2, ![1, 9216]⟩
abbrev S1x3x1024 : Shape := ⟨3, ![1, 3, 1024]⟩
abbrev S1x1024x2816 : Shape := ⟨3, ![1, 1024, 2816]⟩
abbrev S1x2816x1024 : Shape := ⟨3, ![1, 2816, 1024]⟩
abbrev S1x1024x3000 : Shape := ⟨3, ![1, 1024, 3000]⟩
abbrev S_ : Shape := ⟨0, ![]⟩
abbrev S7x1024 : Shape := ⟨2, ![7, 1024]⟩
abbrev S40x1024 : Shape := ⟨2, ![40, 1024]⟩
abbrev S1024x9216 : Shape := ⟨2, ![1024, 9216]⟩
abbrev S9216 : Shape := ⟨1, ![9216]⟩
abbrev S40x9216 : Shape := ⟨2, ![40, 9216]⟩
abbrev S1024x1152 : Shape := ⟨2, ![1024, 1152]⟩
abbrev S1x1152 : Shape := ⟨2, ![1, 1152]⟩
abbrev S40x1152 : Shape := ⟨2, ![40, 1152]⟩
abbrev S9x1x1024 : Shape := ⟨3, ![9, 1, 1024]⟩
abbrev S1024x2816 : Shape := ⟨2, ![1024, 2816]⟩
abbrev S2816x1024 : Shape := ⟨2, ![2816, 1024]⟩
abbrev S16384x1024 : Shape := ⟨2, ![16384, 1024]⟩
abbrev S1024x3000 : Shape := ⟨2, ![1024, 3000]⟩
abbrev S1024x1304 : Shape := ⟨2, ![1024, 1304]⟩
abbrev S1024x1696 : Shape := ⟨2, ![1024, 1696]⟩
abbrev S1024x24 : Shape := ⟨2, ![1024, 24]⟩
abbrev S1024x8x3 : Shape := ⟨3, ![1024, 8, 3]⟩
abbrev S1024x3x8 : Shape := ⟨3, ![1024, 3, 8]⟩
abbrev S1024x1280 : Shape := ⟨2, ![1024, 1280]⟩
abbrev S1024x128 : Shape := ⟨2, ![1024, 128]⟩
abbrev S1024x1536 : Shape := ⟨2, ![1024, 1536]⟩
abbrev S1024x32 : Shape := ⟨2, ![1024, 32]⟩
abbrev S1024x96 : Shape := ⟨2, ![1024, 96]⟩
abbrev S1024x1920 : Shape := ⟨2, ![1024, 1920]⟩
abbrev S1024x3328 : Shape := ⟨2, ![1024, 3328]⟩
abbrev S1x1x1024 : Shape := ⟨3, ![1, 1, 1024]⟩
abbrev S1024 : Shape := ⟨1, ![1024]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩
abbrev S16384x512 : Shape := ⟨2, ![16384, 512]⟩
abbrev S16384x256 : Shape := ⟨2, ![16384, 256]⟩
abbrev S16384x128 : Shape := ⟨2, ![16384, 128]⟩
abbrev S16384x1920 : Shape := ⟨2, ![16384, 1920]⟩
abbrev S2x16384x128 : Shape := ⟨3, ![2, 16384, 128]⟩
abbrev S2x32x80x512 : Shape := ⟨4, ![2, 32, 80, 512]⟩
abbrev S2x128x80x128 : Shape := ⟨4, ![2, 128, 80, 128]⟩
abbrev S512x512 : Shape := ⟨2, ![512, 512]⟩
abbrev S512x256 : Shape := ⟨2, ![512, 256]⟩
abbrev S512x128 : Shape := ⟨2, ![512, 128]⟩
abbrev S512x1920 : Shape := ⟨2, ![512, 1920]⟩
abbrev S2x512x128 : Shape := ⟨3, ![2, 512, 128]⟩
abbrev S2x1x80x512 : Shape := ⟨4, ![2, 1, 80, 512]⟩
abbrev S2x4x80x128 : Shape := ⟨4, ![2, 4, 80, 128]⟩
abbrev S512x3328 : Shape := ⟨2, ![512, 3328]⟩
abbrev S1x128 : Shape := ⟨2, ![1, 128]⟩
abbrev S1x512x128 : Shape := ⟨3, ![1, 512, 128]⟩
abbrev S1x512 : Shape := ⟨2, ![1, 512]⟩
abbrev S15x512 : Shape := ⟨2, ![15, 512]⟩
abbrev S16x512 : Shape := ⟨2, ![16, 512]⟩
abbrev S128x512 : Shape := ⟨2, ![128, 512]⟩
abbrev S64x512 : Shape := ⟨2, ![64, 512]⟩
abbrev S80x512 : Shape := ⟨2, ![80, 512]⟩
abbrev S1x1x80x512 : Shape := ⟨4, ![1, 1, 80, 512]⟩
abbrev S80x128 : Shape := ⟨2, ![80, 128]⟩
abbrev S1x1x80x128 : Shape := ⟨4, ![1, 1, 80, 128]⟩
abbrev S1x1x16384x4x2x64 : Shape := ⟨6, ![1, 1, 16384, 4, 2, 64]⟩
abbrev S1x1x512x2x2x64 : Shape := ⟨6, ![1, 1, 512, 2, 2, 64]⟩
abbrev S1x1920 : Shape := ⟨2, ![1, 1920]⟩
abbrev S1920 : Shape := ⟨1, ![1920]⟩
abbrev S1536 : Shape := ⟨1, ![1536]⟩
abbrev S32 : Shape := ⟨1, ![32]⟩
abbrev S96 : Shape := ⟨1, ![96]⟩
abbrev S1696 : Shape := ⟨1, ![1696]⟩
abbrev S1x1x1696 : Shape := ⟨3, ![1, 1, 1696]⟩

abbrev nBuf : Space → Nat
  | .hbm => 91
  | .vmem => 42
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S32x1024, .f32⟩
  | .hbm, ⟨3, _⟩ => ⟨S1x1024x9216, .f32⟩
  | .hbm, ⟨4, _⟩ => ⟨S1x9216, .f32⟩
  | .hbm, ⟨5, _⟩ => ⟨S1x3x1024, .f32⟩
  | .hbm, ⟨6, _⟩ => ⟨S1x3x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1x1024x3000, .f32⟩
  | .hbm, ⟨11, _⟩ => ⟨S_, .f32⟩
  | .hbm, ⟨12, _⟩ => ⟨S7x1024, .f32⟩
  | .hbm, ⟨13, _⟩ => ⟨S40x1024, .f32⟩
  | .hbm, ⟨14, _⟩ => ⟨S1024x9216, .f32⟩
  | .hbm, ⟨15, _⟩ => ⟨S9216, .f32⟩
  | .hbm, ⟨16, _⟩ => ⟨S1x9216, .f32⟩
  | .hbm, ⟨17, _⟩ => ⟨S40x9216, .f32⟩
  | .hbm, ⟨18, _⟩ => ⟨S1x9216, .f32⟩
  | .hbm, ⟨19, _⟩ => ⟨S9x1x1024, .f32⟩
  | .hbm, ⟨20, _⟩ => ⟨S1024x2816, .f32⟩
  | .hbm, ⟨21, _⟩ => ⟨S1024x2816, .bf16⟩
  | .hbm, ⟨22, _⟩ => ⟨S1024x2816, .f32⟩
  | .hbm, ⟨23, _⟩ => ⟨S1024x2816, .bf16⟩
  | .hbm, ⟨24, _⟩ => ⟨S2816x1024, .f32⟩
  | .hbm, ⟨25, _⟩ => ⟨S2816x1024, .bf16⟩
  | .hbm, ⟨26, _⟩ => ⟨S16384x1024, .f32⟩
  | .hbm, ⟨27, _⟩ => ⟨S1024x3000, .f32⟩
  | .hbm, ⟨28, _⟩ => ⟨S1024x1304, .f32⟩
  | .hbm, ⟨29, _⟩ => ⟨S1024x1696, .f32⟩
  | .hbm, ⟨30, _⟩ => ⟨S1024x24, .f32⟩
  | .hbm, ⟨31, _⟩ => ⟨S1024x8x3, .f32⟩
  | .hbm, ⟨32, _⟩ => ⟨S1024x3x8, .f32⟩
  | .hbm, ⟨33, _⟩ => ⟨S1024x24, .f32⟩
  | .hbm, ⟨34, _⟩ => ⟨S1024x1280, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x1536, .f32⟩
  | .hbm, ⟨39, _⟩ => ⟨S1024x32, .f32⟩
  | .hbm, ⟨40, _⟩ => ⟨S_, .i32⟩
  | .hbm, ⟨41, _⟩ => ⟨S_, .f32⟩
  | .hbm, ⟨42, _⟩ => ⟨S1024x128, .f32⟩
  | .hbm, ⟨43, _⟩ => ⟨S1024x32, .f32⟩
  | .hbm, ⟨44, _⟩ => ⟨S_, .i32⟩
  | .hbm, ⟨45, _⟩ => ⟨S_, .f32⟩
  | .hbm, ⟨46, _⟩ => ⟨S1024x128, .f32⟩
  | .hbm, ⟨47, _⟩ => ⟨S1024x96, .f32⟩
  | .hbm, ⟨48, _⟩ => ⟨S_, .i32⟩
  | .hbm, ⟨49, _⟩ => ⟨S_, .f32⟩
  | .hbm, ⟨50, _⟩ => ⟨S1024x128, .f32⟩
  | .hbm, ⟨51, _⟩ => ⟨S1024x1920, .f32⟩
  | .hbm, ⟨52, _⟩ => ⟨S1024x3328, .f32⟩
  | .hbm, ⟨53, _⟩ => ⟨S1024x3328, .bf16⟩
  | .hbm, ⟨54, _⟩ => ⟨S1x1x1024, .f32⟩
  | .hbm, ⟨55, _⟩ => ⟨S1x1024, .f32⟩
  | .hbm, ⟨56, _⟩ => ⟨S1x1x1024, .f32⟩
  | .hbm, ⟨57, _⟩ => ⟨S1x1024, .f32⟩
  | .hbm, ⟨58, _⟩ => ⟨S1x1x1024, .f32⟩
  | .hbm, ⟨59, _⟩ => ⟨S1x1024, .f32⟩
  | .hbm, ⟨60, _⟩ => ⟨S1x1x1024, .f32⟩
  | .hbm, ⟨61, _⟩ => ⟨S1024, .f32⟩
  | .hbm, ⟨62, _⟩ => ⟨S1x1x1024, .f32⟩
  | .hbm, ⟨63, _⟩ => ⟨S1024, .f32⟩
  | .hbm, ⟨64, _⟩ => ⟨S1x1024, .f32⟩
  | .hbm, ⟨65, _⟩ => ⟨S1x1024, .f32⟩
  | .hbm, ⟨66, _⟩ => ⟨S16384x1024, .f32⟩
  | .hbm, ⟨67, _⟩ => ⟨S1x1x1024, .f32⟩
  | .hbm, ⟨68, _⟩ => ⟨S1x1024, .f32⟩
  | .hbm, ⟨69, _⟩ => ⟨S1x1x1024, .f32⟩
  | .hbm, ⟨70, _⟩ => ⟨S1x1024, .f32⟩
  | .hbm, ⟨71, _⟩ => ⟨S16384x512, .f32⟩
  | .hbm, ⟨72, _⟩ => ⟨S16384x512, .f32⟩
  | .hbm, ⟨73, _⟩ => ⟨S16384x256, .f32⟩
  | .hbm, ⟨74, _⟩ => ⟨S16384x128, .f32⟩
  | .hbm, ⟨75, _⟩ => ⟨S16384x1920, .f32⟩
  | .hbm, ⟨76, _⟩ => ⟨S2x16384x128, .bf16⟩
  | .hbm, ⟨77, _⟩ => ⟨S2x32x80x512, .bf16⟩
  | .hbm, ⟨78, _⟩ => ⟨S16384x128, .bf16⟩
  | .hbm, ⟨79, _⟩ => ⟨S2x128x80x128, .bf16⟩
  | .hbm, ⟨80, _⟩ => ⟨S1x1x16384x4x2x64, .f32⟩
  | .hbm, ⟨81, _⟩ => ⟨S512x256, .f32⟩
  | .hbm, ⟨82, _⟩ => ⟨S1x1x512x2x2x64, .f32⟩
  | .hbm, ⟨83, _⟩ => ⟨S1x1920, .f32⟩
  | .hbm, ⟨84, _⟩ => ⟨S1920, .f32⟩
  | .hbm, ⟨85, _⟩ => ⟨S1536, .f32⟩
  | .hbm, ⟨86, _⟩ => ⟨S32, .f32⟩
  | .hbm, ⟨87, _⟩ => ⟨S32, .f32⟩
  | .hbm, ⟨88, _⟩ => ⟨S96, .f32⟩
  | .hbm, ⟨89, _⟩ => ⟨S1696, .f32⟩
  | .hbm, ⟨90, _⟩ => ⟨S1x1x1696, .f32⟩
  | .local _ .vmem, ⟨0, _⟩ => ⟨S40x1024, .f32⟩
  | .local _ .vmem, ⟨1, _⟩ => ⟨S1024x1152, .f32⟩
  | .local _ .vmem, ⟨2, _⟩ => ⟨S1024x1152, .f32⟩
  | .local _ .vmem, ⟨3, _⟩ => ⟨S1x1152, .f32⟩
  | .local _ .vmem, ⟨4, _⟩ => ⟨S1x1152, .f32⟩
  | .local _ .vmem, ⟨5, _⟩ => ⟨S40x1152, .f32⟩
  | .local _ .vmem, ⟨6, _⟩ => ⟨S40x1152, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S1x1024, .f32⟩
  | .local _ .vmem, ⟨23, _⟩ => ⟨S1024x3328, .bf16⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x256, .f32⟩
  | .local _ .vmem, ⟨29, _⟩ => ⟨S512x256, .f32⟩
  | .local _ .vmem, ⟨30, _⟩ => ⟨S512x128, .f32⟩
  | .local _ .vmem, ⟨31, _⟩ => ⟨S512x128, .f32⟩
  | .local _ .vmem, ⟨32, _⟩ => ⟨S512x1920, .f32⟩
  | .local _ .vmem, ⟨33, _⟩ => ⟨S512x1920, .f32⟩
  | .local _ .vmem, ⟨34, _⟩ => ⟨S2x512x128, .bf16⟩
  | .local _ .vmem, ⟨35, _⟩ => ⟨S2x512x128, .bf16⟩
  | .local _ .vmem, ⟨36, _⟩ => ⟨S2x1x80x512, .bf16⟩
  | .local _ .vmem, ⟨37, _⟩ => ⟨S2x1x80x512, .bf16⟩
  | .local _ .vmem, ⟨38, _⟩ => ⟨S512x128, .bf16⟩
  | .local _ .vmem, ⟨39, _⟩ => ⟨S512x128, .bf16⟩
  | .local _ .vmem, ⟨40, _⟩ => ⟨S2x4x80x128, .bf16⟩
  | .local _ .vmem, ⟨41, _⟩ => ⟨S2x4x80x128, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_0 : Ref sig .tc := ⟨.hbm, 40, rfl⟩
abbrev main_call1_v0 : Ref sig .tc := ⟨.hbm, 41, rfl⟩
abbrev main_v26 : Ref sig .tc := ⟨.hbm, 42, rfl⟩
abbrev main_v27 : Ref sig .tc := ⟨.hbm, 43, rfl⟩
abbrev main_c_1 : Ref sig .tc := ⟨.hbm, 44, rfl⟩
abbrev main_call2_v0 : Ref sig .tc := ⟨.hbm, 45, rfl⟩
abbrev main_v28 : Ref sig .tc := ⟨.hbm, 46, rfl⟩
abbrev main_v29 : Ref sig .tc := ⟨.hbm, 47, rfl⟩
abbrev main_c_2 : Ref sig .tc := ⟨.hbm, 48, rfl⟩
abbrev main_call3_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51_0 : Ref sig .tc := ⟨.hbm, 71, rfl⟩
abbrev main_v51_1 : Ref sig .tc := ⟨.hbm, 72, rfl⟩
abbrev main_v51_2 : Ref sig .tc := ⟨.hbm, 73, rfl⟩
abbrev main_v51_3 : Ref sig .tc := ⟨.hbm, 74, rfl⟩
abbrev main_v51_4 : Ref sig .tc := ⟨.hbm, 75, rfl⟩
abbrev main_v51_5 : Ref sig .tc := ⟨.hbm, 76, rfl⟩
abbrev main_v51_6 : Ref sig .tc := ⟨.hbm, 77, rfl⟩
abbrev main_v51_7 : Ref sig .tc := ⟨.hbm, 78, rfl⟩
abbrev main_v51_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc2_stg9_0 : Ref sig .tc := ⟨.vmem, 34, rfl⟩
abbrev cc2_stg9_1 : Ref sig .tc := ⟨.vmem, 35, rfl⟩
abbrev cc2_stg10_0 : Ref sig .tc := ⟨.vmem, 36, rfl⟩
abbrev cc2_stg10_1 : Ref sig .tc := ⟨.vmem, 37, rfl⟩
abbrev cc2_stg11_0 : Ref sig .tc := ⟨.vmem, 38, rfl⟩
abbrev cc2_stg11_1 : Ref sig .tc := ⟨.vmem, 39, rfl⟩
abbrev cc2_stg12_0 : Ref sig .tc := ⟨.vmem, 40, rfl⟩
abbrev cc2_stg12_1 : Ref sig .tc := ⟨.vmem, 41, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33
abbrev cc2_sem9_0 : DmaSem sig := 34
abbrev cc2_sem9_1 : DmaSem sig := 35
abbrev cc2_sem10_0 : DmaSem sig := 36
abbrev cc2_sem10_1 : DmaSem sig := 37
abbrev cc2_sem11_0 : DmaSem sig := 38
abbrev cc2_sem11_1 : DmaSem sig := 39
abbrev cc2_sem12_0 : DmaSem sig := 40
abbrev cc2_sem12_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x2816 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x2816 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2816x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_10 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x3328 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x1920 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2x512x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2x1x80x512 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S512x128 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S2x4x80x128 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]
-- ==== PromptRefIdeal.lean ====
abbrev S1x16384x1024 : Shape := ⟨3, ![1, 16384, 1024]⟩
abbrev S1x1024 : Shape := ⟨2, ![1, 1024]⟩
abbrev S32x1024 : Shape := ⟨2, ![32, 1024]⟩
abbrev S1x1024x9216 : Shape := ⟨3, ![1, 1024, 9216]⟩
abbrev S1x9216 : Shape := ⟨2, ![1, 9216]⟩
abbrev S1x3x1024 : Shape := ⟨3, ![1, 3, 1024]⟩
abbrev S1x1024x2816 : Shape := ⟨3, ![1, 1024, 2816]⟩
abbrev S1x2816x1024 : Shape := ⟨3, ![1, 2816, 1024]⟩
abbrev S1x1024x3000 : Shape := ⟨3, ![1, 1024, 3000]⟩
abbrev S_ : Shape := ⟨0, ![]⟩
abbrev S1024x9216 : Shape := ⟨2, ![1024, 9216]⟩
abbrev S9216 : Shape := ⟨1, ![9216]⟩
abbrev S1x9x1x1024 : Shape := ⟨4, ![1, 9, 1, 1024]⟩
abbrev S1x1x1x1024 : Shape := ⟨4, ![1, 1, 1, 1024]⟩
abbrev S1x1x1024 : Shape := ⟨3, ![1, 1, 1024]⟩
abbrev S1024x2816 : Shape := ⟨2, ![1024, 2816]⟩
abbrev S2816x1024 : Shape := ⟨2, ![2816, 1024]⟩
abbrev S1x16384x2816 : Shape := ⟨3, ![1, 16384, 2816]⟩
abbrev S3x1024 : Shape := ⟨2, ![3, 1024]⟩
abbrev S1024 : Shape := ⟨1, ![1024]⟩
abbrev S1x16384 : Shape := ⟨2, ![1, 16384]⟩
abbrev S1x16384x1 : Shape := ⟨3, ![1, 16384, 1]⟩
abbrev S1024x3000 : Shape := ⟨2, ![1024, 3000]⟩
abbrev S1x16384x3000 : Shape := ⟨3, ![1, 16384, 3000]⟩
abbrev S1x16384x1304 : Shape := ⟨3, ![1, 16384, 1304]⟩
abbrev S1x16384x512 : Shape := ⟨3, ![1, 16384, 512]⟩
abbrev S1x16384x128 : Shape := ⟨3, ![1, 16384, 128]⟩
abbrev S1x16384x24 : Shape := ⟨3, ![1, 16384, 24]⟩
abbrev S1x16384x2x4x3 : Shape := ⟨5, ![1, 16384, 2, 4, 3]⟩
abbrev S1x16384x8x64 : Shape := ⟨4, ![1, 16384, 8, 64]⟩
abbrev S1x16384x2x64 : Shape := ⟨4, ![1, 16384, 2, 64]⟩
abbrev S1x16384x1696 : Shape := ⟨3, ![1, 16384, 1696]⟩
abbrev S1x16384x1x2x64 : Shape := ⟨5, ![1, 16384, 1, 2, 64]⟩
abbrev S1x16384x4x2x64 : Shape := ⟨5, ![1, 16384, 4, 2, 64]⟩
abbrev S1x16384x2x2x64 : Shape := ⟨5, ![1, 16384, 2, 2, 64]⟩
abbrev S1x1x1696 : Shape := ⟨3, ![1, 1, 1696]⟩
abbrev S1x1696 : Shape := ⟨2, ![1, 1696]⟩
abbrev S1x1x16384x4x2x64 : Shape := ⟨6, ![1, 1, 16384, 4, 2, 64]⟩
abbrev S1x512x2x2x64 : Shape := ⟨5, ![1, 512, 2, 2, 64]⟩
abbrev S1x1x512x2x2x64 : Shape := ⟨6, ![1, 1, 512, 2, 2, 64]⟩

abbrev nBuf : Space → Nat
  | .hbm => 155
  | .vmem => 0
  | .smem => 0
  | _ => 0

abbrev hbmTy0_0 (i : Nat) : BufTy := match i % 128 with
  | 0 => ⟨S1x16384x1024, .f32⟩
  | 1 => ⟨S1x1024, .f32⟩
  | 2 => ⟨S32x1024, .f32⟩
  | 3 => ⟨S1x1024x9216, .f32⟩
  | 4 => ⟨S1x9216, .f32⟩
  | 5 => ⟨S1x3x1024, .f32⟩
  | 6 => ⟨S1x3x1024, .f32⟩
  | 7 => ⟨S1x1024x2816, .f32⟩
  | 8 => ⟨S1x1024x2816, .f32⟩
  | 9 => ⟨S1x2816x1024, .f32⟩
  | 10 => ⟨S1x1024x3000, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S1024x9216, .f32⟩
  | 21 => ⟨S1x9216, .f32⟩
  | 22 => ⟨S9216, .f32⟩
  | 23 => ⟨S1x9216, .f32⟩
  | 24 => ⟨S1x9216, .f32⟩
  | 25 => ⟨S1x9x1x1024, .f32⟩
  | 26 => ⟨S1x1x1x1024, .f32⟩
  | 27 => ⟨S1x1x1024, .f32⟩
  | 28 => ⟨S_, .f32⟩
  | 29 => ⟨S1x1x1024, .f32⟩
  | 30 => ⟨S1x1x1024, .f32⟩
  | 31 => ⟨S1x16384x1024, .f32⟩
  | 32 => ⟨S1x16384x1024, .f32⟩
  | 33 => ⟨S1x1x1x1024, .f32⟩
  | 34 => ⟨S1x1x1024, .f32⟩
  | 35 => ⟨S1x16384x1024, .f32⟩
  | 36 => ⟨S1x16384x1024, .f32⟩
  | 37 => ⟨S1024x2816, .f32⟩
  | 38 => ⟨S1024x2816, .f32⟩
  | 39 => ⟨S2816x1024, .f32⟩
  | 40 => ⟨S1x16384x2816, .f32⟩
  | 41 => ⟨S1x16384x2816, .f32⟩
  | 42 => ⟨S1x16384x2816, .f32⟩
  | 43 => ⟨S_, .f32⟩
  | 44 => ⟨S1x16384x2816, .f32⟩
  | 45 => ⟨S1x16384x2816, .f32⟩
  | 46 => ⟨S_, .f32⟩
  | 47 => ⟨S1x16384x2816, .f32⟩
  | 48 => ⟨S1x16384x2816, .f32⟩
  | 49 => ⟨S1x16384x2816, .f32⟩
  | 50 => ⟨S1x16384x2816, .f32⟩
  | 51 => ⟨S1x16384x2816, .f32⟩
  | 52 => ⟨S1x16384x1024, .f32⟩
  | 53 => ⟨S_, .f32⟩
  | 54 => ⟨S1x16384x1024, .f32⟩
  | 55 => ⟨S1x16384x1024, .f32⟩
  | 56 => ⟨S_, .f32⟩
  | 57 => ⟨S1x16384x1024, .f32⟩
  | 58 => ⟨S1x16384x1024, .f32⟩
  | 59 => ⟨S1x1x1x1024, .f32⟩
  | 60 => ⟨S1x1x1024, .f32⟩
  | 61 => ⟨S_, .f32⟩
  | 62 => ⟨S1x1x1024, .f32⟩
  | 63 => ⟨S1x1x1024, .f32⟩
  | 64 => ⟨S1x16384x1024, .f32⟩
  | 65 => ⟨S1x16384x1024, .f32⟩
  | 66 => ⟨S1x16384x1024, .f32⟩
  | 67 => ⟨S3x1024, .f32⟩
  | 68 => ⟨S1x1024, .f32⟩
  | 69 => ⟨S1024, .f32⟩
  | 70 => ⟨S3x1024, .f32⟩
  | 71 => ⟨S1x1024, .f32⟩
  | 72 => ⟨S1024, .f32⟩
  | 73 => ⟨S_, .f32⟩
  | 74 => ⟨S1x16384, .f32⟩
  | 75 => ⟨S1x16384x1, .f32⟩
  | 76 => ⟨S_, .f32⟩
  | 77 => ⟨S1x16384x1, .f32⟩
  | 78 => ⟨S1x16384x1, .f32⟩
  | 79 => ⟨S1x16384x1024, .f32⟩
  | 80 => ⟨S1x16384x1024, .f32⟩
  | 81 => ⟨S1x16384x1024, .f32⟩
  | 82 => ⟨S_, .f32⟩
  | 83 => ⟨S1x16384, .f32⟩
  | 84 => ⟨S1x16384x1, .f32⟩
  | 85 => ⟨S_, .f32⟩
  | 86 => ⟨S1x16384x1, .f32⟩
  | 87 => ⟨S1x16384x1, .f32⟩
  | 88 => ⟨S1x16384x1024, .f32⟩
  | 89 => ⟨S1x16384x1024, .f32⟩
  | 90 => ⟨S_, .f32⟩
  | 91 => ⟨S1x16384x1, .f32⟩
  | 92 => ⟨S1x16384x1, .f32⟩
  | 93 => ⟨S1x16384x1, .f32⟩
  | 94 => ⟨S1x16384x1024, .f32⟩
  | 95 => ⟨S1x16384x1024, .f32⟩
  | 96 => ⟨S1x1x1024, .f32⟩
  | 97 => ⟨S1x16384x1024, .f32⟩
  | 98 => ⟨S1x16384x1024, .f32⟩
  | 99 => ⟨S1x1x1024, .f32⟩
  | 100 => ⟨S1x16384x1024, .f32⟩
  | 101 => ⟨S1x16384x1024, .f32⟩
  | 102 => ⟨S1x1x1x1024, .f32⟩
  | 103 => ⟨S1x1x1024, .f32⟩
  | 104 => ⟨S_, .f32⟩
  | 105 => ⟨S1x1x1024, .f32⟩
  | 106 => ⟨S1x1x1024, .f32⟩
  | 107 => ⟨S1x16384x1024, .f32⟩
  | 108 => ⟨S1x16384x1024, .f32⟩
  | 109 => ⟨S1x1x1x1024, .f32⟩
  | 110 => ⟨S1x1x1024, .f32⟩
  | 111 => ⟨S1x16384x1024, .f32⟩
  | 112 => ⟨S1x16384x1024, .f32⟩
  | 113 => ⟨S1024x3000, .f32⟩
  | 114 => ⟨S1x16384x3000, .f32⟩
  | 115 => ⟨S1x16384x1304, .f32⟩
  | 116 => ⟨S1x16384x512, .f32⟩
  | 117 => ⟨S1x16384x128, .f32⟩
  | 118 => ⟨S1x16384x128, .f32⟩
  | 119 => ⟨S1x16384x128, .f32⟩
  | 120 => ⟨S1x16384x128, .f32⟩
  | 121 => ⟨S1x16384x128, .f32⟩
  | 122 => ⟨S1x16384x128, .f32⟩
  | 123 => ⟨S1x16384x24, .f32⟩
  | 124 => ⟨S1x16384x24, .f32⟩
  | 125 => ⟨S1x16384x24, .f32⟩
  | 126 => ⟨S_, .f32⟩
  | 127 => ⟨S1x16384x24, .f32⟩
  | _ => ⟨S1x16384x1024, .f32⟩

abbrev hbmTy0_1 (i : Nat) : BufTy := match i % 128 with
  | 0 => ⟨S1x16384x24, .f32⟩
  | 1 => ⟨S_, .f32⟩
  | 2 => ⟨S1x16384x24, .f32⟩
  | 3 => ⟨S1x16384x24, .f32⟩
  | 4 => ⟨S1x16384x2x4x3, .f32⟩
  | 5 => ⟨S1x16384x8x64, .f32⟩
  | 6 => ⟨S1x16384x2x64, .f32⟩
  | 7 => ⟨S1x16384x2x64, .f32⟩
  | 8 => ⟨S1x16384x2x64, .f32⟩
  | 9 => ⟨S1x16384x2x64, .f32⟩
  | 10 => ⟨S1x16384x2x64, .f32⟩
  | 11 => ⟨S1x16384x2x64, .f32⟩
  | 12 => ⟨S1x16384x1696, .f32⟩
  | 13 => ⟨S1x16384x1x2x64, .f32⟩
  | 14 => ⟨S1x16384x1x2x64, .f32⟩
  | 15 => ⟨S1x16384x1x2x64, .f32⟩
  | 16 => ⟨S1x16384x1x2x64, .f32⟩
  | 17 => ⟨S1x16384x4x2x64, .f32⟩
  | 18 => ⟨S1x16384x1x2x64, .f32⟩
  | 19 => ⟨S1x16384x1x2x64, .f32⟩
  | 20 => ⟨S1x16384x2x2x64, .f32⟩
  | 21 => ⟨S1x1x1696, .f32⟩
  | 22 => ⟨S1x1696, .f32⟩
  | 23 => ⟨S1x1x16384x4x2x64, .f32⟩
  | 24 => ⟨S1x512x2x2x64, .f32⟩
  | 25 => ⟨S1x1x512x2x2x64, .f32⟩
  | 26 => ⟨S1x1x1696, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_0 : Ref sig .tc := ⟨.hbm, 53, rfl⟩
abbrev main_v25 : Ref sig .tc := ⟨.hbm, 54, rfl⟩
abbrev main_v26 : Ref sig .tc := ⟨.hbm, 55, rfl⟩
abbrev main_cst_1 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_2 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_3 : Ref sig .tc := ⟨.hbm, 73, rfl⟩
abbrev main_v42 : Ref sig .tc := ⟨.hbm, 74, rfl⟩
abbrev main_v43 : Ref sig .tc := ⟨.hbm, 75, rfl⟩
abbrev main_cst_4 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_5 : Ref sig .tc := ⟨.hbm, 82, rfl⟩
abbrev main_v49 : Ref sig .tc := ⟨.hbm, 83, rfl⟩
abbrev main_v50 : Ref sig .tc := ⟨.hbm, 84, rfl⟩
abbrev main_cst_6 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_7 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_8 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_9 : Ref sig .tc := ⟨.hbm, 126, rfl⟩
abbrev main_v89 : Ref sig .tc := ⟨.hbm, 127, rfl⟩
abbrev main_v90 : Ref sig .tc := ⟨.hbm, 128, rfl⟩
abbrev main_cst_10 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩

abbrev nD : Nat := 1
abbrev τ : Topo := Topo.v7x

variable {F : FTy → Type} [FloatOps F]
-- ==== Sample.lean ====
abbrev S32x4x1024 : Shape := ⟨3, ![32, 4, 1024]⟩
abbrev S1x32x512x2x2x64 : Shape := ⟨6, ![1, 32, 512, 2, 2, 64]⟩
abbrev S1x1024 : Shape := ⟨2, ![1, 1024]⟩
abbrev S32x1024 : Shape := ⟨2, ![32, 1024]⟩
abbrev S1x1024x9216 : Shape := ⟨3, ![1, 1024, 9216]⟩
abbrev S1x9216 : Shape := ⟨2, ![1, 9216]⟩
abbrev S1x3x1024 : Shape := ⟨3, ![1, 3, 1024]⟩
abbrev S1x1024x2816 : Shape := ⟨3, ![1, 1024, 2816]⟩
abbrev S1x2816x1024 : Shape := ⟨3, ![1, 2816, 1024]⟩
abbrev S1x1024x3000 : Shape := ⟨3, ![1, 1024, 3000]⟩
abbrev S_ : Shape := ⟨0, ![]⟩
abbrev S7x1024 : Shape := ⟨2, ![7, 1024]⟩
abbrev S40x1024 : Shape := ⟨2, ![40, 1024]⟩
abbrev S1024x9216 : Shape := ⟨2, ![1024, 9216]⟩
abbrev S9216 : Shape := ⟨1, ![9216]⟩
abbrev S40x9216 : Shape := ⟨2, ![40, 9216]⟩
abbrev S1024x1152 : Shape := ⟨2, ![1024, 1152]⟩
abbrev S1x1152 : Shape := ⟨2, ![1, 1152]⟩
abbrev S40x1152 : Shape := ⟨2, ![40, 1152]⟩
abbrev S32x9216 : Shape := ⟨2, ![32, 9216]⟩
abbrev S32x9x1024 : Shape := ⟨3, ![32, 9, 1024]⟩
abbrev S32x4x9x1024 : Shape := ⟨4, ![32, 4, 9, 1024]⟩
abbrev S128x9x1024 : Shape := ⟨3, ![128, 9, 1024]⟩
abbrev S9x128x1024 : Shape := ⟨3, ![9, 128, 1024]⟩
abbrev S1024x2816 : Shape := ⟨2, ![1024, 2816]⟩
abbrev S2816x1024 : Shape := ⟨2, ![2816, 1024]⟩
abbrev S128x1024 : Shape := ⟨2, ![128, 1024]⟩
abbrev S1024x3000 : Shape := ⟨2, ![1024, 3000]⟩
abbrev S1024x1304 : Shape := ⟨2, ![1024, 1304]⟩
abbrev S1024x1696 : Shape := ⟨2, ![1024, 1696]⟩
abbrev S1024x24 : Shape := ⟨2, ![1024, 24]⟩
abbrev S1024x8x3 : Shape := ⟨3, ![1024, 8, 3]⟩
abbrev S1024x3x8 : Shape := ⟨3, ![1024, 3, 8]⟩
abbrev S1024x1280 : Shape := ⟨2, ![1024, 1280]⟩
abbrev S1024x128 : Shape := ⟨2, ![1024, 128]⟩
abbrev S1024x1536 : Shape := ⟨2, ![1024, 1536]⟩
abbrev S1024x32 : Shape := ⟨2, ![1024, 32]⟩
abbrev S1024x96 : Shape := ⟨2, ![1024, 96]⟩
abbrev S1024x1920 : Shape := ⟨2, ![1024, 1920]⟩
abbrev S1024x3328 : Shape := ⟨2, ![1024, 3328]⟩
abbrev S1x128x1024 : Shape := ⟨3, ![1, 128, 1024]⟩
abbrev S1x1x1024 : Shape := ⟨3, ![1, 1, 1024]⟩
abbrev S1024 : Shape := ⟨1, ![1024]⟩
abbrev S1024x1408 : Shape := ⟨2, ![1024, 1408]⟩
abbrev S128x1408 : Shape := ⟨2, ![128, 1408]⟩
abbrev S1408x1024 : Shape := ⟨2, ![1408, 1024]⟩
abbrev S128 : Shape := ⟨1, ![128]⟩
abbrev S128x1 : Shape := ⟨2, ![128, 1]⟩
abbrev S128x512 : Shape := ⟨2, ![128, 512]⟩
abbrev S128x256 : Shape := ⟨2, ![128, 256]⟩
abbrev S128x128 : Shape := ⟨2, ![128, 128]⟩
abbrev S128x1920 : Shape := ⟨2, ![128, 1920]⟩
abbrev S128x3328 : Shape := ⟨2, ![128, 3328]⟩
abbrev S1x32x4x4x2x64 : Shape := ⟨6, ![1, 32, 4, 4, 2, 64]⟩
abbrev S32x512x2x2x64 : Shape := ⟨5, ![32, 512, 2, 2, 64]⟩
abbrev S32x4x2x2x64 : Shape := ⟨5, ![32, 4, 2, 2, 64]⟩
abbrev S32x516x2x2x64 : Shape := ⟨5, ![32, 516, 2, 2, 64]⟩
abbrev S32x4x1920 : Shape := ⟨3, ![32, 4, 1920]⟩
abbrev S32x1x1920 : Shape := ⟨3, ![32, 1, 1920]⟩
abbrev S32x1920 : Shape := ⟨2, ![32, 1920]⟩
abbrev S32x1536 : Shape := ⟨2, ![32, 1536]⟩
abbrev S32x32 : Shape := ⟨2, ![32, 32]⟩
abbrev S32x96 : Shape := ⟨2, ![32, 96]⟩
abbrev S32x1696 : Shape := ⟨2, ![32, 1696]⟩
abbrev S1x32x1696 : Shape := ⟨3, ![1, 32, 1696]⟩

abbrev nBuf : Space → Nat
  | .hbm => 95
  | .vmem => 26
  | .smem => 0
  | _ => 0

abbrev bufTy : (tb : Table) → Fin (tcTables nBuf tb) → BufTy
  | .hbm, ⟨0, _⟩ => ⟨S32x4x1024, .f32⟩
  | .hbm, ⟨1, _⟩ => ⟨S1x32x512x2x2x64, .f32⟩
  | .hbm, ⟨2, _⟩ => ⟨S1x1024, .f32⟩
  | .hbm, ⟨3, _⟩ => ⟨S32x1024, .f32⟩
  | .hbm, ⟨4, _⟩ => ⟨S1x1024x9216, .f32⟩
  | .hbm, ⟨5, _⟩ => ⟨S1x9216, .f32⟩
  | .hbm, ⟨6, _⟩ => ⟨S1x3x1024, .f32⟩
  | .hbm, ⟨7, _⟩ => ⟨S1x3x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1x1024x3000, .f32⟩
  | .hbm, ⟨12, _⟩ => ⟨S_, .f32⟩
  | .hbm, ⟨13, _⟩ => ⟨S7x1024, .f32⟩
  | .hbm, ⟨14, _⟩ => ⟨S40x1024, .f32⟩
  | .hbm, ⟨15, _⟩ => ⟨S1024x9216, .f32⟩
  | .hbm, ⟨16, _⟩ => ⟨S9216, .f32⟩
  | .hbm, ⟨17, _⟩ => ⟨S1x9216, .f32⟩
  | .hbm, ⟨18, _⟩ => ⟨S40x9216, .f32⟩
  | .hbm, ⟨19, _⟩ => ⟨S32x9216, .f32⟩
  | .hbm, ⟨20, _⟩ => ⟨S32x9x1024, .f32⟩
  | .hbm, ⟨21, _⟩ => ⟨S32x4x9x1024, .f32⟩
  | .hbm, ⟨22, _⟩ => ⟨S128x9x1024, .f32⟩
  | .hbm, ⟨23, _⟩ => ⟨S9x128x1024, .f32⟩
  | .hbm, ⟨24, _⟩ => ⟨S1024x2816, .f32⟩
  | .hbm, ⟨25, _⟩ => ⟨S1024x2816, .bf16⟩
  | .hbm, ⟨26, _⟩ => ⟨S1024x2816, .f32⟩
  | .hbm, ⟨27, _⟩ => ⟨S1024x2816, .bf16⟩
  | .hbm, ⟨28, _⟩ => ⟨S2816x1024, .f32⟩
  | .hbm, ⟨29, _⟩ => ⟨S2816x1024, .bf16⟩
  | .hbm, ⟨30, _⟩ => ⟨S128x1024, .f32⟩
  | .hbm, ⟨31, _⟩ => ⟨S1024x3000, .f32⟩
  | .hbm, ⟨32, _⟩ => ⟨S1024x1304, .f32⟩
  | .hbm, ⟨33, _⟩ => ⟨S1024x1696, .f32⟩
  | .hbm, ⟨34, _⟩ => ⟨S1024x24, .f32⟩
  | .hbm, ⟨35, _⟩ => ⟨S1024x8x3, .f32⟩
  | .hbm, ⟨36, _⟩ => ⟨S1024x3x8, .f32⟩
  | .hbm, ⟨37, _⟩ => ⟨S1024x24, .f32⟩
  | .hbm, ⟨38, _⟩ => ⟨S1024x1280, .f32⟩
  | .hbm, ⟨39, _⟩ => ⟨S_, .i32⟩
  | .hbm, ⟨40, _⟩ => ⟨S_, .f32⟩
  | .hbm, ⟨41, _⟩ => ⟨S1024x128, .f32⟩
  | .hbm, ⟨42, _⟩ => ⟨S1024x1536, .f32⟩
  | .hbm, ⟨43, _⟩ => ⟨S1024x32, .f32⟩
  | .hbm, ⟨44, _⟩ => ⟨S_, .i32⟩
  | .hbm, ⟨45, _⟩ => ⟨S_, .f32⟩
  | .hbm, ⟨46, _⟩ => ⟨S1024x128, .f32⟩
  | .hbm, ⟨47, _⟩ => ⟨S1024x32, .f32⟩
  | .hbm, ⟨48, _⟩ => ⟨S_, .i32⟩
  | .hbm, ⟨49, _⟩ => ⟨S_, .f32⟩
  | .hbm, ⟨50, _⟩ => ⟨S1024x128, .f32⟩
  | .hbm, ⟨51, _⟩ => ⟨S1024x96, .f32⟩
  | .hbm, ⟨52, _⟩ => ⟨S_, .i32⟩
  | .hbm, ⟨53, _⟩ => ⟨S_, .f32⟩
  | .hbm, ⟨54, _⟩ => ⟨S1024x128, .f32⟩
  | .hbm, ⟨55, _⟩ => ⟨S1024x1920, .f32⟩
  | .hbm, ⟨56, _⟩ => ⟨S1024x3328, .f32⟩
  | .hbm, ⟨57, _⟩ => ⟨S1024x3328, .bf16⟩
  | .hbm, ⟨58, _⟩ => ⟨S1x128x1024, .f32⟩
  | .hbm, ⟨59, _⟩ => ⟨S128x1024, .f32⟩
  | .hbm, ⟨60, _⟩ => ⟨S1x128x1024, .f32⟩
  | .hbm, ⟨61, _⟩ => ⟨S128x1024, .f32⟩
  | .hbm, ⟨62, _⟩ => ⟨S1x128x1024, .f32⟩
  | .hbm, ⟨63, _⟩ => ⟨S128x1024, .f32⟩
  | .hbm, ⟨64, _⟩ => ⟨S1x1x1024, .f32⟩
  | .hbm, ⟨65, _⟩ => ⟨S1024, .f32⟩
  | .hbm, ⟨66, _⟩ => ⟨S1x1x1024, .f32⟩
  | .hbm, ⟨67, _⟩ => ⟨S1024, .f32⟩
  | .hbm, ⟨68, _⟩ => ⟨S1x1024, .f32⟩
  | .hbm, ⟨69, _⟩ => ⟨S1x1024, .f32⟩
  | .hbm, ⟨70, _⟩ => ⟨S128x1024, .f32⟩
  | .hbm, ⟨71, _⟩ => ⟨S1x128x1024, .f32⟩
  | .hbm, ⟨72, _⟩ => ⟨S128x1024, .f32⟩
  | .hbm, ⟨73, _⟩ => ⟨S1x128x1024, .f32⟩
  | .hbm, ⟨74, _⟩ => ⟨S128x1024, .f32⟩
  | .hbm, ⟨75, _⟩ => ⟨S128x512, .f32⟩
  | .hbm, ⟨76, _⟩ => ⟨S128x512, .f32⟩
  | .hbm, ⟨77, _⟩ => ⟨S128x256, .f32⟩
  | .hbm, ⟨78, _⟩ => ⟨S128x128, .f32⟩
  | .hbm, ⟨79, _⟩ => ⟨S128x1920, .f32⟩
  | .hbm, ⟨80, _⟩ => ⟨S1x32x4x4x2x64, .f32⟩
  | .hbm, ⟨81, _⟩ => ⟨S32x512x2x2x64, .f32⟩
  | .hbm, ⟨82, _⟩ => ⟨S32x4x2x2x64, .f32⟩
  | .hbm, ⟨83, _⟩ => ⟨S32x516x2x2x64, .f32⟩
  | .hbm, ⟨84, _⟩ => ⟨S32x512x2x2x64, .f32⟩
  | .hbm, ⟨85, _⟩ => ⟨S1x32x512x2x2x64, .f32⟩
  | .hbm, ⟨86, _⟩ => ⟨S32x4x1920, .f32⟩
  | .hbm, ⟨87, _⟩ => ⟨S32x1x1920, .f32⟩
  | .hbm, ⟨88, _⟩ => ⟨S32x1920, .f32⟩
  | .hbm, ⟨89, _⟩ => ⟨S32x1536, .f32⟩
  | .hbm, ⟨90, _⟩ => ⟨S32x32, .f32⟩
  | .hbm, ⟨91, _⟩ => ⟨S32x32, .f32⟩
  | .hbm, ⟨92, _⟩ => ⟨S32x96, .f32⟩
  | .hbm, ⟨93, _⟩ => ⟨S32x1696, .f32⟩
  | .hbm, ⟨94, _⟩ => ⟨S1x32x1696, .f32⟩
  | .local _ .vmem, ⟨0, _⟩ => ⟨S40x1024, .f32⟩
  | .local _ .vmem, ⟨1, _⟩ => ⟨S1024x1152, .f32⟩
  | .local _ .vmem, ⟨2, _⟩ => ⟨S1024x1152, .f32⟩
  | .local _ .vmem, ⟨3, _⟩ => ⟨S1x1152, .f32⟩
  | .local _ .vmem, ⟨4, _⟩ => ⟨S1x1152, .f32⟩
  | .local _ .vmem, ⟨5, _⟩ => ⟨S40x1152, .f32⟩
  | .local _ .vmem, ⟨6, _⟩ => ⟨S40x1152, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S1x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S1024x3328, .bf16⟩
  | .local _ .vmem, ⟨21, _⟩ => ⟨S128x512, .f32⟩
  | .local _ .vmem, ⟨22, _⟩ => ⟨S128x512, .f32⟩
  | .local _ .vmem, ⟨23, _⟩ => ⟨S128x256, .f32⟩
  | .local _ .vmem, ⟨24, _⟩ => ⟨S128x128, .f32⟩
  | .local _ .vmem, ⟨25, _⟩ => ⟨S128x1920, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_call0_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_0 : Ref sig .tc := ⟨.hbm, 44, rfl⟩
abbrev main_call1_v0 : Ref sig .tc := ⟨.hbm, 45, rfl⟩
abbrev main_v29 : Ref sig .tc := ⟨.hbm, 46, rfl⟩
abbrev main_v30 : Ref sig .tc := ⟨.hbm, 47, rfl⟩
abbrev main_c_1 : Ref sig .tc := ⟨.hbm, 48, rfl⟩
abbrev main_call2_v0 : Ref sig .tc := ⟨.hbm, 49, rfl⟩
abbrev main_v31 : Ref sig .tc := ⟨.hbm, 50, rfl⟩
abbrev main_v32 : Ref sig .tc := ⟨.hbm, 51, rfl⟩
abbrev main_c_2 : Ref sig .tc := ⟨.hbm, 52, rfl⟩
abbrev main_call3_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54_0 : Ref sig .tc := ⟨.hbm, 75, rfl⟩
abbrev main_v54_1 : Ref sig .tc := ⟨.hbm, 76, rfl⟩
abbrev main_v54_2 : Ref sig .tc := ⟨.hbm, 77, rfl⟩
abbrev main_v54_3 : Ref sig .tc := ⟨.hbm, 78, rfl⟩
abbrev main_v54_4 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x2816 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x2816 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2816x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S128x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S128x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1024x3328 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S128x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev stage2_8 : Fin 1 → Memref sig .tc .vmem S128x1920 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![true]
-- ==== SampleRefIdeal.lean ====
abbrev S32x4x1024 : Shape := ⟨3, ![32, 4, 1024]⟩
abbrev S1x32x512x2x2x64 : Shape := ⟨6, ![1, 32, 512, 2, 2, 64]⟩
abbrev S1x1024 : Shape := ⟨2, ![1, 1024]⟩
abbrev S32x1024 : Shape := ⟨2, ![32, 1024]⟩
abbrev S1x1024x9216 : Shape := ⟨3, ![1, 1024, 9216]⟩
abbrev S1x9216 : Shape := ⟨2, ![1, 9216]⟩
abbrev S1x3x1024 : Shape := ⟨3, ![1, 3, 1024]⟩
abbrev S1x1024x2816 : Shape := ⟨3, ![1, 1024, 2816]⟩
abbrev S1x2816x1024 : Shape := ⟨3, ![1, 2816, 1024]⟩
abbrev S1x1024x3000 : Shape := ⟨3, ![1, 1024, 3000]⟩
abbrev S_ : Shape := ⟨0, ![]⟩
abbrev S1024x9216 : Shape := ⟨2, ![1024, 9216]⟩
abbrev S32x9216 : Shape := ⟨2, ![32, 9216]⟩
abbrev S9216 : Shape := ⟨1, ![9216]⟩
abbrev S32x9x1x1024 : Shape := ⟨4, ![32, 9, 1, 1024]⟩
abbrev S32x1x1x1024 : Shape := ⟨4, ![32, 1, 1, 1024]⟩
abbrev S32x1x1024 : Shape := ⟨3, ![32, 1, 1024]⟩
abbrev S1024x2816 : Shape := ⟨2, ![1024, 2816]⟩
abbrev S2816x1024 : Shape := ⟨2, ![2816, 1024]⟩
abbrev S32x4x2816 : Shape := ⟨3, ![32, 4, 2816]⟩
abbrev S3x1024 : Shape := ⟨2, ![3, 1024]⟩
abbrev S1024 : Shape := ⟨1, ![1024]⟩
abbrev S32x4 : Shape := ⟨2, ![32, 4]⟩
abbrev S32x4x1 : Shape := ⟨3, ![32, 4, 1]⟩
abbrev S1x1x1024 : Shape := ⟨3, ![1, 1, 1024]⟩
abbrev S1024x3000 : Shape := ⟨2, ![1024, 3000]⟩
abbrev S32x4x3000 : Shape := ⟨3, ![32, 4, 3000]⟩
abbrev S32x4x1304 : Shape := ⟨3, ![32, 4, 1304]⟩
abbrev S32x4x512 : Shape := ⟨3, ![32, 4, 512]⟩
abbrev S32x4x128 : Shape := ⟨3, ![32, 4, 128]⟩
abbrev S32x4x24 : Shape := ⟨3, ![32, 4, 24]⟩
abbrev S32x4x2x4x3 : Shape := ⟨5, ![32, 4, 2, 4, 3]⟩
abbrev S32x4x8x64 : Shape := ⟨4, ![32, 4, 8, 64]⟩
abbrev S32x4x2x64 : Shape := ⟨4, ![32, 4, 2, 64]⟩
abbrev S32x4x1696 : Shape := ⟨3, ![32, 4, 1696]⟩
abbrev S32x4x1x2x64 : Shape := ⟨5, ![32, 4, 1, 2, 64]⟩
abbrev S32x4x4x2x64 : Shape := ⟨5, ![32, 4, 4, 2, 64]⟩
abbrev S32x4x2x2x64 : Shape := ⟨5, ![32, 4, 2, 2, 64]⟩
abbrev S32x1x1696 : Shape := ⟨3, ![32, 1, 1696]⟩
abbrev S32x1696 : Shape := ⟨2, ![32, 1696]⟩
abbrev S32x512x2x2x64 : Shape := ⟨5, ![32, 512, 2, 2, 64]⟩
abbrev S32x516x2x2x64 : Shape := ⟨5, ![32, 516, 2, 2, 64]⟩
abbrev S1x32x4x4x2x64 : Shape := ⟨6, ![1, 32, 4, 4, 2, 64]⟩
abbrev S1x32x1696 : Shape := ⟨3, ![1, 32, 1696]⟩

abbrev nBuf : Space → Nat
  | .hbm => 159
  | .vmem => 0
  | .smem => 0
  | _ => 0

abbrev hbmTy0_0 (i : Nat) : BufTy := match i % 128 with
  | 0 => ⟨S32x4x1024, .f32⟩
  | 1 => ⟨S1x32x512x2x2x64, .f32⟩
  | 2 => ⟨S1x1024, .f32⟩
  | 3 => ⟨S32x1024, .f32⟩
  | 4 => ⟨S1x1024x9216, .f32⟩
  | 5 => ⟨S1x9216, .f32⟩
  | 6 => ⟨S1x3x1024, .f32⟩
  | 7 => ⟨S1x3x1024, .f32⟩
  | 8 => ⟨S1x1024x2816, .f32⟩
  | 9 => ⟨S1x1024x2816, .f32⟩
  | 10 => ⟨S1x2816x1024, .f32⟩
  | 11 => ⟨S1x1024x3000, .f32⟩
  | 12 => ⟨S32x1024, .f32⟩
  | 13 => ⟨S32x1024, .f32⟩
  | 14 => ⟨S_, .f32⟩
  | 15 => ⟨S32x1024, .f32⟩
  | 16 => ⟨S32x1024, .f32⟩
  | 17 => ⟨S_, .f32⟩
  | 18 => ⟨S32x1024, .f32⟩
  | 19 => ⟨S32x1024, .f32⟩
  | 20 => ⟨S32x1024, .f32⟩
  | 21 => ⟨S1024x9216, .f32⟩
  | 22 => ⟨S32x9216, .f32⟩
  | 23 => ⟨S9216, .f32⟩
  | 24 => ⟨S1x9216, .f32⟩
  | 25 => ⟨S32x9216, .f32⟩
  | 26 => ⟨S32x9216, .f32⟩
  | 27 => ⟨S32x9x1x1024, .f32⟩
  | 28 => ⟨S32x1x1x1024, .f32⟩
  | 29 => ⟨S32x1x1024, .f32⟩
  | 30 => ⟨S_, .f32⟩
  | 31 => ⟨S32x1x1024, .f32⟩
  | 32 => ⟨S32x1x1024, .f32⟩
  | 33 => ⟨S32x4x1024, .f32⟩
  | 34 => ⟨S32x4x1024, .f32⟩
  | 35 => ⟨S32x1x1x1024, .f32⟩
  | 36 => ⟨S32x1x1024, .f32⟩
  | 37 => ⟨S32x4x1024, .f32⟩
  | 38 => ⟨S32x4x1024, .f32⟩
  | 39 => ⟨S1024x2816, .f32⟩
  | 40 => ⟨S1024x2816, .f32⟩
  | 41 => ⟨S2816x1024, .f32⟩
  | 42 => ⟨S32x4x2816, .f32⟩
  | 43 => ⟨S32x4x2816, .f32⟩
  | 44 => ⟨S32x4x2816, .f32⟩
  | 45 => ⟨S_, .f32⟩
  | 46 => ⟨S32x4x2816, .f32⟩
  | 47 => ⟨S32x4x2816, .f32⟩
  | 48 => ⟨S_, .f32⟩
  | 49 => ⟨S32x4x2816, .f32⟩
  | 50 => ⟨S32x4x2816, .f32⟩
  | 51 => ⟨S32x4x2816, .f32⟩
  | 52 => ⟨S32x4x2816, .f32⟩
  | 53 => ⟨S32x4x2816, .f32⟩
  | 54 => ⟨S32x4x1024, .f32⟩
  | 55 => ⟨S_, .f32⟩
  | 56 => ⟨S32x4x1024, .f32⟩
  | 57 => ⟨S32x4x1024, .f32⟩
  | 58 => ⟨S_, .f32⟩
  | 59 => ⟨S32x4x1024, .f32⟩
  | 60 => ⟨S32x4x1024, .f32⟩
  | 61 => ⟨S32x1x1x1024, .f32⟩
  | 62 => ⟨S32x1x1024, .f32⟩
  | 63 => ⟨S_, .f32⟩
  | 64 => ⟨S32x1x1024, .f32⟩
  | 65 => ⟨S32x1x1024, .f32⟩
  | 66 => ⟨S32x4x1024, .f32⟩
  | 67 => ⟨S32x4x1024, .f32⟩
  | 68 => ⟨S32x4x1024, .f32⟩
  | 69 => ⟨S3x1024, .f32⟩
  | 70 => ⟨S1x1024, .f32⟩
  | 71 => ⟨S1024, .f32⟩
  | 72 => ⟨S3x1024, .f32⟩
  | 73 => ⟨S1x1024, .f32⟩
  | 74 => ⟨S1024, .f32⟩
  | 75 => ⟨S_, .f32⟩
  | 76 => ⟨S32x4, .f32⟩
  | 77 => ⟨S32x4x1, .f32⟩
  | 78 => ⟨S_, .f32⟩
  | 79 => ⟨S32x4x1, .f32⟩
  | 80 => ⟨S32x4x1, .f32⟩
  | 81 => ⟨S32x4x1024, .f32⟩
  | 82 => ⟨S32x4x1024, .f32⟩
  | 83 => ⟨S32x4x1024, .f32⟩
  | 84 => ⟨S_, .f32⟩
  | 85 => ⟨S32x4, .f32⟩
  | 86 => ⟨S32x4x1, .f32⟩
  | 87 => ⟨S_, .f32⟩
  | 88 => ⟨S32x4x1, .f32⟩
  | 89 => ⟨S32x4x1, .f32⟩
  | 90 => ⟨S32x4x1024, .f32⟩
  | 91 => ⟨S32x4x1024, .f32⟩
  | 92 => ⟨S_, .f32⟩
  | 93 => ⟨S32x4x1, .f32⟩
  | 94 => ⟨S32x4x1, .f32⟩
  | 95 => ⟨S32x4x1, .f32⟩
  | 96 => ⟨S32x4x1024, .f32⟩
  | 97 => ⟨S32x4x1024, .f32⟩
  | 98 => ⟨S1x1x1024, .f32⟩
  | 99 => ⟨S32x4x1024, .f32⟩
  | 100 => ⟨S32x4x1024, .f32⟩
  | 101 => ⟨S1x1x1024, .f32⟩
  | 102 => ⟨S32x4x1024, .f32⟩
  | 103 => ⟨S32x4x1024, .f32⟩
  | 104 => ⟨S32x1x1x1024, .f32⟩
  | 105 => ⟨S32x1x1024, .f32⟩
  | 106 => ⟨S_, .f32⟩
  | 107 => ⟨S32x1x1024, .f32⟩
  | 108 => ⟨S32x1x1024, .f32⟩
  | 109 => ⟨S32x4x1024, .f32⟩
  | 110 => ⟨S32x4x1024, .f32⟩
  | 111 => ⟨S32x1x1x1024, .f32⟩
  | 112 => ⟨S32x1x1024, .f32⟩
  | 113 => ⟨S32x4x1024, .f32⟩
  | 114 => ⟨S32x4x1024, .f32⟩
  | 115 => ⟨S1024x3000, .f32⟩
  | 116 => ⟨S32x4x3000, .f32⟩
  | 117 => ⟨S32x4x1304, .f32⟩
  | 118 => ⟨S32x4x512, .f32⟩
  | 119 => ⟨S32x4x128, .f32⟩
  | 120 => ⟨S32x4x128, .f32⟩
  | 121 => ⟨S32x4x128, .f32⟩
  | 122 => ⟨S32x4x128, .f32⟩
  | 123 => ⟨S32x4x128, .f32⟩
  | 124 => ⟨S32x4x128, .f32⟩
  | 125 => ⟨S32x4x24, .f32⟩
  | 126 => ⟨S32x4x24, .f32⟩
  | 127 => ⟨S32x4x24, .f32⟩
  | _ => ⟨S32x4x1024, .f32⟩

abbrev hbmTy0_1 (i : Nat) : BufTy := match i % 128 with
  | 0 => ⟨S_, .f32⟩
  | 1 => ⟨S32x4x24, .f32⟩
  | 2 => ⟨S32x4x24, .f32⟩
  | 3 => ⟨S_, .f32⟩
  | 4 => ⟨S32x4x24, .f32⟩
  | 5 => ⟨S32x4x24, .f32⟩
  | 6 => ⟨S32x4x2x4x3, .f32⟩
  | 7 => ⟨S32x4x8x64, .f32⟩
  | 8 => ⟨S32x4x2x64, .f32⟩
  | 9 => ⟨S32x4x2x64, .f32⟩
  | 10 => ⟨S32x4x2x64, .f32⟩
  | 11 => ⟨S32x4x2x64, .f32⟩
  | 12 => ⟨S32x4x2x64, .f32⟩
  | 13 => ⟨S32x4x2x64, .f32⟩
  | 14 => ⟨S32x4x1696, .f32⟩
  | 15 => ⟨S32x4x1x2x64, .f32⟩
  | 16 => ⟨S32x4x1x2x64, .f32⟩
  | 17 => ⟨S32x4x1x2x64, .f32⟩
  | 18 => ⟨S32x4x1x2x64, .f32⟩
  | 19 => ⟨S32x4x4x2x64, .f32⟩
  | 20 => ⟨S32x4x1x2x64, .f32⟩
  | 21 => ⟨S32x4x1x2x64, .f32⟩
  | 22 => ⟨S32x4x2x2x64, .f32⟩
  | 23 => ⟨S32x1x1696, .f32⟩
  | 24 => ⟨S32x1696, .f32⟩
  | 25 => ⟨S32x512x2x2x64, .f32⟩
  | 26 => ⟨S32x516x2x2x64, .f32⟩
  | 27 => ⟨S1x32x4x4x2x64, .f32⟩
  | 28 => ⟨S32x512x2x2x64, .f32⟩
  | 29 => ⟨S1x32x512x2x2x64, .f32⟩
  | 30 => ⟨S1x32x1696, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_0 : Ref sig .tc := ⟨.hbm, 55, rfl⟩
abbrev main_v26 : Ref sig .tc := ⟨.hbm, 56, rfl⟩
abbrev main_v27 : Ref sig .tc := ⟨.hbm, 57, rfl⟩
abbrev main_cst_1 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_2 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_3 : Ref sig .tc := ⟨.hbm, 75, rfl⟩
abbrev main_v43 : Ref sig .tc := ⟨.hbm, 76, rfl⟩
abbrev main_v44 : Ref sig .tc := ⟨.hbm, 77, rfl⟩
abbrev main_cst_4 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_5 : Ref sig .tc := ⟨.hbm, 84, rfl⟩
abbrev main_v50 : Ref sig .tc := ⟨.hbm, 85, rfl⟩
abbrev main_v51 : Ref sig .tc := ⟨.hbm, 86, rfl⟩
abbrev main_cst_6 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_7 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_8 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_9 : Ref sig .tc := ⟨.hbm, 128, rfl⟩
abbrev main_v90 : Ref sig .tc := ⟨.hbm, 129, rfl⟩
abbrev main_v91 : Ref sig .tc := ⟨.hbm, 130, rfl⟩
abbrev main_cst_10 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩

abbrev nD : Nat := 1
abbrev τ : Topo := Topo.v7x

variable {F : FTy → Type} [FloatOps F]
-- ==== Out.lean ====
abbrev S16384x1024 : Shape := ⟨2, ![16384, 1024]⟩
abbrev S16384x512 : Shape := ⟨2, ![16384, 512]⟩
abbrev S1x1024 : Shape := ⟨2, ![1, 1024]⟩
abbrev S1024 : Shape := ⟨1, ![1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 28
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1024, .f32⟩
  | .hbm, ⟨12, _⟩ => ⟨S1x1024x2816, .f32⟩
  | .hbm, ⟨13, _⟩ => ⟨S1x1024x2816, .f32⟩
  | .hbm, ⟨14, _⟩ => ⟨S1x2816x1024, .f32⟩
  | .hbm, ⟨15, _⟩ => ⟨S1024x2816, .f32⟩
  | .hbm, ⟨16, _⟩ => ⟨S1024x2816, .bf16⟩
  | .hbm, ⟨17, _⟩ => ⟨S1024x2816, .f32⟩
  | .hbm, ⟨18, _⟩ => ⟨S1024x2816, .bf16⟩
  | .hbm, ⟨19, _⟩ => ⟨S2816x1024, .f32⟩
  | .hbm, ⟨20, _⟩ => ⟨S2816x1024, .bf16⟩
  | .hbm, ⟨21, _⟩ => ⟨S1024x1024, .f32⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== OutIdeal.lean ====
abbrev S16384x1024 : Shape := ⟨2, ![16384, 1024]⟩
abbrev S16384x512 : Shape := ⟨2, ![16384, 512]⟩
abbrev S1x1024 : Shape := ⟨2, ![1, 1024]⟩
abbrev S1024 : Shape := ⟨1, ![1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 28
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1024, .f32⟩
  | .hbm, ⟨12, _⟩ => ⟨S1x1024x2816, .f32⟩
  | .hbm, ⟨13, _⟩ => ⟨S1x1024x2816, .f32⟩
  | .hbm, ⟨14, _⟩ => ⟨S1x2816x1024, .f32⟩
  | .hbm, ⟨15, _⟩ => ⟨S1024x2816, .f32⟩
  | .hbm, ⟨16, _⟩ => ⟨S1024x2816, .bf16⟩
  | .hbm, ⟨17, _⟩ => ⟨S1024x2816, .f32⟩
  | .hbm, ⟨18, _⟩ => ⟨S1024x2816, .bf16⟩
  | .hbm, ⟨19, _⟩ => ⟨S2816x1024, .f32⟩
  | .hbm, ⟨20, _⟩ => ⟨S2816x1024, .bf16⟩
  | .hbm, ⟨21, _⟩ => ⟨S1024x1024, .f32⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== OutRefIdeal.lean ====
abbrev S16384x1024 : Shape := ⟨2, ![16384, 1024]⟩
abbrev S16384x512 : Shape := ⟨2, ![16384, 512]⟩
abbrev S1x1024 : Shape := ⟨2, ![1, 1024]⟩
abbrev S1024 : Shape := ⟨1, ![1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S_ : Shape := ⟨0, ![]⟩
abbrev S1024x1024 : Shape := ⟨2, ![1024, 1024]⟩
abbrev S16384 : Shape := ⟨1, ![16384]⟩
abbrev S16384x1 : Shape := ⟨2, ![16384, 1]⟩
abbrev S1024x2816 : Shape := ⟨2, ![1024, 2816]⟩
abbrev S2816x1024 : Shape := ⟨2, ![2816, 1024]⟩
abbrev S16384x2816 : Shape := ⟨2, ![16384, 2816]⟩

abbrev nBuf : Space → Nat
  | .hbm => 120
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1024, .f32⟩
  | .hbm, ⟨12, _⟩ => ⟨S1x1024x2816, .f32⟩
  | .hbm, ⟨13, _⟩ => ⟨S1x1024x2816, .f32⟩
  | .hbm, ⟨14, _⟩ => ⟨S1x2816x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S16384x1024, .f32⟩
  | .hbm, ⟨22, _⟩ => ⟨S1024x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S1024x2816, .f32⟩
  | .hbm, ⟨64, _⟩ => ⟨S1024x2816, .f32⟩
  | .hbm, ⟨65, _⟩ => ⟨S2816x1024, .f32⟩
  | .hbm, ⟨66, _⟩ => ⟨S16384x2816, .f32⟩
  | .hbm, ⟨67, _⟩ => ⟨S16384x2816, .f32⟩
  | .hbm, ⟨68, _⟩ => ⟨S16384x2816, .f32⟩
  | .hbm, ⟨69, _⟩ => ⟨S_, .f32⟩
  | .hbm, ⟨70, _⟩ => ⟨S16384x2816, .f32⟩
  | .hbm, ⟨71, _⟩ => ⟨S16384x2816, .f32⟩
  | .hbm, ⟨72, _⟩ => ⟨S_, .f32⟩
  | .hbm, ⟨73, _⟩ => ⟨S16384x2816, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S16384x1024, .f32⟩
  | .hbm, ⟨79, _⟩ => ⟨S_, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S_, .f32⟩
  | .hbm, ⟨95, _⟩ => ⟨S16384x1, .f32⟩
  | .hbm, ⟨96, _⟩ => ⟨S16384x1, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384, .f32⟩
  | .hbm, ⟨102, _⟩ => ⟨S16384x1, .f32⟩
  | .hbm, ⟨103, _⟩ => ⟨S_, .f32⟩
  | .hbm, ⟨104, _⟩ => ⟨S16384x1, .f32⟩
  | .hbm, ⟨105, _⟩ => ⟨S16384x1, .f32⟩
  | .hbm, ⟨106, _⟩ => ⟨S16384x1024, .f32⟩
  | .hbm, ⟨107, _⟩ => ⟨S16384x1024, .f32⟩
  | .hbm, ⟨108, _⟩ => ⟨S_, .f32⟩
  | .hbm, ⟨109, _⟩ => ⟨S16384x1, .f32⟩
  | .hbm, ⟨110, _⟩ => ⟨S16384x1, .f32⟩
  | .hbm, ⟨111, _⟩ => ⟨S16384x1, .f32⟩
  | .hbm, ⟨112, _⟩ => ⟨S16384x1024, .f32⟩
  | .hbm, ⟨113, _⟩ => ⟨S16384x1024, .f32⟩
  | .hbm, ⟨114, _⟩ => ⟨S1x1024, .f32⟩
  | .hbm, ⟨115, _⟩ => ⟨S16384x1024, .f32⟩
  | .hbm, ⟨116, _⟩ => ⟨S16384x1024, .f32⟩
  | .hbm, ⟨117, _⟩ => ⟨S1x1024, .f32⟩
  | .hbm, ⟨118, _⟩ => ⟨S16384x1024, .f32⟩
  | .hbm, ⟨119, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_cst_8 : Ref sig .tc := ⟨.hbm, 82, rfl⟩
abbrev main_v50 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_10 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_12 : Ref sig .tc := ⟨.hbm, 100, rfl⟩
abbrev main_v64 : Ref sig .tc := ⟨.hbm, 101, rfl⟩
abbrev main_v65 : Ref sig .tc := ⟨.hbm, 102, rfl⟩
abbrev main_cst_13 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]
-- ==== OutS.lean ====
abbrev S128x1024 : Shape := ⟨2, ![128, 1024]⟩
abbrev S128x512 : Shape := ⟨2, ![128, 512]⟩
abbrev S1024 : Shape := ⟨1, ![1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩
abbrev S512x1024 : Shape := ⟨2, ![512, 1024]⟩
abbrev S128 : Shape := ⟨1, ![128]⟩
abbrev S128x1 : Shape := ⟨2, ![128, 1]⟩
abbrev S1024x1408 : Shape := ⟨2, ![1024, 1408]⟩
abbrev S128x1408 : Shape := ⟨2, ![128, 1408]⟩
abbrev S1408x1024 : Shape := ⟨2, ![1408, 1024]⟩

abbrev nBuf : Space → Nat
  | .hbm => 28
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .f32⟩
  | .hbm, ⟨3, _⟩ => ⟨S128x1024, .f32⟩
  | .hbm, ⟨4, _⟩ => ⟨S1024, .f32⟩
  | .hbm, ⟨5, _⟩ => ⟨S1024, .f32⟩
  | .hbm, ⟨6, _⟩ => ⟨S1x1024x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S1024, .f32⟩
  | .hbm, ⟨11, _⟩ => ⟨S1024, .f32⟩
  | .hbm, ⟨12, _⟩ => ⟨S1x1024x2816, .f32⟩
  | .hbm, ⟨13, _⟩ => ⟨S1x1024x2816, .f32⟩
  | .hbm, ⟨14, _⟩ => ⟨S1x2816x1024, .f32⟩
  | .hbm, ⟨15, _⟩ => ⟨S1024x2816, .f32⟩
  | .hbm, ⟨16, _⟩ => ⟨S1024x2816, .bf16⟩
  | .hbm, ⟨17, _⟩ => ⟨S1024x2816, .f32⟩
  | .hbm, ⟨18, _⟩ => ⟨S1024x2816, .bf16⟩
  | .hbm, ⟨19, _⟩ => ⟨S2816x1024, .f32⟩
  | .hbm, ⟨20, _⟩ => ⟨S2816x1024, .bf16⟩
  | .hbm, ⟨21, _⟩ => ⟨S1024x1024, .f32⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S128x1024, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1x1024, .f32⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== OutSRefIdeal.lean ====
abbrev S128x1024 : Shape := ⟨2, ![128, 1024]⟩
abbrev S128x512 : Shape := ⟨2, ![128, 512]⟩
abbrev S1024 : Shape := ⟨1, ![1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S_ : Shape := ⟨0, ![]⟩
abbrev S1024x1024 : Shape := ⟨2, ![1024, 1024]⟩
abbrev S128 : Shape := ⟨1, ![128]⟩
abbrev S128x1 : Shape := ⟨2, ![128, 1]⟩
abbrev S1x1024 : Shape := ⟨2, ![1, 1024]⟩
abbrev S1024x2816 : Shape := ⟨2, ![1024, 2816]⟩
abbrev S2816x1024 : Shape := ⟨2, ![2816, 1024]⟩
abbrev S128x2816 : Shape := ⟨2, ![128, 2816]⟩

abbrev nBuf : Space → Nat
  | .hbm => 116
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .f32⟩
  | .hbm, ⟨3, _⟩ => ⟨S128x1024, .f32⟩
  | .hbm, ⟨4, _⟩ => ⟨S1024, .f32⟩
  | .hbm, ⟨5, _⟩ => ⟨S1024, .f32⟩
  | .hbm, ⟨6, _⟩ => ⟨S1x1024x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S1024, .f32⟩
  | .hbm, ⟨11, _⟩ => ⟨S1024, .f32⟩
  | .hbm, ⟨12, _⟩ => ⟨S1x1024x2816, .f32⟩
  | .hbm, ⟨13, _⟩ => ⟨S1x1024x2816, .f32⟩
  | .hbm, ⟨14, _⟩ => ⟨S1x2816x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S1024x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128, .f32⟩
  | .hbm, ⟨28, _⟩ => ⟨S128x1, .f32⟩
  | .hbm, ⟨29, _⟩ => ⟨S_, .f32⟩
  | .hbm, ⟨30, _⟩ => ⟨S128x1, .f32⟩
  | .hbm, ⟨31, _⟩ => ⟨S128x1, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128, .f32⟩
  | .hbm, ⟨37, _⟩ => ⟨S128x1, .f32⟩
  | .hbm, ⟨38, _⟩ => ⟨S_, .f32⟩
  | .hbm, ⟨39, _⟩ => ⟨S128x1, .f32⟩
  | .hbm, ⟨40, _⟩ => ⟨S128x1, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S128x1, .f32⟩
  | .hbm, ⟨47, _⟩ => ⟨S128x1024, .f32⟩
  | .hbm, ⟨48, _⟩ => ⟨S128x1024, .f32⟩
  | .hbm, ⟨49, _⟩ => ⟨S1x1024, .f32⟩
  | .hbm, ⟨50, _⟩ => ⟨S128x1024, .f32⟩
  | .hbm, ⟨51, _⟩ => ⟨S128x1024, .f32⟩
  | .hbm, ⟨52, _⟩ => ⟨S1x1024, .f32⟩
  | .hbm, ⟨53, _⟩ => ⟨S128x1024, .f32⟩
  | .hbm, ⟨54, _⟩ => ⟨S128x1024, .f32⟩
  | .hbm, ⟨55, _⟩ => ⟨S_, .f32⟩
  | .hbm, ⟨56, _⟩ => ⟨S128x1024, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S1024x2816, .f32⟩
  | .hbm, ⟨61, _⟩ => ⟨S1024x2816, .f32⟩
  | .hbm, ⟨62, _⟩ => ⟨S2816x1024, .f32⟩
  | .hbm, ⟨63, _⟩ => ⟨S128x2816, .f32⟩
  | .hbm, ⟨64, _⟩ => ⟨S128x2816, .f32⟩
  | .hbm, ⟨65, _⟩ => ⟨S128x2816, .f32⟩
  | .hbm, ⟨66, _⟩ => ⟨S_, .f32⟩
  | .hbm, ⟨67, _⟩ => ⟨S128x2816, .f32⟩
  | .hbm, ⟨68, _⟩ => ⟨S128x2816, .f32⟩
  | .hbm, ⟨69, _⟩ => ⟨S_, .f32⟩
  | .hbm, ⟨70, _⟩ => ⟨S128x2816, .f32⟩
  | .hbm, ⟨71, _⟩ => ⟨S128x2816, .f32⟩
  | .hbm, ⟨72, _⟩ => ⟨S128x2816, .f32⟩
  | .hbm, ⟨73, _⟩ => ⟨S128x2816, .f32⟩
  | .hbm, ⟨74, _⟩ => ⟨S128x2816, .f32⟩
  | .hbm, ⟨75, _⟩ => ⟨S128x1024, .f32⟩
  | .hbm, ⟨76, _⟩ => ⟨S_, .f32⟩
  | .hbm, ⟨77, _⟩ => ⟨S128x1024, .f32⟩
  | .hbm, ⟨78, _⟩ => ⟨S128x1024, .f32⟩
  | .hbm, ⟨79, _⟩ => ⟨S_, .f32⟩
  | .hbm, ⟨80, _⟩ => ⟨S128x1024, .f32⟩
  | .hbm, ⟨81, _⟩ => ⟨S128x1024, .f32⟩
  | .hbm, ⟨82, _⟩ => ⟨S_, .f32⟩
  | .hbm, ⟨83, _⟩ => ⟨S128x1024, .f32⟩
  | .hbm, ⟨84, _⟩ => ⟨S128x1024, .f32⟩
  | .hbm, ⟨85, _⟩ => ⟨S128x1024, .f32⟩
  | .hbm, ⟨86, _⟩ => ⟨S128x1024, .f32⟩
  | .hbm, ⟨87, _⟩ => ⟨S_, .f32⟩
  | .hbm, ⟨88, _⟩ => ⟨S128, .f32⟩
  | .hbm, ⟨89, _⟩ => ⟨S128x1, .f32⟩
  | .hbm, ⟨90, _⟩ => ⟨S_, .f32⟩
  | .hbm, ⟨91, _⟩ => ⟨S128x1, .f32⟩
  | .hbm, ⟨92, _⟩ => ⟨S128x1, .f32⟩
  | .hbm, ⟨93, _⟩ => ⟨S128x1024, .f32⟩
  | .hbm, ⟨94, _⟩ => ⟨S128x1024, .f32⟩
  | .hbm, ⟨95, _⟩ => ⟨S128x1024, .f32⟩
  | .hbm, ⟨96, _⟩ => ⟨S_, .f32⟩
  | .hbm, ⟨97, _⟩ => ⟨S128, .f32⟩
  | .hbm, ⟨98, _⟩ => ⟨S128x1, .f32⟩
  | .hbm, ⟨99, _⟩ => ⟨S_, .f32⟩
  | .hbm, ⟨100, _⟩ => ⟨S128x1, .f32⟩
  | .hbm, ⟨101, _⟩ => ⟨S128x1, .f32⟩
  | .hbm, ⟨102, _⟩ => ⟨S128x1024, .f32⟩
  | .hbm, ⟨103, _⟩ => ⟨S128x1024, .f32⟩
  | .hbm, ⟨104, _⟩ => ⟨S_, .f32⟩
  | .hbm, ⟨105, _⟩ => ⟨S128x1, .f32⟩
  | .hbm, ⟨106, _⟩ => ⟨S128x1, .f32⟩
  | .hbm, ⟨107, _⟩ => ⟨S128x1, .f32⟩
  | .hbm, ⟨108, _⟩ => ⟨S128x1024, .f32⟩
  | .hbm, ⟨109, _⟩ => ⟨S128x1024, .f32⟩
  | .hbm, ⟨110, _⟩ => ⟨S1x1024, .f32⟩
  | .hbm, ⟨111, _⟩ => ⟨S128x1024, .f32⟩
  | .hbm, ⟨112, _⟩ => ⟨S128x1024, .f32⟩
  | .hbm, ⟨113, _⟩ => ⟨S1x1024, .f32⟩
  | .hbm, ⟨114, _⟩ => ⟨S128x1024, .f32⟩
  | .hbm, ⟨115, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_cst_8 : Ref sig .tc := ⟨.hbm, 79, rfl⟩
abbrev main_v47 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_10 : Ref sig .tc := ⟨.hbm, 87, rfl⟩
abbrev main_v53 : Ref sig .tc := ⟨.hbm, 88, rfl⟩
abbrev main_v54 : Ref sig .tc := ⟨.hbm, 89, rfl⟩
abbrev main_cst_11 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_12 : Ref sig .tc := ⟨.hbm, 96, rfl⟩
abbrev main_v60 : Ref sig .tc := ⟨.hbm, 97, rfl⟩
abbrev main_v61 : Ref sig .tc := ⟨.hbm, 98, rfl⟩
abbrev main_cst_13 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_14 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩

abbrev nD : Nat := 1
abbrev τ : Topo := Topo.v7x

variable {F : FTy → Type} [FloatOps F]
-- ==== Band.lean ====
abbrev S32x8 : Shape := ⟨2, ![32, 8]⟩
abbrev S1152x128 : Shape := ⟨2, ![1152, 128]⟩
abbrev S8x1152x128 : Shape := ⟨3, ![8, 1152, 128]⟩
abbrev S1x1152x128 : Shape := ⟨3, ![1, 1152, 128]⟩
abbrev S1x1 : Shape := ⟨2, ![1, 1]⟩

abbrev nBuf : Space → Nat
  | .hbm => 3
  | .vmem => 3
  | .smem => 1
  | _ => 0

abbrev bufTy : (tb : Table) → Fin (tcTables nBuf tb) → BufTy
  | .hbm, ⟨0, _⟩ => ⟨S32x8, .f32⟩
  | .hbm, ⟨1, _⟩ => ⟨S1152x128, .i32⟩
  | .hbm, ⟨2, _⟩ => ⟨S8x1152x128, .f32⟩
  | .local _ .vmem, ⟨0, _⟩ => ⟨S1152x128, .i32⟩
  | .local _ .vmem, ⟨1, _⟩ => ⟨S1x1152x128, .f32⟩
  | .local _ .vmem, ⟨2, _⟩ => ⟨S1x1152x128, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_1 : Index := 0#32
  let arg0 : BitVec 32 := BitVec.ofNat 32 (i 0).val
  let v4 : Index := Scalar.indexCast arg0
  ![0, v4.toNat]
def k0_off2 (i : grid0.Coords) : Fin 2 → Nat :=
  let c1 : Index := 1#32
  let arg0 : BitVec 32 := BitVec.ofNat 32 (i 0).val
  let v10 : Index := Scalar.indexCast arg0
  ![1, v10.toNat]
def k0_off3 (i : grid0.Coords) : Fin 2 → Nat :=
  let c2 : Index := 2#32
  let arg0 : BitVec 32 := BitVec.ofNat 32 (i 0).val
  let v16 : Index := Scalar.indexCast arg0
  ![2, v16.toNat]
def k0_off4 (i : grid0.Coords) : Fin 2 → Nat :=
  let c3 : Index := 3#32
  let arg0 : BitVec 32 := BitVec.ofNat 32 (i 0).val
  let v22 : Index := Scalar.indexCast arg0
  ![3, v22.toNat]
def k0_off5 (i : grid0.Coords) : Fin 2 → Nat :=
  let c4 : Index := 4#32
  let arg0 : BitVec 32 := BitVec.ofNat 32 (i 0).val
  let v28 : Index := Scalar.indexCast arg0
  ![4, v28.toNat]
def k0_off6 (i : grid0.Coords) : Fin 2 → Nat :=
  let c5 : Index := 5#32
  let arg0 : BitVec 32 := BitVec.ofNat 32 (i 0).val
  let v34 : Index := Scalar.indexCast arg0
  ![5, v34.toNat]
def k0_off7 (i : grid0.Coords) : Fin 2 → Nat :=
  let c6 : Index := 6#32
  let arg0 : BitVec 32 := BitVec.ofNat 32 (i 0).val
  let v40 : Index := Scalar.indexCast arg0
  ![6, v40.toNat]
def k0_off8 (i : grid0.Coords) : Fin 2 → Nat :=
  let c7 : Index := 7#32
  let arg0 : BitVec 32 := BitVec.ofNat 32 (i 0).val
  let v46 : Index := Scalar.indexCast arg0
  ![7, v46.toNat]
def k0_off9 (i : grid0.Coords) : Fin 2 → Nat :=
  let c8 : Index := 8#32
  let arg0 : BitVec 32 := BitVec.ofNat 32 (i 0).val
  let v52 : Index := Scalar.indexCast arg0
  ![8, v52.toNat]
def k0_off10 (i : grid0.Coords) : Fin 2 → Nat :=
  let c9 : Index := 9#32
  let arg0 : BitVec 32 := BitVec.ofNat 32 (i 0).val
  let v58 : Index := Scalar.indexCast arg0
  ![9, v58.toNat]
def k0_off11 (i : grid0.Coords) : Fin 2 → Nat :=
  let c10 : Index := 10#32
  let arg0 : BitVec 32 := BitVec.ofNat 32 (i 0).val
  let v64 : Index := Scalar.indexCast arg0
  ![10, v64.toNat]
def k0_off12 (i : grid0.Coords) : Fin 2 → Nat :=
  let c11 : Index := 11#32
  let arg0 : BitVec 32 := BitVec.ofNat 32 (i 0).val
  let v70 : Index := Scalar.indexCast arg0
  ![11, v70.toNat]
def k0_off13 (i : grid0.Coords) : Fin 2 → Nat :=
  let c12 : Index := 12#32
  let arg0 : BitVec 32 := BitVec.ofNat 32 (i 0).val
  let v76 : Index := Scalar.indexCast arg0
  ![12, v76.toNat]
def k0_off14 (i : grid0.Coords) : Fin 2 → Nat :=
  let c13 : Index := 13#32
  let arg0 : BitVec 32 := BitVec.ofNat 32 (i 0).val
  let v82 : Index := Scalar.indexCast arg0
  ![13, v82.toNat]
def k0_off15 (i : grid0.Coords) : Fin 2 → Nat :=
  let c14 : Index := 14#32
  let arg0 : BitVec 32 := BitVec.ofNat 32 (i 0).val
  let v88 : Index := Scalar.indexCast arg0
  ![14, v88.toNat]
def k0_off16 (i : grid0.Coords) : Fin 2 → Nat :=
  let c15 : Index := 15#32
  let arg0 : BitVec 32 := BitVec.ofNat 32 (i 0).val
  let v94 : Index := Scalar.indexCast arg0
  ![15, v94.toNat]
def k0_off17 (i : grid0.Coords) : Fin 2 → Nat :=
  let c16 : Index := 16#32
  let arg0 : BitVec 32 := BitVec.ofNat 32 (i 0).val
  let v100 : Index := Scalar.indexCast arg0
  ![16, v100.toNat]
def k0_off18 (i : grid0.Coords) : Fin 2 → Nat :=
  let c17 : Index := 17#32
  let arg0 : BitVec 32 := BitVec.ofNat 32 (i 0).val
  let v106 : Index := Scalar.indexCast arg0
  ![17, v106.toNat]
def k0_off19 (i : grid0.Coords) : Fin 2 → Nat :=
  let c18 : Index := 18#32
  let arg0 : BitVec 32 := BitVec.ofNat 32 (i 0).val
  let v112 : Index := Scalar.indexCast arg0
  ![18, v112.toNat]
def k0_off20 (i : grid0.Coords) : Fin 2 → Nat :=
  let c19 : Index := 19#32
  let arg0 : BitVec 32 := BitVec.ofNat 32 (i 0).val
  let v118 : Index := Scalar.indexCast arg0
  ![19, v118.toNat]
def k0_off21 (i : grid0.Coords) : Fin 2 → Nat :=
  let c20 : Index := 20#32
  let arg0 : BitVec 32 := BitVec.ofNat 32 (i 0).val
  let v124 : Index := Scalar.indexCast arg0
  ![20, v124.toNat]
def k0_off22 (i : grid0.Coords) : Fin 2 → Nat :=
  let c21 : Index := 21#32
  let arg0 : BitVec 32 := BitVec.ofNat 32 (i 0).val
  let v130 : Index := Scalar.indexCast arg0
  ![21, v130.toNat]
def k0_off23 (i : grid0.Coords) : Fin 2 → Nat :=
  let c22 : Index := 22#32
  let arg0 : BitVec 32 := BitVec.ofNat 32 (i 0).val
  let v136 : Index := Scalar.indexCast arg0
  ![22, v136.toNat]
def k0_off24 (i : grid0.Coords) : Fin 2 → Nat :=
  let c23 : Index := 23#32
  let arg0 : BitVec 32 := BitVec.ofNat 32 (i 0).val
  let v142 : Index := Scalar.indexCast arg0
  ![23, v142.toNat]
def k0_off25 (i : grid0.Coords) : Fin 2 → Nat :=
  let c24 : Index := 24#32
  let arg0 : BitVec 32 := BitVec.ofNat 32 (i 0).val
  let v148 : Index := Scalar.indexCast arg0
  ![24, v148.toNat]
def k0_off26 (i : grid0.Coords) : Fin 2 → Nat :=
  let c25 : Index := 25#32
  let arg0 : BitVec 32 := BitVec.ofNat 32 (i 0).val
  let v154 : Index := Scalar.indexCast arg0
  ![25, v154.toNat]
def k0_off27 (i : grid0.Coords) : Fin 2 → Nat :=
  let c26 : Index := 26#32
  let arg0 : BitVec 32 := BitVec.ofNat 32 (i 0).val
  let v160 : Index := Scalar.indexCast arg0
  ![26, v160.toNat]
def k0_off28 (i : grid0.Coords) : Fin 2 → Nat :=
  let c27 : Index := 27#32
  let arg0 : BitVec 32 := BitVec.ofNat 32 (i 0).val
  let v166 : Index := Scalar.indexCast arg0
  ![27, v166.toNat]
def k0_off29 (i : grid0.Coords) : Fin 2 → Nat :=
  let c28 : Index := 28#32
  let arg0 : BitVec 32 := BitVec.ofNat 32 (i 0).val
  let v172 : Index := Scalar.indexCast arg0
  ![28, v172.toNat]
def k0_off30 (i : grid0.Coords) : Fin 2 → Nat :=
  let c29 : Index := 29#32
  let arg0 : BitVec 32 := BitVec.ofNat 32 (i 0).val
  let v178 : Index := Scalar.indexCast arg0
  ![29, v178.toNat]
def k0_off31 (i : grid0.Coords) : Fin 2 → Nat :=
  let c30 : Index := 30#32
  let arg0 : BitVec 32 := BitVec.ofNat 32 (i 0).val
  let v184 : Index := Scalar.indexCast arg0
  ![30, v184.toNat]
def k0_off32 (i : grid0.Coords) : Fin 2 → Nat :=
  let c31 : Index := 31#32
  let arg0 : BitVec 32 := BitVec.ofNat 32 (i 0).val
  let v190 : Index := Scalar.indexCast arg0
  ![31, v190.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1152x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BandRefIdeal.lean ====
abbrev S32x8 : Shape := ⟨2, ![32, 8]⟩
abbrev S1152x128 : Shape := ⟨2, ![1152, 128]⟩
abbrev S_ : Shape := ⟨0, ![]⟩
abbrev S1152x128x1 : Shape := ⟨3, ![1152, 128, 1]⟩
abbrev S1152x128x8 : Shape := ⟨3, ![1152, 128, 8]⟩
abbrev S8x1152x128 : Shape := ⟨3, ![8, 1152, 128]⟩
abbrev S1x1152x128 : Shape := ⟨3, ![1, 1152, 128]⟩

abbrev nBuf : Space → Nat
  | .hbm => 33
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S1152x128, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S1152x128, .i32⟩
  | .hbm, ⟨6, _⟩ => ⟨S1152x128, .i32⟩
  | .hbm, ⟨7, _⟩ => ⟨S_, .i32⟩
  | .hbm, ⟨8, _⟩ => ⟨S1152x128, .i32⟩
  | .hbm, ⟨9, _⟩ => ⟨S1152x128, .i32⟩
  | .hbm, ⟨10, _⟩ => ⟨S_, .i32⟩
  | .hbm, ⟨11, _⟩ => ⟨S1152x128, .i32⟩
  | .hbm, ⟨12, _⟩ => ⟨S1152x128, .i1⟩
  | .hbm, ⟨13, _⟩ => ⟨S_, .i32⟩
  | .hbm, ⟨14, _⟩ => ⟨S1152x128, .i32⟩
  | .hbm, ⟨15, _⟩ => ⟨S1152x128, .i32⟩
  | .hbm, ⟨16, _⟩ => ⟨S1152x128, .i32⟩
  | .hbm, ⟨17, _⟩ => ⟨S1152x128x1, .i32⟩
  | .hbm, ⟨18, _⟩ => ⟨S1152x128x8, .f32⟩
  | .hbm, ⟨19, _⟩ => ⟨S8x1152x128, .f32⟩
  | .hbm, ⟨20, _⟩ => ⟨S_, .i32⟩
  | .hbm, ⟨21, _⟩ => ⟨S1152x128, .i32⟩
  | .hbm, ⟨22, _⟩ => ⟨S1152x128, .i1⟩
  | .hbm, ⟨23, _⟩ => ⟨S_, .i32⟩
  | .hbm, ⟨24, _⟩ => ⟨S1152x128, .i32⟩
  | .hbm, ⟨25, _⟩ => ⟨S1152x128, .i1⟩
  | .hbm, ⟨26, _⟩ => ⟨S1152x128, .i1⟩
  | .hbm, ⟨27, _⟩ => ⟨S1x1152x128, .i1⟩
  | .hbm, ⟨28, _⟩ => ⟨S_, .f32⟩
  | .hbm, ⟨29, _⟩ => ⟨S_, .f32⟩
  | .hbm, ⟨30, _⟩ => ⟨S8x1152x128, .i1⟩
  | .hbm, ⟨31, _⟩ => ⟨S8x1152x128, .f32⟩
  | .hbm, ⟨32, _⟩ => ⟨S8x1152x128, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_v2 : Ref sig .tc := ⟨.hbm, 12, rfl⟩
abbrev main_c_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v15 : Ref sig .tc := ⟨.hbm, 32, rfl⟩

abbrev nD : Nat := 1
abbrev τ : Topo := Topo.v7x

variable {F : FTy → Type} [FloatOps F]
-- ==== Proof.Row.lean ====
/-
  The layer's arithmetic on one row of the hidden state, in plain formulas over the extended reals: the layer norm,
  the modulation by shift and scale, and the gated feed-forward block. Both programs are read down to these.
-/
module

public import Idealize.ShloMosaic.Lib.Pointwise

@[expose] public section

noncomputable section

namespace Cert.Proof.Row

open Idealize.ShloMosaic

/-- The mean of a row of 1024 numbers. -/
def mean (f : Fin 1024 → EReal) : EReal := Ideal.div (∑ k, f k) (Ideal.ofBits .f32 0x44800000#32)

/-- A row less its mean. -/
def ctr (f : Fin 1024 → EReal) (j : Fin 1024) : EReal := f j - mean f

/-- The mean of the squares of a row less its mean. -/
def var (f : Fin 1024 → EReal) : EReal := mean fun k => ctr f k * ctr f k

/-- The layer norm of a row, with gain `g` and offset `b`. -/
def ln (f g b : Fin 1024 → EReal) (j : Fin 1024) : EReal :=
  ctr f j * Ideal.rsqrt (var f + Ideal.ofBits .f32 0x3727C5AC#32) * g j + b j

/-- The modulation of a row: times one plus the scale, plus the shift. -/
def modul (x sc sh : Fin 1024 → EReal) (j : Fin 1024) : EReal := x j * (1 + sc j) + sh j

/-- One hidden unit of the gated block. -/
def unit (h g u : Fin 1024 → EReal) : EReal :=
  (∑ k, h k * g k) * Ideal.logistic (∑ k, h k * g k) * ∑ k, h k * u k

/-- The residual sum: the weighted row plus the gated update. -/
def resid (x gt o : Fin 1024 → EReal) (j : Fin 1024) : EReal :=
  Ideal.ofBits .f32 0x3F9837F0#32 * x j + (1 + gt j) * o j

/-- The gated feed-forward block: the hidden units of a row, multiplied by the down projection. -/
def ff (h : Fin 1024 → EReal) (wg wu : Fin 1024 → Fin 2816 → EReal) (wd : Fin 2816 → Fin 1024 → EReal) (j : Fin 1024) : EReal :=
  ∑ f, unit h (fun k => wg k f) (fun k => wu k f) * wd f j

/-- The block's sum over the hidden units, as the sum over the first half of them plus the sum over the second. -/
theorem ff_halves (h : Fin 1024 → EReal) (wg wu : Fin 1024 → Fin 2816 → EReal) (wd : Fin 2816 → Fin 1024 → EReal) (j : Fin 1024) :
    ff h wg wu wd j
      = ∑ f : Fin 1408, unit h (fun k => wg k ⟨f, by omega⟩) (fun k => wu k ⟨f, by omega⟩) * wd ⟨f, by omega⟩ j
        + ∑ f : Fin 1408, unit h (fun k => wg k ⟨1408 + f, by omega⟩) (fun k => wu k ⟨1408 + f, by omega⟩) * wd ⟨1408 + f, by omega⟩ j :=
  Fin.sum_univ_two_halves 1408 1408 rfl _

/-- The product of two half rows, side by side, with a square matrix. -/
def proj2 (a b : Fin 512 → EReal) (w : Fin 1024 → Fin 1024 → EReal) (j : Fin 1024) : EReal :=
  ∑ k : Fin 512, a k * w ⟨k, by omega⟩ j + ∑ k : Fin 512, b k * w ⟨512 + k, by omega⟩ j

/-- One half of the block's output, the update that the residual sum takes. -/
def halfFf (h : Fin 1024 → EReal) (wg wu : Fin 1024 → Fin 2816 → EReal) (wd : Fin 2816 → Fin 1024 → EReal) (j : Fin 1024) : EReal :=
  Ideal.ofBits .f32 0x3F000000#32 * ff h wg wu wd j

/-- The feed-forward sublayer on a row: modulate, feed forward, add to the row, norm. -/
def ffnRow (x sh sc gt lg lb : Fin 1024 → EReal) (wg wu : Fin 1024 → Fin 2816 → EReal) (wd : Fin 2816 → Fin 1024 → EReal) :
    Fin 1024 → EReal :=
  ln (resid x gt (halfFf (modul x sc sh) wg wu wd)) lg lb

/-- The mixer's output projection with its residual sum and norm. -/
def mixRow (x : Fin 1024 → EReal) (a b : Fin 512 → EReal) (g lg lb : Fin 1024 → EReal) (w : Fin 1024 → Fin 1024 → EReal) :
    Fin 1024 → EReal :=
  ln (resid x g (proj2 a b w)) lg lb

end Cert.Proof.Row

end
-- ==== Proof.Into.lean ====
/-
  The way into the mixer on one row, in plain formulas over the extended reals: the modulation rows made from a
  sequence's conditioning, the first feed-forward sublayer, and one column of the input projection.
-/
module

public import proofs.«01_k».proof.Proof.Row
public import Idealize.ShloMosaic.Lib.ValueIdxRank6

@[expose] public section

noncomputable section

namespace Cert.Proof.Row

open Idealize.ShloMosaic

/-- One entry of the modulation: the conditioning's gated row times a column, plus the bias. -/
def adaCol (c w : Fin 1024 → EReal) (b : EReal) : EReal := (∑ k, c k * Ideal.logistic (c k) * w k) + b

/-- Column `k` of the modulation's row `i`, among the nine side by side. -/
def mcol (i : Fin 9) (k : Fin 1024) : Fin 9216 := ⟨1024 * i.val + k.val, by omega⟩

/-- Row `i` of the modulation of a sequence with conditioning `c`. -/
def modRow (c : Fin 1024 → EReal) (W : Fin 1024 → Fin 9216 → EReal) (b : Fin 9216 → EReal) (i : Fin 9) (k : Fin 1024) : EReal :=
  adaCol c (fun a => W a (mcol i k)) (b (mcol i k))

/-- A row after the first feed-forward sublayer and the second modulation, as the input projection takes it. -/
def intoRow (x c : Fin 1024 → EReal) (W : Fin 1024 → Fin 9216 → EReal) (b : Fin 9216 → EReal) (lg lb : Fin 1024 → EReal)
    (wg wu : Fin 1024 → Fin 2816 → EReal) (wd : Fin 2816 → Fin 1024 → EReal) : Fin 1024 → EReal :=
  modul (ffnRow x (modRow c W b 0) (modRow c W b 1) (modRow c W b 2) lg lb wg wu wd) (modRow c W b 4) (modRow c W b 3)

/-- One column of a row's projection. -/
def colOf (h w : Fin 1024 → EReal) : EReal := ∑ k, h k * w k

/-- Where a column of the recurrence lies in its padded columns. -/
def padCol (n : Fin 1696) : Fin 1920 :=
  if n.val < 1568 then ⟨n.val, by omega⟩ else if n.val < 1600 then ⟨n.val + 96, by omega⟩ else ⟨n.val + 192, by omega⟩

end Cert.Proof.Row

end
-- ==== Proof.PromptHost.lean ====
/-
  What the host lines of the prompt's program leave in the arrays they write, read at an index.
-/
module

public import proofs.«01_k».proof.Proof.Into
public import proofs.«01_k».proof.Proof.Gen.PromptIdeal.Launch
public import Idealize.ShloMosaic.Lib.StableHlo.ReadAt

@[expose] public section

set_option maxRecDepth 16384

noncomputable section

namespace Cert.Proof.PromptHost

open Idealize.ShloMosaic Idealize.ShloMosaic.TcCoe Idealize.ShloMosaic.StableHlo Cert.PromptIdeal Cert.PromptIdeal.Gen Cert.Proof.Row

variable (V : Valuation τ sig (Elt Ideal))

/-- The first row of conditions is the prompt's. -/
theorem v1_apply (k : Fin 1024) : after hostOps0 V (Proc.devRef .tc main_v1) (ix2 0 k) = V (Proc.devRef .tc main_arg1) (ix2 0 k) := by
  after_reads_at

/-- The modulation's weights as a matrix. -/
theorem v2_apply (k : Fin 1024) (j : Fin 9216) : after hostOps0 V (Proc.devRef .tc main_v2) (ix2 k j) = V (Proc.devRef .tc main_arg3) (ix3 0 k j) := by
  after_reads_at

/-- The modulation's biases as a row. -/
theorem v4_apply (j : Fin 9216) : after hostOps0 V (Proc.devRef .tc main_v4) (ix2 0 j) = V (Proc.devRef .tc main_arg4) (ix2 0 j) := by
  after_reads_at

/-- The prompt's nine rows of modulation, cut from its one row. -/
theorem v7_apply (i : Fin 9) (k : Fin 1024) : after hostOps1 V (Proc.devRef .tc main_v7) (ix3 i 0 k) = V (Proc.devRef .tc main_v5) (ix2 0 (mcol i k)) := by
  after_reads_at
  exact congrArg (V (Proc.devRef .tc main_v5)) (congrArg₂ ix2 rfl (Fin.ext (by simp only [mcol]; omega)))

/-- The gate's weights. -/
theorem v9_apply (a : Fin 1024) (b : Fin 2816) : after hostOps1 V (Proc.devRef .tc main_v9) (ix2 a b) = V (Proc.devRef .tc main_arg7) (ix3 0 a b) := by
  after_reads_at

/-- The up projection's weights. -/
theorem v11_apply (a : Fin 1024) (b : Fin 2816) : after hostOps1 V (Proc.devRef .tc main_v11) (ix2 a b) = V (Proc.devRef .tc main_arg8) (ix3 0 a b) := by
  after_reads_at

/-- The down projection's weights. -/
theorem v13_apply (a : Fin 2816) (b : Fin 1024) : after hostOps1 V (Proc.devRef .tc main_v13) (ix2 a b) = V (Proc.devRef .tc main_arg9) (ix3 0 a b) := by
  after_reads_at

/-- The prompt's tokens as rows. -/
theorem v14_apply (r : Fin 16384) (k : Fin 1024) : after hostOps1 V (Proc.devRef .tc main_v14) (ix2 r k) = V (Proc.devRef .tc main_arg0) (ix3 0 r k) := by
  after_reads_at

/-- The attention's columns of the input projection, up to the gates'. -/
theorem v22_apply (k : Fin 1024) (j : Fin 1280) : after hostOps1 V (Proc.devRef .tc main_v22) (ix2 k j) = V (Proc.devRef .tc main_arg10) (ix3 0 k ⟨j.val, by omega⟩) := by
  after_reads_at

/-- The recurrence's columns of the input projection. -/
theorem v17_apply (k : Fin 1024) (j : Fin 1696) : after hostOps1 V (Proc.devRef .tc main_v17) (ix2 k j) = V (Proc.devRef .tc main_arg10) (ix3 0 k ⟨1304 + j.val, by omega⟩) := by
  after_reads_at

/-- Its first three blocks. -/
theorem v24_apply (k : Fin 1024) (j : Fin 1536) : after hostOps1_2 V (Proc.devRef .tc main_v24) (ix2 k j) = V (Proc.devRef .tc main_v17) (ix2 k ⟨j.val, by omega⟩) := by
  after_reads_at

/-- The decay's columns. -/
theorem v25_apply (k : Fin 1024) (j : Fin 32) : after hostOps1_2 V (Proc.devRef .tc main_v25) (ix2 k j) = V (Proc.devRef .tc main_v17) (ix2 k ⟨1536 + j.val, by omega⟩) := by
  after_reads_at

/-- The rate's columns. -/
theorem v27_apply (k : Fin 1024) (j : Fin 32) : after hostOps1_4 V (Proc.devRef .tc main_v27) (ix2 k j) = V (Proc.devRef .tc main_v17) (ix2 k ⟨1568 + j.val, by omega⟩) := by
  after_reads_at

/-- The gate's columns. -/
theorem v29_apply (k : Fin 1024) (j : Fin 96) : after hostOps1_6 V (Proc.devRef .tc main_v29) (ix2 k j) = V (Proc.devRef .tc main_v17) (ix2 k ⟨1600 + j.val, by omega⟩) := by
  after_reads_at

/-- The decay's columns, within their padded block. -/
theorem v26_apply (k : Fin 1024) (j : Fin 128) (h : j.val < 32) : after hostOps1_3 V (Proc.devRef .tc main_v26) (ix2 k j) = V (Proc.devRef .tc main_v25) (ix2 k ⟨j.val, h⟩) := by
  after_reads_at
  rw [dif_pos h]

/-- The rate's columns, within their padded block. -/
theorem v28_apply (k : Fin 1024) (j : Fin 128) (h : j.val < 32) : after hostOps1_5 V (Proc.devRef .tc main_v28) (ix2 k j) = V (Proc.devRef .tc main_v27) (ix2 k ⟨j.val, h⟩) := by
  after_reads_at
  rw [dif_pos h]

/-- The gate's columns, within their padded block. -/
theorem v30_apply (k : Fin 1024) (j : Fin 128) (h : j.val < 96) : after hostOps1_7 V (Proc.devRef .tc main_v30) (ix2 k j) = V (Proc.devRef .tc main_v29) (ix2 k ⟨j.val, h⟩) := by
  after_reads_at
  rw [dif_pos h]

/-- The rearranged projection at the attention's columns. -/
theorem v33_attn (k : Fin 1024) (j : Fin 1280) : after hostOps1_8 V (Proc.devRef .tc main_v33) (ix2 k ⟨j.val, by omega⟩) = V (Proc.devRef .tc main_v22) (ix2 k j) := by
  after_reads_at
  after_reads_at

/-- The rearranged projection at the recurrence's first three blocks. -/
theorem v33_rkv (k : Fin 1024) (j : Fin 1536) : after hostOps1_8 V (Proc.devRef .tc main_v33) (ix2 k ⟨1408 + j.val, by omega⟩) = V (Proc.devRef .tc main_v24) (ix2 k j) := by
  after_reads_at
  rw [dif_neg (by omega), dif_neg (by omega)]
  after_reads_at
  rw [dif_pos (by omega)]
  exact congrArg (fun a => V (Proc.devRef .tc main_v24) (ix2 k a)) (Fin.ext (by simp only []; omega))

/-- The rearranged projection at the decay's padded block. -/
theorem v33_decay (k : Fin 1024) (j : Fin 128) : after hostOps1_8 V (Proc.devRef .tc main_v33) (ix2 k ⟨2944 + j.val, by omega⟩) = V (Proc.devRef .tc main_v26) (ix2 k j) := by
  after_reads_at
  rw [dif_neg (by omega), dif_neg (by omega)]
  after_reads_at
  rw [dif_neg (by omega), dif_pos (by omega)]
  exact congrArg (fun a => V (Proc.devRef .tc main_v26) (ix2 k a)) (Fin.ext (by simp only []; omega))

/-- The rearranged projection at the rate's padded block. -/
theorem v33_rate (k : Fin 1024) (j : Fin 128) : after hostOps1_8 V (Proc.devRef .tc main_v33) (ix2 k ⟨3072 + j.val, by omega⟩) = V (Proc.devRef .tc main_v28) (ix2 k j) := by
  after_reads_at
  rw [dif_neg (by omega), dif_neg (by omega)]
  after_reads_at
  rw [dif_neg (by omega), dif_neg (by omega), dif_pos (by omega)]
  exact congrArg (fun a => V (Proc.devRef .tc main_v28) (ix2 k a)) (Fin.ext (by simp only []; omega))

/-- The rearranged projection at the gate's padded block. -/
theorem v33_gate (k : Fin 1024) (j : Fin 128) : after hostOps1_8 V (Proc.devRef .tc main_v33) (ix2 k ⟨3200 + j.val, by omega⟩) = V (Proc.devRef .tc main_v30) (ix2 k j) := by
  after_reads_at
  rw [dif_neg (by omega), dif_neg (by omega)]
  after_reads_at
  rw [dif_neg (by omega), dif_neg (by omega), dif_neg (by omega)]
  exact congrArg (fun a => V (Proc.devRef .tc main_v30) (ix2 k a)) (Fin.ext (by simp only []; omega))

/-- The shift of the first sublayer. -/
theorem v35_apply (k : Fin 1024) : after hostOps1_8 V (Proc.devRef .tc main_v35) (ix2 0 k) = V (Proc.devRef .tc main_v7) (ix3 0 0 k) := by
  after_reads_at

/-- The scale of the first sublayer. -/
theorem v37_apply (k : Fin 1024) : after hostOps1_8 V (Proc.devRef .tc main_v37) (ix2 0 k) = V (Proc.devRef .tc main_v7) (ix3 1 0 k) := by
  after_reads_at

/-- The gate of the first sublayer. -/
theorem v39_apply (k : Fin 1024) : after hostOps1_8 V (Proc.devRef .tc main_v39) (ix2 0 k) = V (Proc.devRef .tc main_v7) (ix3 2 0 k) := by
  after_reads_at

/-- The first norm's gain. -/
theorem v44_apply (k : Fin 1024) : after hostOps1_8 V (Proc.devRef .tc main_v44) (ix2 0 k) = V (Proc.devRef .tc main_arg5) (ix3 0 0 k) := by
  after_reads_at

/-- The first norm's bias. -/
theorem v45_apply (k : Fin 1024) : after hostOps1_8 V (Proc.devRef .tc main_v45) (ix2 0 k) = V (Proc.devRef .tc main_arg6) (ix3 0 0 k) := by
  after_reads_at

/-- The shift of the second sublayer. -/
theorem v48_apply (k : Fin 1024) : after hostOps2 V (Proc.devRef .tc main_v48) (ix2 0 k) = V (Proc.devRef .tc main_v7) (ix3 3 0 k) := by
  after_reads_at

/-- The scale of the second sublayer. -/
theorem v50_apply (k : Fin 1024) : after hostOps2 V (Proc.devRef .tc main_v50) (ix2 0 k) = V (Proc.devRef .tc main_v7) (ix3 4 0 k) := by
  after_reads_at

/-- The keys and values, their columns split into branches, heads and coordinates. -/
theorem v52_apply (r : Fin 16384) (n : Fin 4) (h : Fin 2) (d : Fin 64) :
    after hostOps3 V (Proc.devRef .tc main_v52) (ix6 0 0 r n h d)
      = V (Proc.devRef .tc main_v51_1) (ix2 r ⟨128 * n.val + 64 * h.val + d.val, by omega⟩) := by
  after_reads_at
  exact congrArg (V (Proc.devRef .tc main_v51_1)) (congrArg₂ ix2 rfl (Fin.ext (by simp only []; omega)))

/-- The window's keys and values of the last 512 tokens. -/
theorem v54_apply (t : Fin 512) (n : Fin 2) (h : Fin 2) (d : Fin 64) :
    after hostOps3 V (Proc.devRef .tc main_v54) (ix6 0 0 t n h d)
      = V (Proc.devRef .tc main_v51_2) (ix2 ⟨15872 + t.val, by omega⟩ ⟨128 * n.val + 64 * h.val + d.val, by omega⟩) := by
  after_reads_at
  exact congrArg (fun a => V (Proc.devRef .tc main_v51_2) (ix2 _ a)) (Fin.ext (by simp only []; omega))

/-- The last token's columns of the recurrence, the padding left out. -/
theorem v62_apply (n : Fin 1696) :
    after hostOps3 V (Proc.devRef .tc main_v62) (ix3 0 0 n) = V (Proc.devRef .tc main_v51_4) (ix2 16383 (padCol n)) := by
  after_reads_at
  by_cases h1 : n.val < 1536
  · rw [dif_pos h1]
    after_reads_at
    exact congrArg (V (Proc.devRef .tc main_v51_4)) (congrArg₂ ix2 (Fin.ext (by simp only [] <;> omega)) (Fin.ext (by simp only [padCol]; split_ifs <;> simp only [] <;> omega)))
  by_cases h2 : n.val < 1568
  · rw [dif_neg h1, dif_pos (by omega)]
    after_reads_at
    exact congrArg (V (Proc.devRef .tc main_v51_4)) (congrArg₂ ix2 (Fin.ext (by simp only [] <;> omega)) (Fin.ext (by simp only [padCol]; split_ifs <;> simp only [] <;> omega)))
  by_cases h3 : n.val < 1600
  · rw [dif_neg h1, dif_neg (by omega), dif_pos (by omega)]
    after_reads_at
    exact congrArg (V (Proc.devRef .tc main_v51_4)) (congrArg₂ ix2 (Fin.ext (by simp only [] <;> omega)) (Fin.ext (by simp only [padCol]; split_ifs <;> simp only [] <;> omega)))
  · rw [dif_neg h1, dif_neg (by omega), dif_neg (by omega)]
    after_reads_at
    exact congrArg (V (Proc.devRef .tc main_v51_4)) (congrArg₂ ix2 (Fin.ext (by simp only [] <;> omega)) (Fin.ext (by simp only [padCol]; split_ifs <;> simp only [] <;> omega)))

end Cert.Proof.PromptHost

end
-- ==== Proof.PromptPay.lean ====
/-
  The prompt's kernels' bodies, read at an index: the modulation, the feed-forward block and the input projection.
-/
module

public import proofs.«01_k».proof.Proof.Into
public import proofs.«01_k».proof.Proof.Gen.PromptIdeal.Frame

@[expose] public section

set_option maxRecDepth 16384

noncomputable section

namespace Cert.Proof.PromptPay

open Idealize.ShloMosaic Cert.PromptIdeal Cert.PromptIdeal.Gen Cert.Proof.Row

/-- What the modulation's body leaves in its block. -/
theorem ada_apply (x0 : Vec Ideal S40x1024 .f32) (x1 : Vec Ideal S1024x1152 .f32) (x2 : Vec Ideal S1x1152 .f32) (r : Fin 40) (j : Fin 1152) :
    out0_3 x0 x1 x2 (ix2 r j) = adaCol (fun k => x0 (ix2 r k)) (fun k => x1 (ix2 k j)) (x2 (ix2 0 j)) := by
  have hz : (![0, 0] : Fin S40x1152.rank → Nat) = fun _ => 0 := funext fun a => by fin_cases a <;> rfl
  unfold out0_3
  rw [View.canon_unit_zero hz]
  pointwise [k0_pay1, adaCol]

/-- The modulated row. -/
theorem pay5_apply (v0 : Vec Ideal S512x1024 .f32) (v2 v4 : Vec Ideal S1x1024 .f32) (r : Fin 512) (j : Fin 1024) :
    k1_pay5 v0 v2 v4 (ix2 r j) = modul (fun k => v0 (ix2 r k)) (fun k => v4 (ix2 0 k)) (fun k => v2 (ix2 0 k)) j := by
  pointwise [k1_pay5, k1_pay1, modul]

/-- The first half of the hidden units. -/
theorem pay6_apply (v0 : Vec Ideal S512x1024 .f32) (v2 v4 : Vec Ideal S1x1024 .f32) (v20 v23 : Vec Ideal S1024x1408 .bf16) (v30 : Vec Ideal S1408x1024 .bf16) (r : Fin 512) (j : Fin 1024) :
    k1_pay6 v0 v2 v4 v20 v23 v30 (ix2 r j)
      = ∑ f, unit (fun k => k1_pay5 v0 v2 v4 (ix2 r k)) (fun k => v20 (ix2 k f)) (fun k => v23 (ix2 k f)) * v30 (ix2 f j) := by
  pointwise [k1_pay6, unit]

/-- The second half of the hidden units, and the norm. -/
theorem pay7_apply (v1 : FVec Ideal S512x1024 .f32) (v7 v9 v11 : FVec Ideal S1x1024 .f32) (v18 : FVec Ideal S512x1024 .bf16) (v33 : FVec Ideal S512x1024 .f32) (v34 v37 : Vec Ideal S1024x1408 .bf16) (v44 : Vec Ideal S1408x1024 .bf16) (r : Fin 512) (j : Fin 1024) :
    k1_pay7 v1 v7 v9 v11 v18 v33 v34 v37 v44 (ix2 r j)
      = ln (resid (fun k => v1 (ix2 r k)) (fun k => v7 (ix2 0 k)) fun j => Ideal.ofBits .f32 0x3F000000#32 *
          (v33 (ix2 r j) + ∑ f, unit (fun k => v18 (ix2 r k)) (fun k => v34 (ix2 k f)) (fun k => v37 (ix2 k f)) * v44 (ix2 f j)))
          (fun k => v9 (ix2 0 k)) (fun k => v11 (ix2 0 k)) j := by
  pointwise [k1_pay7, ln, ctr, var, mean, resid, unit]

/-- What the feed-forward body leaves in its block: the sublayer on row `r`. -/
theorem ffn_apply (x0 : Vec Ideal S512x1024 .f32) (x1 x2 x3 x4 x5 : Vec Ideal S1x1024 .f32) (x6 x7 : Vec Ideal S1024x2816 .bf16) (x8 : Vec Ideal S2816x1024 .bf16) (r : Fin 512) (j : Fin 1024) :
    out1_9 x0 x1 x2 x3 x4 x5 x6 x7 x8 (ix2 r j)
      = ffnRow (fun k => x0 (ix2 r k)) (fun k => x1 (ix2 0 k)) (fun k => x2 (ix2 0 k)) (fun k => x3 (ix2 0 k)) (fun k => x4 (ix2 0 k))
          (fun k => x5 (ix2 0 k)) (fun a b => x6 (ix2 a b)) (fun a b => x7 (ix2 a b)) (fun a b => x8 (ix2 a b)) j := by
  have hz : (![0, 0] : Fin S512x1024.rank → Nat) = fun _ => 0 := funext fun a => by fin_cases a <;> rfl
  unfold out1_9
  rw [View.canon_unit_zero hz, pay7_apply]
  simp only [pay6_apply, pay5_apply]
  unfold ffnRow
  have hh : ∀ j, halfFf (modul (fun k => x0 (ix2 r k)) (fun k => x2 (ix2 0 k)) (fun k => x1 (ix2 0 k)))
          (fun a b => x6 (ix2 a b)) (fun a b => x7 (ix2 a b)) (fun a b => x8 (ix2 a b)) j = _ := fun j => by
    unfold halfFf; rw [ff_halves]
  simp only [funext hh]
  pointwise [k1_pay1, k1_pay2, k1_pay3, k1_pay4]

/-- The projection of the modulated rows. -/
theorem proj_apply (v0 : Vec Ideal S512x1024 .f32) (v2 v8 : Vec Ideal S1x1024 .f32) (v13 : Vec Ideal S1024x3328 .bf16) (r : Fin 512) (j : Fin 3328) :
    k2_pay5 v0 v2 v8 v13 (ix2 r j)
      = colOf (modul (fun k => v0 (ix2 r k)) (fun k => v2 (ix2 0 k)) (fun k => v8 (ix2 0 k))) (fun k => v13 (ix2 k j)) := by
  pointwise [k2_pay5, colOf, modul]

variable (i : grid2.Coords) (x0 : Vec Ideal S512x1024 .f32) (x1 x2 : Vec Ideal S1x1024 .f32) (x3 : Vec Ideal S1024x3328 .bf16) (r : Fin 512)

/-- The key and value columns that the projection's body stores. -/
theorem kv_apply (j : Fin 512) : out2_5 i x0 x1 x2 x3 (ix2 r j)
    = colOf (modul (fun k => x0 (ix2 r k)) (fun k => x2 (ix2 0 k)) (fun k => x1 (ix2 0 k))) (fun k => x3 (ix2 k ⟨512 + j.val, by omega⟩)) := by
  have hz : (![0, 0] : Fin S512x512.rank → Nat) = fun _ => 0 := funext fun a => by fin_cases a <;> rfl
  unfold out2_5
  rw [View.canon_unit_zero hz]
  pointwise [k2_pay7]
  rw [proj_apply]
  pointwise

/-- The window's columns that the projection's body stores. -/
theorem win_apply (j : Fin 256) : out2_6 i x0 x1 x2 x3 (ix2 r j)
    = colOf (modul (fun k => x0 (ix2 r k)) (fun k => x2 (ix2 0 k)) (fun k => x1 (ix2 0 k))) (fun k => x3 (ix2 k ⟨1024 + j.val, by omega⟩)) := by
  have hz : (![0, 0] : Fin S512x256.rank → Nat) = fun _ => 0 := funext fun a => by fin_cases a <;> rfl
  unfold out2_6
  rw [View.canon_unit_zero hz]
  pointwise [k2_pay8]
  rw [proj_apply]
  pointwise

/-- The recurrence's columns that the projection's body stores. -/
theorem rw_apply (j : Fin 1920) : out2_8 i x0 x1 x2 x3 (ix2 r j)
    = colOf (modul (fun k => x0 (ix2 r k)) (fun k => x2 (ix2 0 k)) (fun k => x1 (ix2 0 k))) (fun k => x3 (ix2 k ⟨1408 + j.val, by omega⟩)) := by
  have hz : (![0, 0] : Fin S512x1920.rank → Nat) = fun _ => 0 := funext fun a => by fin_cases a <;> rfl
  unfold out2_8
  rw [View.canon_unit_zero hz]
  pointwise [k2_pay10]
  rw [proj_apply]
  pointwise

end Cert.Proof.PromptPay

end
-- ==== Proof.PromptRegion.lean ====
/-
  What each of the prompt's three kernels leaves in its result arrays, over the arrays it finds.
-/
module

public import proofs.«01_k».proof.Proof.PromptPay
public import Idealize.ShloMosaic.Lib.Pipeline.ValueKit

@[expose] public section

set_option maxRecDepth 16384

noncomputable section

namespace Cert.Proof.PromptRegion

open Idealize.ShloMosaic Idealize.ShloMosaic.TcCoe Cert.PromptIdeal Cert.PromptIdeal.Gen Cert.Proof.Row

variable (V : (c : Dev nD) → (b : Ref sig .tc) → Buf (Elt Ideal) ((c : Thread nD τ).loc b)) (c : Dev nD)

/-! ## The modulation -/

/-- The modulation's blocks: the conditions whole, the weights, biases and results by columns. -/
theorem idx0 : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- Column `j` of block `t`, as a column of the modulation. -/
def col (t : Fin cfg0.N) (j : Fin 1152) : Fin 9216 := ⟨t.val * 1152 + j.val, by have h : t.val < 8 := t.isLt; omega⟩

/-- The block of the conditions. -/
theorem blk0_0 (t : Fin cfg0.N) (r : Fin 40) (k : Fin 1024) : iblk0 V c 0 t (ix2 r k) = V c main_v1 (ix2 r k) := by
  blk_ext [iblk0, idx0 t]

/-- The block of the modulation's weights. -/
theorem blk0_1 (t : Fin cfg0.N) (k : Fin 1024) (j : Fin 1152) : iblk0 V c 1 t (ix2 k j) = V c main_v2 (ix2 k (col t j)) := by
  blk_ext [iblk0, idx0 t, col]

/-- The block of the modulation's biases. -/
theorem blk0_2 (t : Fin cfg0.N) (j : Fin 1152) : iblk0 V c 2 t (ix2 0 j) = V c main_v4 (ix2 0 (col t j)) := by
  blk_ext [iblk0, idx0 t, col]

/-- The modulation as an array over the arrays found. -/
def adaArr : (⟨S40x9216, .f32⟩ : BufTy).Contents (Elt Ideal) :=
  fun y => adaCol (fun k => V c main_v1 (ix2 (y 0) k)) (fun k => V c main_v2 (ix2 k (y 1))) (V c main_v4 (ix2 0 (y 1)))

/-- The modulation's result. -/
theorem ada_final : (dat0 V c).arrAt 3 cfg0.N = adaArr V c := by
  refine (dat0 V c).arrAt_eq_of_covers 3 _ (by decide +kernel) fun t hf y => ?_
  blk_simp
  rw [after0_3]
  obtain ⟨r, j, rfl⟩ : ∃ (r : Fin 40) (j : Fin 1152), y = ix2 r j := ⟨y 0, y 1, eq_ix2 y⟩
  have he : ((cfg0.win 3).blk t).view.emb (ix2 r j) = ix2 r (col t j) := by
    blk_ext [idx0 t, col]
  refine (PromptPay.ada_apply _ _ _ r j).trans ?_
  refine Eq.trans ?_ (congrArg _ he.symm)
  simp only [blk0_0 V c t, blk0_1 V c t, blk0_2 V c t]
  rfl

/-! ## The first feed-forward sublayer -/

/-- The feed-forward's blocks: the rows of the point. -/
theorem idx1 : ∀ t : Fin cfg1.N, win1_0.index t = ![t.val, 0] ∧ win1_9.index t = ![t.val, 0] :=
  (by decide +kernel : ∀ t : Fin grid1.N, _)

/-- The windows staged whole stay at the origin. -/
theorem idx1w : ∀ t : Fin cfg1.N, win1_1.index t = ![0, 0] ∧ win1_2.index t = ![0, 0] ∧ win1_3.index t = ![0, 0] ∧ win1_4.index t = ![0, 0]
    ∧ win1_5.index t = ![0, 0] ∧ win1_6.index t = ![0, 0] ∧ win1_7.index t = ![0, 0] ∧ win1_8.index t = ![0, 0] :=
  (by decide +kernel : ∀ t : Fin grid1.N, _)

/-- Row `r` of point `t`, as a row of the array. -/
def row1 (t : Fin cfg1.N) (r : Fin 512) : Fin 16384 := ⟨t.val * 512 + r.val, by have h : t.val < 32 := t.isLt; omega⟩

variable (t : Fin cfg1.N)

/-- The block of the tokens' rows. -/
theorem blk1_0 (r : Fin 512) (k : Fin 1024) : iblk1 V c 0 t (ix2 r k) = V c main_v14 (ix2 (row1 t r) k) := by
  blk_ext [iblk1, idx1 t, row1]

/-- The shift, whole. -/
theorem blk1_1 (k : Fin 1024) : iblk1 V c 1 t (ix2 0 k) = V c main_v35 (ix2 0 k) := by
  blk_ext [iblk1, idx1w t]

/-- The scale, whole. -/
theorem blk1_2 (k : Fin 1024) : iblk1 V c 2 t (ix2 0 k) = V c main_v37 (ix2 0 k) := by
  blk_ext [iblk1, idx1w t]

/-- The gate, whole. -/
theorem blk1_3 (k : Fin 1024) : iblk1 V c 3 t (ix2 0 k) = V c main_v39 (ix2 0 k) := by
  blk_ext [iblk1, idx1w t]

/-- The norm's gain, whole. -/
theorem blk1_4 (k : Fin 1024) : iblk1 V c 4 t (ix2 0 k) = V c main_v44 (ix2 0 k) := by
  blk_ext [iblk1, idx1w t]

/-- The norm's bias, whole. -/
theorem blk1_5 (k : Fin 1024) : iblk1 V c 5 t (ix2 0 k) = V c main_v45 (ix2 0 k) := by
  blk_ext [iblk1, idx1w t]

/-- The gate's weights, whole. -/
theorem blk1_6 (a : Fin 1024) (b : Fin 2816) : iblk1 V c 6 t (ix2 a b) = V c main_v9 (ix2 a b) := by
  blk_ext [iblk1, idx1w t]

/-- The up projection's weights, whole. -/
theorem blk1_7 (a : Fin 1024) (b : Fin 2816) : iblk1 V c 7 t (ix2 a b) = V c main_v11 (ix2 a b) := by
  blk_ext [iblk1, idx1w t]

/-- The down projection's weights, whole. -/
theorem blk1_8 (a : Fin 2816) (b : Fin 1024) : iblk1 V c 8 t (ix2 a b) = V c main_v13 (ix2 a b) := by
  blk_ext [iblk1, idx1w t]

/-- The rows after the first sublayer, over the arrays found. -/
def ffnArr : (⟨S16384x1024, .f32⟩ : BufTy).Contents (Elt Ideal) := fun y =>
  ffnRow (fun k => V c main_v14 (ix2 (y 0) k)) (fun k => V c main_v35 (ix2 0 k)) (fun k => V c main_v37 (ix2 0 k)) (fun k => V c main_v39 (ix2 0 k))
    (fun k => V c main_v44 (ix2 0 k)) (fun k => V c main_v45 (ix2 0 k)) (fun a b => V c main_v9 (ix2 a b)) (fun a b => V c main_v11 (ix2 a b))
    (fun a b => V c main_v13 (ix2 a b)) (y 1)

/-- The first sublayer's result. -/
theorem ffn_final : (dat1 V c).arrAt 9 cfg1.N = ffnArr V c := by
  refine (dat1 V c).arrAt_eq_of_covers 9 _ (by decide +kernel) fun t hf y => ?_
  blk_simp
  rw [after1_9]
  obtain ⟨r, j, rfl⟩ : ∃ (r : Fin 512) (j : Fin 1024), y = ix2 r j := ⟨y 0, y 1, eq_ix2 y⟩
  have he : ((cfg1.win 9).blk t).view.emb (ix2 r j) = ix2 (row1 t r) j := by
    blk_ext [idx1 t, row1]
  refine (PromptPay.ffn_apply _ _ _ _ _ _ _ _ _ r j).trans ?_
  refine Eq.trans ?_ (congrArg _ he.symm)
  simp only [blk1_0 V c t, blk1_1 V c t, blk1_2 V c t, blk1_3 V c t, blk1_4 V c t, blk1_5 V c t, blk1_6 V c t, blk1_7 V c t, blk1_8 V c t]
  rfl

/-! ## The input projection -/

/-- The projection's blocks: the rows of the point, the modulation and weights whole. -/
theorem idx2 : ∀ t : Fin cfg2.N, win2_0.index t = ![t.val, 0] ∧ win2_1.index t = ![0, 0] ∧ win2_2.index t = ![0, 0] ∧ win2_3.index t = ![0, 0]
    ∧ win2_5.index t = ![t.val, 0] ∧ win2_6.index t = ![t.val, 0] ∧ win2_8.index t = ![t.val, 0] :=
  (by decide +kernel : ∀ t : Fin grid2.N, _)

/-- Row `r` of point `t`, as a row of the array. -/
def row2 (t : Fin cfg2.N) (r : Fin 512) : Fin 16384 := ⟨t.val * 512 + r.val, by have h : t.val < 32 := t.isLt; omega⟩

/-- The block of the rows. -/
theorem blk2_0 (t : Fin cfg2.N) (r : Fin 512) (k : Fin 1024) : iblk2 V c 0 t (ix2 r k) = V c main_v46 (ix2 (row2 t r) k) := by
  blk_ext [iblk2, idx2 t, row2]

/-- The shift, whole. -/
theorem blk2_1 (t : Fin cfg2.N) (k : Fin 1024) : iblk2 V c 1 t (ix2 0 k) = V c main_v48 (ix2 0 k) := by
  blk_ext [iblk2, idx2 t]

/-- The scale, whole. -/
theorem blk2_2 (t : Fin cfg2.N) (k : Fin 1024) : iblk2 V c 2 t (ix2 0 k) = V c main_v50 (ix2 0 k) := by
  blk_ext [iblk2, idx2 t]

/-- The rearranged weights, whole. -/
theorem blk2_3 (t : Fin cfg2.N) (a : Fin 1024) (b : Fin 3328) : iblk2 V c 3 t (ix2 a b) = V c main_v33 (ix2 a b) := by
  blk_ext [iblk2, idx2 t]

/-- Column `j` of row `r` of the projection, over the arrays found. -/
def projAt (r : Fin 16384) (j : Fin 3328) : EReal :=
  colOf (modul (fun k => V c main_v46 (ix2 r k)) (fun k => V c main_v50 (ix2 0 k)) (fun k => V c main_v48 (ix2 0 k))) (fun k => V c main_v33 (ix2 k j))

/-- The keys' and values' columns. -/
def kvArr : (⟨S16384x512, .f32⟩ : BufTy).Contents (Elt Ideal) := fun y => projAt V c (y 0) ⟨512 + (y 1).val, by have h : (y 1).val < 512 := (y 1).isLt; omega⟩

/-- The window's columns. -/
def winArr : (⟨S16384x256, .f32⟩ : BufTy).Contents (Elt Ideal) := fun y => projAt V c (y 0) ⟨1024 + (y 1).val, by have h : (y 1).val < 256 := (y 1).isLt; omega⟩

/-- The recurrence's columns. -/
def rwArr : (⟨S16384x1920, .f32⟩ : BufTy).Contents (Elt Ideal) := fun y => projAt V c (y 0) ⟨1408 + (y 1).val, by have h : (y 1).val < 1920 := (y 1).isLt; omega⟩

/-- The keys and values the projection leaves. -/
theorem kv_final : (dat2 V c).arrAt 5 cfg2.N = kvArr V c := by
  refine (dat2 V c).arrAt_eq_of_covers 5 _ (by decide +kernel) fun t hf y => ?_
  blk_simp
  rw [after2_5]
  obtain ⟨r, j, rfl⟩ : ∃ (r : Fin 512) (j : Fin 512), y = ix2 r j := ⟨y 0, y 1, eq_ix2 y⟩
  have he : ((cfg2.win 5).blk t).view.emb (ix2 r j) = ix2 (row2 t r) j := by
    blk_ext [idx2 t, row2]
  refine (PromptPay.kv_apply _ _ _ _ _ r j).trans ?_
  refine Eq.trans ?_ (congrArg _ he.symm)
  simp only [blk2_0 V c t, blk2_1 V c t, blk2_2 V c t, blk2_3 V c t]
  rfl

/-- The window's keys and values the projection leaves. -/
theorem win_final : (dat2 V c).arrAt 6 cfg2.N = winArr V c := by
  refine (dat2 V c).arrAt_eq_of_covers 6 _ (by decide +kernel) fun t hf y => ?_
  blk_simp
  rw [after2_6]
  obtain ⟨r, j, rfl⟩ : ∃ (r : Fin 512) (j : Fin 256), y = ix2 r j := ⟨y 0, y 1, eq_ix2 y⟩
  have he : ((cfg2.win 6).blk t).view.emb (ix2 r j) = ix2 (row2 t r) j := by
    blk_ext [idx2 t, row2]
  refine (PromptPay.win_apply _ _ _ _ _ r j).trans ?_
  refine Eq.trans ?_ (congrArg _ he.symm)
  simp only [blk2_0 V c t, blk2_1 V c t, blk2_2 V c t, blk2_3 V c t]
  rfl

/-- The recurrence's columns the projection leaves. -/
theorem rw_final : (dat2 V c).arrAt 8 cfg2.N = rwArr V c := by
  refine (dat2 V c).arrAt_eq_of_covers 8 _ (by decide +kernel) fun t hf y => ?_
  blk_simp
  rw [after2_8]
  obtain ⟨r, j, rfl⟩ : ∃ (r : Fin 512) (j : Fin 1920), y = ix2 r j := ⟨y 0, y 1, eq_ix2 y⟩
  have he : ((cfg2.win 8).blk t).view.emb (ix2 r j) = ix2 (row2 t r) j := by
    blk_ext [idx2 t, row2]
  refine (PromptPay.rw_apply _ _ _ _ _ r j).trans ?_
  refine Eq.trans ?_ (congrArg _ he.symm)
  simp only [blk2_0 V c t, blk2_1 V c t, blk2_2 V c t, blk2_3 V c t]
  rfl

end Cert.Proof.PromptRegion

end
-- ==== Proof.PromptRef.lean ====
/-
  The prompt's reference program read at an index: the modulation, the first feed-forward sublayer and the input
  projection of a token's row.
-/
module

public import proofs.«01_k».proof.Proof.Into
public import proofs.«01_k».proof.Proof.Gen.PromptRefIdeal.Read

@[expose] public section

set_option maxRecDepth 16384

noncomputable section

namespace Cert.Proof.PromptRef

open Idealize.ShloMosaic Cert.PromptRefIdeal Cert.PromptRefIdeal.Gen Cert.PromptRefIdeal.Read Cert.Proof.Row

variable (x0 : Vec Ideal S1x16384x1024 .f32) (x1 : Vec Ideal S1x1024 .f32) (x3 : Vec Ideal S1x1024x9216 .f32) (x4 : Vec Ideal S1x9216 .f32)
  (x5 x6 : Vec Ideal S1x3x1024 .f32) (x7 x8 : Vec Ideal S1x1024x2816 .f32) (x9 : Vec Ideal S1x2816x1024 .f32)
  (x10 : Vec Ideal S1x1024x3000 .f32) (r : Fin 16384) (j : Fin 1024)

/-- One entry of the modulation, over all nine rows side by side. -/
theorem v5_apply (n : Fin 9216) : val_main_v5 (F := Ideal) x1 x3 x4 (ix2 0 n)
    = adaCol (fun k => x1 (ix2 0 k)) (fun k => x3 (ix3 0 k n)) (x4 (ix2 0 n)) := by
  pointwise [val_main_v5, val_main_v4, val_main_v3, val_main_v2, val_main_v1, val_main_v0, val_main_call0_v0, val_main_call0_v1, val_main_call0_v2, val_main_call0_v3, val_main_call0_v4, val_main_call0_v5, val_main_call0_cst, val_main_call0_cst_0, adaCol]
  rfl

/-- Row 1 of the modulation. -/
theorem v8_apply : val_main_v8 (F := Ideal) x1 x3 x4 (ix3 0 0 j) = modRow (fun k => x1 (ix2 0 k)) (fun a b => x3 (ix3 0 a b)) (fun b => x4 (ix2 0 b)) 1 j := by
  pointwise [val_main_v8, val_main_v7, val_main_v6]
  exact v5_apply x1 x3 x4 (mcol 1 j)

/-- Row 0 of the modulation. -/
theorem v14_apply : val_main_v14 (F := Ideal) x1 x3 x4 (ix3 0 0 j) = modRow (fun k => x1 (ix2 0 k)) (fun a b => x3 (ix3 0 a b)) (fun b => x4 (ix2 0 b)) 0 j := by
  pointwise [val_main_v14, val_main_v13, val_main_v6]
  rw [show (⟨j.val, by omega⟩ : Fin 9216) = mcol 0 j from Fin.ext (by simp [mcol])]
  exact v5_apply x1 x3 x4 (mcol 0 j)

/-- Row 2 of the modulation. -/
theorem v30_apply : val_main_v30 (F := Ideal) x1 x3 x4 (ix3 0 0 j) = modRow (fun k => x1 (ix2 0 k)) (fun a b => x3 (ix3 0 a b)) (fun b => x4 (ix2 0 b)) 2 j := by
  pointwise [val_main_v30, val_main_v29, val_main_v6]
  exact v5_apply x1 x3 x4 (mcol 2 j)

/-- Row 4 of the modulation. -/
theorem v67_apply : val_main_v67 (F := Ideal) x1 x3 x4 (ix3 0 0 j) = modRow (fun k => x1 (ix2 0 k)) (fun a b => x3 (ix3 0 a b)) (fun b => x4 (ix2 0 b)) 4 j := by
  pointwise [val_main_v67, val_main_v66, val_main_v6]
  exact v5_apply x1 x3 x4 (mcol 4 j)

/-- Row 3 of the modulation. -/
theorem v73_apply : val_main_v73 (F := Ideal) x1 x3 x4 (ix3 0 0 j) = modRow (fun k => x1 (ix2 0 k)) (fun a b => x3 (ix3 0 a b)) (fun b => x4 (ix2 0 b)) 3 j := by
  pointwise [val_main_v73, val_main_v72, val_main_v6]
  exact v5_apply x1 x3 x4 (mcol 3 j)

/-- The modulated row. -/
theorem v16_apply : val_main_v16 (F := Ideal) x0 x1 x3 x4 (ix3 0 r j)
    = modul (fun k => x0 (ix3 0 r k)) (modRow (fun k => x1 (ix2 0 k)) (fun a b => x3 (ix3 0 a b)) (fun b => x4 (ix2 0 b)) 1) (modRow (fun k => x1 (ix2 0 k)) (fun a b => x3 (ix3 0 a b)) (fun b => x4 (ix2 0 b)) 0) j := by
  pointwise [val_main_v16, val_main_v15, val_main_v12, val_main_v11, val_main_v10, val_main_v9, val_main_cst]
  simp only [v8_apply, v14_apply]
  pointwise [modul]

/-- The feed-forward block of the modulated row, halved. -/
theorem v26_apply : val_main_v26 (F := Ideal) x0 x1 x3 x4 x7 x8 x9 (ix3 0 r j)
    = halfFf (modul (fun k => x0 (ix3 0 r k)) (modRow (fun k => x1 (ix2 0 k)) (fun a b => x3 (ix3 0 a b)) (fun b => x4 (ix2 0 b)) 1) (modRow (fun k => x1 (ix2 0 k)) (fun a b => x3 (ix3 0 a b)) (fun b => x4 (ix2 0 b)) 0))
        (fun a b => x7 (ix3 0 a b)) (fun a b => x8 (ix3 0 a b)) (fun a b => x9 (ix3 0 a b)) j := by
  pointwise [val_main_v26, val_main_v25, val_main_v24, val_main_v23, val_main_v22, val_main_v21, val_main_v20, val_main_v19, val_main_v18, val_main_v17, val_main_cst_0, val_main_call1_v0, val_main_call1_v1, val_main_call1_v2, val_main_call1_v3, val_main_call1_v4, val_main_call1_v5, val_main_call1_cst, val_main_call1_cst_0]
  simp only [v16_apply]
  rfl

/-- The residual sum. -/
theorem v35_apply : val_main_v35 (F := Ideal) x0 x1 x3 x4 x7 x8 x9 (ix3 0 r j)
    = resid (fun k => x0 (ix3 0 r k)) (modRow (fun k => x1 (ix2 0 k)) (fun a b => x3 (ix3 0 a b)) (fun b => x4 (ix2 0 b)) 2)
        (halfFf (modul (fun k => x0 (ix3 0 r k)) (modRow (fun k => x1 (ix2 0 k)) (fun a b => x3 (ix3 0 a b)) (fun b => x4 (ix2 0 b)) 1) (modRow (fun k => x1 (ix2 0 k)) (fun a b => x3 (ix3 0 a b)) (fun b => x4 (ix2 0 b)) 0))
          (fun a b => x7 (ix3 0 a b)) (fun a b => x8 (ix3 0 a b)) (fun a b => x9 (ix3 0 a b))) j := by
  pointwise [val_main_v35, val_main_v34, val_main_v33, val_main_v32, val_main_v31, val_main_v28, val_main_v27, val_main_cst_1, val_main_cst_2]
  simp only [v26_apply, v30_apply]
  pointwise [resid]

/-- The residual sum's mean. -/
theorem v45_apply : val_main_v45 (F := Ideal) x0 x1 x3 x4 x7 x8 x9 (ix3 0 r 0) = mean fun k => val_main_v35 (F := Ideal) x0 x1 x3 x4 x7 x8 x9 (ix3 0 r k) := by
  pointwise [val_main_v45, val_main_v44, val_main_v43, val_main_v42, val_main_cst_3, val_main_cst_4, mean]

/-- The residual sum's variance. -/
theorem v52_apply : val_main_v52 (F := Ideal) x0 x1 x3 x4 x7 x8 x9 (ix3 0 r 0) = var fun k => val_main_v35 (F := Ideal) x0 x1 x3 x4 x7 x8 x9 (ix3 0 r k) := by
  pointwise [val_main_v52, val_main_v51, val_main_v50, val_main_v49, val_main_v48, val_main_v47, val_main_v46, val_main_cst_5, val_main_cst_6]
  simp only [v45_apply]
  rfl

/-- The row after the sublayer's norm. -/
theorem v65_apply : val_main_v65 (F := Ideal) x0 x1 x3 x4 x5 x6 x7 x8 x9 (ix3 0 r j)
    = ffnRow (fun k => x0 (ix3 0 r k)) (modRow (fun k => x1 (ix2 0 k)) (fun a b => x3 (ix3 0 a b)) (fun b => x4 (ix2 0 b)) 0) (modRow (fun k => x1 (ix2 0 k)) (fun a b => x3 (ix3 0 a b)) (fun b => x4 (ix2 0 b)) 1) (modRow (fun k => x1 (ix2 0 k)) (fun a b => x3 (ix3 0 a b)) (fun b => x4 (ix2 0 b)) 2)
        (fun k => x5 (ix3 0 0 k)) (fun k => x6 (ix3 0 0 k)) (fun a b => x7 (ix3 0 a b)) (fun a b => x8 (ix3 0 a b)) (fun a b => x9 (ix3 0 a b)) j := by
  pointwise [val_main_v65, val_main_v64, val_main_v63, val_main_v62, val_main_v61, val_main_v60, val_main_v59, val_main_v58, val_main_v57, val_main_v56, val_main_v55, val_main_v54, val_main_v53, val_main_v41, val_main_v40, val_main_v39, val_main_v38, val_main_v37, val_main_v36, val_main_cst_7]
  simp only [v45_apply, v52_apply, v35_apply]
  rfl

/-- The row that the projection takes. -/
theorem v75_apply : val_main_v75 (F := Ideal) x0 x1 x3 x4 x5 x6 x7 x8 x9 (ix3 0 r j)
    = intoRow (fun k => x0 (ix3 0 r k)) (fun k => x1 (ix2 0 k)) (fun a b => x3 (ix3 0 a b)) (fun b => x4 (ix2 0 b)) (fun k => x5 (ix3 0 0 k)) (fun k => x6 (ix3 0 0 k)) (fun a b => x7 (ix3 0 a b)) (fun a b => x8 (ix3 0 a b)) (fun a b => x9 (ix3 0 a b)) j := by
  pointwise [val_main_v75, val_main_v74, val_main_v71, val_main_v70, val_main_v69, val_main_v68, val_main_cst_8]
  simp only [v65_apply, v67_apply, v73_apply]
  pointwise [intoRow, modul]

/-- One column of the projection. -/
theorem v77_apply (n : Fin 3000) : val_main_v77 (F := Ideal) x0 x1 x3 x4 x5 x6 x7 x8 x9 x10 (ix3 0 r n)
    = colOf (intoRow (fun k => x0 (ix3 0 r k)) (fun k => x1 (ix2 0 k)) (fun a b => x3 (ix3 0 a b)) (fun b => x4 (ix2 0 b)) (fun k => x5 (ix3 0 0 k)) (fun k => x6 (ix3 0 0 k)) (fun a b => x7 (ix3 0 a b)) (fun a b => x8 (ix3 0 a b)) (fun a b => x9 (ix3 0 a b))) (fun k => x10 (ix3 0 k n)) := by
  pointwise [val_main_v77, val_main_v76]
  simp only [v75_apply]
  rfl

/-- The key and value rows that the reference returns: four kinds, two heads each. -/
theorem v112_apply (n : Fin 4) (h : Fin 2) (d : Fin 64) : val_main_v112 (F := Ideal) x0 x1 x3 x4 x5 x6 x7 x8 x9 x10 (ix6 0 0 r n h d)
    = val_main_v77 (F := Ideal) x0 x1 x3 x4 x5 x6 x7 x8 x9 x10 (ix3 0 r ⟨512 + 128 * n.val + 64 * h.val + d.val, by omega⟩) := by
  fin_cases n <;> pointwise [val_main_v112, val_main_v106, val_main_v105, val_main_v104, val_main_v103, val_main_v102, val_main_v98, val_main_v97, val_main_v96, val_main_v95, val_main_v83, val_main_v82, val_main_v81, val_main_v80, val_main_v78]
  all_goals exact congrArg (fun a => val_main_v77 (F := Ideal) x0 x1 x3 x4 x5 x6 x7 x8 x9 x10 (ix3 0 r a)) (Fin.ext (by simp only [Fin.val_mk]; omega))

/-- The window's rows that the reference returns: the last 512 tokens, two kinds, two heads each. -/
theorem v114_apply (t : Fin 512) (n : Fin 2) (h : Fin 2) (d : Fin 64) : val_main_v114 (F := Ideal) x0 x1 x3 x4 x5 x6 x7 x8 x9 x10 (ix6 0 0 t n h d)
    = val_main_v77 (F := Ideal) x0 x1 x3 x4 x5 x6 x7 x8 x9 x10 (ix3 0 ⟨15872 + t.val, by omega⟩ ⟨1024 + 128 * n.val + 64 * h.val + d.val, by omega⟩) := by
  fin_cases n <;> pointwise [val_main_v114, val_main_v113, val_main_v109, val_main_v108, val_main_v107, val_main_v100, val_main_v99, val_main_v85, val_main_v84, val_main_v78]
  all_goals exact congrArg (fun a => val_main_v77 (F := Ideal) x0 x1 x3 x4 x5 x6 x7 x8 x9 x10 (ix3 0 _ a)) (Fin.ext (by simp only [Fin.val_mk]; omega))

/-- The last token's columns of the recurrence that the reference returns. -/
theorem v115_apply (n : Fin 1696) : val_main_v115 (F := Ideal) x0 x1 x3 x4 x5 x6 x7 x8 x9 x10 (ix3 0 0 n)
    = val_main_v77 (F := Ideal) x0 x1 x3 x4 x5 x6 x7 x8 x9 x10 (ix3 0 16383 ⟨1304 + n.val, by omega⟩) := by
  pointwise [val_main_v115, val_main_v111, val_main_v110, val_main_v101]

end Cert.Proof.PromptRef

end
-- ==== Proof.PromptRun.lean ====
/-
  The prompt's program run to its end, every array read there: the boundary contents after its last host line.
-/
module

public import proofs.«01_k».proof.Proof.Into
public import proofs.«01_k».proof.Proof.Gen.PromptIdeal.Frame

@[expose] public section

set_option maxRecDepth 16384

noncomputable section

namespace Cert.Proof.PromptRun

open Idealize.ShloMosaic Idealize.ShloMosaic.TcCoe Idealize.ShloMosaic.Tactic Cert.PromptIdeal Cert.PromptIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

set_option backward.isDefEq.respectTransparency.types false in
/-- Every execution of the prompt's program ends, and then each array of the host has its contents after the last
    host line. -/
theorem run : θ_run defs (onTc (τ := τ) (main (F := Ideal))) ⟨m, fun _ => 0, ρ⟩
    (fun r => ∀ (c : Dev nD), ∀ b ∈ Pipeline.ucRefs τ sig, r.2.mem (((c : Thread nD τ)).1, b) = W15 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htok; imodintro
      isplitl [Htok]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Htok
      iapply (show (BI.emp : sProp (MT nD τ sig Unit (Elt Ideal) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun c => by
        dsimp only [Pipeline.Seg.post, hseg, Pipeline.HostSeg.ofOps]
        iintro ⟨Hheld, Hreg, HO⟩
        isplitl [Hheld Hreg]
        · isplitl [Hheld]; · iexact Hheld
          iexact Hreg
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, HO, -, Hreg, -⟩, -⟩
      imodintro
      isplitl [Hheld]; · iexact Hheld
      isplitl [Hreg]; · iexists _; iexact Hreg
      iexists ∅; iexact HO)
    (QY := fun c s => ∀ b ∈ Pipeline.ucRefs τ sig, s.mem (((c : Thread nD τ)).1, b) = W15 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W15 m ρ c) s')
      isplitl [Hheld] <;> iassumption)
    (hQ := fun s h _ => h)

end Cert.Proof.PromptRun

end
-- ==== Proof.PromptValue.lean ====
/-
  The prompt's program: its results after the run, and their agreement with the reference.
-/
module

public import proofs.«01_k».proof.Defs
public import proofs.«01_k».proof.Proof.PromptHost
public import proofs.«01_k».proof.Proof.PromptRegion
public import proofs.«01_k».proof.Proof.PromptRef
public import proofs.«01_k».proof.Proof.PromptRun
public import proofs.«01_k».proof.Proof.Gen.PromptRefIdeal.Run

@[expose] public section

set_option maxRecDepth 16384

noncomputable section

namespace Cert.Proof.PromptValue

open Idealize.ShloMosaic Idealize.SL.Sem Idealize.ShloMosaic.TcCoe Cert.PromptIdeal Cert.PromptIdeal.Gen Cert.Proof.Row Cert.Proof.PromptHost
  Cert.Proof.PromptRegion

variable (m : (ℓ : Loc nD τ sig) → Buf (Elt Ideal) ℓ) (ρ : Dev nD → PrngReg) (c : Dev nD)

/-! ## The modulation -/

/-- The prompt's modulation row `i`, over the arguments. -/
def mods (i : Fin 9) (k : Fin 1024) : EReal :=
  modRow (fun k => m ((c : Thread nD τ).loc main_arg1) (ix2 0 k)) (fun a b => m ((c : Thread nD τ).loc main_arg3) (ix3 0 a b))
    (fun b => m ((c : Thread nD τ).loc main_arg4) (ix2 0 b)) i k

/-- The first row of the modulation's result. -/
theorem w2_v5 (j : Fin 9216) : W2 m ρ c (Proc.devRef .tc main_v5) (ix2 0 j)
    = adaCol (fun k => m ((c : Thread nD τ).loc main_arg1) (ix2 0 k)) (fun k => m ((c : Thread nD τ).loc main_arg3) (ix3 0 k j))
        (m ((c : Thread nD τ).loc main_arg4) (ix2 0 j)) := by
  refine (congrFun ((W2_arr m ρ c 3).trans (ada_final (V1 m ρ) c)) (ix2 0 j)).trans ?_
  change adaCol (fun k => StableHlo.after hostOps0 (W0 m ρ c) (Proc.devRef .tc main_v1) (ix2 0 k))
    (fun k => StableHlo.after hostOps0 (W0 m ρ c) (Proc.devRef .tc main_v2) (ix2 k j))
    (StableHlo.after hostOps0 (W0 m ρ c) (Proc.devRef .tc main_v4) (ix2 0 j)) = _
  exact (congrArg₂ (fun f g => adaCol f g (StableHlo.after hostOps0 (W0 m ρ c) (Proc.devRef .tc main_v4) (ix2 0 j)))
    (funext fun k => v1_apply (W0 m ρ c) k) (funext fun k => v2_apply (W0 m ρ c) k j)).trans (congrArg (adaCol _ _) (v4_apply (W0 m ρ c) j))

/-- The rows of the modulation. -/
theorem w3_v7 (i : Fin 9) (k : Fin 1024) : W3 m ρ c (Proc.devRef .tc main_v7) (ix3 i 0 k) = mods m c i k := by
  refine (v7_apply (W2 m ρ c) i k).trans ?_
  rw [w2_v5]
  rfl

/-- An array of the first host lines after the modulation, until the last of them before the feed-forward. -/
theorem w10_of (r : Ref sig .tc) (h1 : r ∉ hostOps1_1_W) (h2 : r ∉ hostOps1_2_W) (h3 : r ∉ hostOps1_3_W) (h4 : r ∉ hostOps1_4_W)
    (h5 : r ∉ hostOps1_5_W) (h6 : r ∉ hostOps1_6_W) (h7 : r ∉ hostOps1_7_W) :
    W10 m ρ c (Proc.devRef .tc r) = W3 m ρ c (Proc.devRef .tc r) :=
  ((((((W10_of m ρ c r h7).trans (W9_of m ρ c r h6)).trans (W8_of m ρ c r h5)).trans (W7_of m ρ c r h4)).trans (W6_of m ρ c r h3)).trans
    (W5_of m ρ c r h2)).trans (W4_of m ρ c r h1)

/-- The modulation's rows before the feed-forward. -/
theorem w10_v7 (i : Fin 9) (k : Fin 1024) : W10 m ρ c (Proc.devRef .tc main_v7) (ix3 i 0 k) = mods m c i k :=
  (congrFun (w10_of m ρ c main_v7 (by decide) (by decide) (by decide) (by decide) (by decide) (by decide) (by decide)) _).trans (w3_v7 m ρ c i k)

/-! ## The feed-forward's operands -/

/-- The tokens' rows. -/
theorem w11_v14 (r : Fin 16384) (k : Fin 1024) : W11 m ρ c (Proc.devRef .tc main_v14) (ix2 r k) = m ((c : Thread nD τ).loc main_arg0) (ix3 0 r k) :=
  (congrFun ((W11_of m ρ c main_v14 (by decide)).trans
    (w10_of m ρ c main_v14 (by decide) (by decide) (by decide) (by decide) (by decide) (by decide) (by decide))) _).trans
    ((v14_apply (W2 m ρ c) r k).trans (congrFun (W2_args m ρ c main_arg0 (by decide)) _))

/-- The gate's weights. -/
theorem w11_v9 (a : Fin 1024) (b : Fin 2816) : W11 m ρ c (Proc.devRef .tc main_v9) (ix2 a b) = m ((c : Thread nD τ).loc main_arg7) (ix3 0 a b) :=
  (congrFun ((W11_of m ρ c main_v9 (by decide)).trans
    (w10_of m ρ c main_v9 (by decide) (by decide) (by decide) (by decide) (by decide) (by decide) (by decide))) _).trans
    ((v9_apply (W2 m ρ c) a b).trans (congrFun (W2_args m ρ c main_arg7 (by decide)) _))

/-- The up projection's weights. -/
theorem w11_v11 (a : Fin 1024) (b : Fin 2816) : W11 m ρ c (Proc.devRef .tc main_v11) (ix2 a b) = m ((c : Thread nD τ).loc main_arg8) (ix3 0 a b) :=
  (congrFun ((W11_of m ρ c main_v11 (by decide)).trans
    (w10_of m ρ c main_v11 (by decide) (by decide) (by decide) (by decide) (by decide) (by decide) (by decide))) _).trans
    ((v11_apply (W2 m ρ c) a b).trans (congrFun (W2_args m ρ c main_arg8 (by decide)) _))

/-- The down projection's weights. -/
theorem w11_v13 (a : Fin 2816) (b : Fin 1024) : W11 m ρ c (Proc.devRef .tc main_v13) (ix2 a b) = m ((c : Thread nD τ).loc main_arg9) (ix3 0 a b) :=
  (congrFun ((W11_of m ρ c main_v13 (by decide)).trans
    (w10_of m ρ c main_v13 (by decide) (by decide) (by decide) (by decide) (by decide) (by decide) (by decide))) _).trans
    ((v13_apply (W2 m ρ c) a b).trans (congrFun (W2_args m ρ c main_arg9 (by decide)) _))

/-- The first sublayer's shift. -/
theorem w11_v35 (k : Fin 1024) : W11 m ρ c (Proc.devRef .tc main_v35) (ix2 0 k) = mods m c 0 k :=
  (v35_apply (W10 m ρ c) k).trans (w10_v7 m ρ c 0 k)

/-- The first sublayer's scale. -/
theorem w11_v37 (k : Fin 1024) : W11 m ρ c (Proc.devRef .tc main_v37) (ix2 0 k) = mods m c 1 k :=
  (v37_apply (W10 m ρ c) k).trans (w10_v7 m ρ c 1 k)

/-- The first sublayer's gate. -/
theorem w11_v39 (k : Fin 1024) : W11 m ρ c (Proc.devRef .tc main_v39) (ix2 0 k) = mods m c 2 k :=
  (v39_apply (W10 m ρ c) k).trans (w10_v7 m ρ c 2 k)

/-- The first norm's gain. -/
theorem w11_v44 (k : Fin 1024) : W11 m ρ c (Proc.devRef .tc main_v44) (ix2 0 k) = m ((c : Thread nD τ).loc main_arg5) (ix3 0 0 k) :=
  (v44_apply (W10 m ρ c) k).trans (congrFun (W10_args m ρ c main_arg5 (by decide)) _)

/-- The first norm's bias. -/
theorem w11_v45 (k : Fin 1024) : W11 m ρ c (Proc.devRef .tc main_v45) (ix2 0 k) = m ((c : Thread nD τ).loc main_arg6) (ix3 0 0 k) :=
  (v45_apply (W10 m ρ c) k).trans (congrFun (W10_args m ρ c main_arg6 (by decide)) _)

/-! ## The projection's operands -/

/-- The recurrence's columns of the input projection. -/
theorem w3_v17 (k : Fin 1024) (j : Fin 1696) : W3 m ρ c (Proc.devRef .tc main_v17) (ix2 k j) = m ((c : Thread nD τ).loc main_arg10) (ix3 0 k ⟨1304 + j.val, by omega⟩) :=
  (v17_apply (W2 m ρ c) k j).trans (congrFun (W2_args m ρ c main_arg10 (by decide)) _)

/-- The rearranged projection at the attention's columns. -/
theorem w11_v33_attn (k : Fin 1024) (j : Fin 1280) : W11 m ρ c (Proc.devRef .tc main_v33) (ix2 k ⟨j.val, by omega⟩)
    = m ((c : Thread nD τ).loc main_arg10) (ix3 0 k ⟨j.val, by omega⟩) :=
  (v33_attn (W10 m ρ c) k j).trans
    ((congrFun (w10_of m ρ c main_v22 (by decide) (by decide) (by decide) (by decide) (by decide) (by decide) (by decide)) _).trans
      ((v22_apply (W2 m ρ c) k j).trans (congrFun (W2_args m ρ c main_arg10 (by decide)) _)))

/-- The recurrence's columns until the host line that cuts the first of them. -/
theorem w4_v17 (k : Fin 1024) (j : Fin 1696) : W4 m ρ c (Proc.devRef .tc main_v17) (ix2 k j) = m ((c : Thread nD τ).loc main_arg10) (ix3 0 k ⟨1304 + j.val, by omega⟩) :=
  (congrFun (W4_of m ρ c main_v17 (by decide)) _).trans (w3_v17 m ρ c k j)

/-- The recurrence's columns until the host line that cuts the rate's. -/
theorem w6_v17 (k : Fin 1024) (j : Fin 1696) : W6 m ρ c (Proc.devRef .tc main_v17) (ix2 k j) = m ((c : Thread nD τ).loc main_arg10) (ix3 0 k ⟨1304 + j.val, by omega⟩) :=
  (congrFun ((W6_of m ρ c main_v17 (by decide)).trans (W5_of m ρ c main_v17 (by decide))) _).trans (w4_v17 m ρ c k j)

/-- The recurrence's columns until the host line that cuts the gate's. -/
theorem w8_v17 (k : Fin 1024) (j : Fin 1696) : W8 m ρ c (Proc.devRef .tc main_v17) (ix2 k j) = m ((c : Thread nD τ).loc main_arg10) (ix3 0 k ⟨1304 + j.val, by omega⟩) :=
  (congrFun ((W8_of m ρ c main_v17 (by decide)).trans (W7_of m ρ c main_v17 (by decide))) _).trans (w6_v17 m ρ c k j)

/-- The rearranged projection at a column of the recurrence, the padding passed over. -/
theorem w11_v33_rw (k : Fin 1024) (n : Fin 1696) : W11 m ρ c (Proc.devRef .tc main_v33) (ix2 k ⟨1408 + (padCol n).val, by omega⟩)
    = m ((c : Thread nD τ).loc main_arg10) (ix3 0 k ⟨1304 + n.val, by omega⟩) := by
  have fin_at : ∀ {a b : Fin 3328}, a = b → W11 m ρ c (Proc.devRef .tc main_v33) (ix2 k a) = W11 m ρ c (Proc.devRef .tc main_v33) (ix2 k b) :=
    fun h => by rw [h]
  have arg_at : ∀ {a b : Fin 3000}, a = b → m ((c : Thread nD τ).loc main_arg10) (ix3 0 k a) = m ((c : Thread nD τ).loc main_arg10) (ix3 0 k b) :=
    fun h => by rw [h]
  by_cases h1 : n.val < 1536
  · refine (fin_at (b := ⟨1408 + (⟨n.val, h1⟩ : Fin 1536).val, by omega⟩) (Fin.ext ?_)).trans ?_
    · simp only [padCol]; split_ifs <;> simp only [] <;> omega
    refine (v33_rkv (W10 m ρ c) k ⟨n.val, h1⟩).trans ?_
    refine (congrFun (((((W10_of m ρ c main_v24 (by decide)).trans (W9_of m ρ c main_v24 (by decide))).trans (W8_of m ρ c main_v24 (by decide))).trans
      (W7_of m ρ c main_v24 (by decide))).trans (W6_of m ρ c main_v24 (by decide))) _).trans ?_
    exact (v24_apply (W4 m ρ c) k ⟨n.val, h1⟩).trans (w4_v17 m ρ c k _)
  by_cases h2 : n.val < 1568
  · refine (fin_at (b := ⟨2944 + (⟨n.val - 1536, by omega⟩ : Fin 128).val, by omega⟩) (Fin.ext ?_)).trans ?_
    · simp only [padCol]; split_ifs <;> simp only [] <;> omega
    refine (v33_decay (W10 m ρ c) k ⟨n.val - 1536, by omega⟩).trans ?_
    refine (congrFun ((((W10_of m ρ c main_v26 (by decide)).trans (W9_of m ρ c main_v26 (by decide))).trans (W8_of m ρ c main_v26 (by decide))).trans
      (W7_of m ρ c main_v26 (by decide))) _).trans ?_
    refine (v26_apply (W5 m ρ c) k ⟨n.val - 1536, by omega⟩ (by simp only []; omega)).trans ?_
    refine (v25_apply (W4 m ρ c) k ⟨n.val - 1536, by omega⟩).trans ((w4_v17 m ρ c k _).trans (arg_at (Fin.ext ?_)))
    simp only []; omega
  by_cases h3 : n.val < 1600
  · refine (fin_at (b := ⟨3072 + (⟨n.val - 1568, by omega⟩ : Fin 128).val, by omega⟩) (Fin.ext ?_)).trans ?_
    · simp only [padCol]; split_ifs <;> simp only [] <;> omega
    refine (v33_rate (W10 m ρ c) k ⟨n.val - 1568, by omega⟩).trans ?_
    refine (congrFun ((W10_of m ρ c main_v28 (by decide)).trans (W9_of m ρ c main_v28 (by decide))) _).trans ?_
    refine (v28_apply (W7 m ρ c) k ⟨n.val - 1568, by omega⟩ (by simp only []; omega)).trans ?_
    refine (v27_apply (W6 m ρ c) k ⟨n.val - 1568, by omega⟩).trans ((w6_v17 m ρ c k _).trans (arg_at (Fin.ext ?_)))
    simp only []; omega
  · refine (fin_at (b := ⟨3200 + (⟨n.val - 1600, by omega⟩ : Fin 128).val, by omega⟩) (Fin.ext ?_)).trans ?_
    · simp only [padCol]; split_ifs <;> simp only [] <;> omega
    refine (v33_gate (W10 m ρ c) k ⟨n.val - 1600, by omega⟩).trans ?_
    refine (v30_apply (W9 m ρ c) k ⟨n.val - 1600, by omega⟩ (by simp only []; omega)).trans ?_
    refine (v29_apply (W8 m ρ c) k ⟨n.val - 1600, by omega⟩).trans ((w8_v17 m ρ c k _).trans (arg_at (Fin.ext ?_)))
    simp only []; omega

/-- The rows after the first sublayer. -/
theorem w12_v46 (r : Fin 16384) (k : Fin 1024) : W12 m ρ c (Proc.devRef .tc main_v46) (ix2 r k)
    = ffnRow (fun k => m ((c : Thread nD τ).loc main_arg0) (ix3 0 r k)) (mods m c 0) (mods m c 1) (mods m c 2)
        (fun k => m ((c : Thread nD τ).loc main_arg5) (ix3 0 0 k)) (fun k => m ((c : Thread nD τ).loc main_arg6) (ix3 0 0 k))
        (fun a b => m ((c : Thread nD τ).loc main_arg7) (ix3 0 a b)) (fun a b => m ((c : Thread nD τ).loc main_arg8) (ix3 0 a b))
        (fun a b => m ((c : Thread nD τ).loc main_arg9) (ix3 0 a b)) k := by
  refine (congrFun ((W12_arr m ρ c 9).trans (ffn_final (V11 m ρ) c)) (ix2 r k)).trans ?_
  change ffnRow (fun k => W11 m ρ c (Proc.devRef .tc main_v14) (ix2 r k)) (fun k => W11 m ρ c (Proc.devRef .tc main_v35) (ix2 0 k))
    (fun k => W11 m ρ c (Proc.devRef .tc main_v37) (ix2 0 k)) (fun k => W11 m ρ c (Proc.devRef .tc main_v39) (ix2 0 k))
    (fun k => W11 m ρ c (Proc.devRef .tc main_v44) (ix2 0 k)) (fun k => W11 m ρ c (Proc.devRef .tc main_v45) (ix2 0 k))
    (fun a b => W11 m ρ c (Proc.devRef .tc main_v9) (ix2 a b)) (fun a b => W11 m ρ c (Proc.devRef .tc main_v11) (ix2 a b))
    (fun a b => W11 m ρ c (Proc.devRef .tc main_v13) (ix2 a b)) k = _
  simp only [w11_v14 m ρ c, w11_v35 m ρ c, w11_v37 m ρ c, w11_v39 m ρ c, w11_v44 m ρ c, w11_v45 m ρ c, w11_v9 m ρ c, w11_v11 m ρ c, w11_v13 m ρ c]

/-- The modulation's rows before the projection. -/
theorem w12_v7 (i : Fin 9) (k : Fin 1024) : W12 m ρ c (Proc.devRef .tc main_v7) (ix3 i 0 k) = mods m c i k :=
  (congrFun ((W12_of m ρ c main_v7 (by decide +kernel)).trans (W11_of m ρ c main_v7 (by decide))) _).trans (w10_v7 m ρ c i k)

/-- A token's row as the projection takes it. -/
def into (r : Fin 16384) : Fin 1024 → EReal :=
  intoRow (fun k => m ((c : Thread nD τ).loc main_arg0) (ix3 0 r k)) (fun k => m ((c : Thread nD τ).loc main_arg1) (ix2 0 k))
    (fun a b => m ((c : Thread nD τ).loc main_arg3) (ix3 0 a b)) (fun b => m ((c : Thread nD τ).loc main_arg4) (ix2 0 b))
    (fun k => m ((c : Thread nD τ).loc main_arg5) (ix3 0 0 k)) (fun k => m ((c : Thread nD τ).loc main_arg6) (ix3 0 0 k))
    (fun a b => m ((c : Thread nD τ).loc main_arg7) (ix3 0 a b)) (fun a b => m ((c : Thread nD τ).loc main_arg8) (ix3 0 a b))
    (fun a b => m ((c : Thread nD τ).loc main_arg9) (ix3 0 a b))

/-- The projection's columns, over the arguments. -/
theorem projAt_eq (r : Fin 16384) (j : Fin 3328) : projAt (V13 m ρ) c r j
    = colOf (into m c r) (fun k => W11 m ρ c (Proc.devRef .tc main_v33) (ix2 k j)) := by
  have e46 : ∀ k, W13 m ρ c (Proc.devRef .tc main_v46) (ix2 r k) = _ :=
    fun k => (congrFun (W13_of m ρ c main_v46 (by decide)) (ix2 r k)).trans (w12_v46 m ρ c r k)
  have e48 : ∀ k, W13 m ρ c (Proc.devRef .tc main_v48) (ix2 0 k) = mods m c 3 k := fun k => (v48_apply (W12 m ρ c) k).trans (w12_v7 m ρ c 3 k)
  have e50 : ∀ k, W13 m ρ c (Proc.devRef .tc main_v50) (ix2 0 k) = mods m c 4 k := fun k => (v50_apply (W12 m ρ c) k).trans (w12_v7 m ρ c 4 k)
  have e33 : ∀ k, W13 m ρ c (Proc.devRef .tc main_v33) (ix2 k j) = W11 m ρ c (Proc.devRef .tc main_v33) (ix2 k j) :=
    fun k => congrFun ((W13_of m ρ c main_v33 (by decide)).trans (W12_of m ρ c main_v33 (by decide +kernel))) (ix2 k j)
  change colOf (modul (fun k => W13 m ρ c (Proc.devRef .tc main_v46) (ix2 r k)) (fun k => W13 m ρ c (Proc.devRef .tc main_v50) (ix2 0 k))
    (fun k => W13 m ρ c (Proc.devRef .tc main_v48) (ix2 0 k))) (fun k => W13 m ρ c (Proc.devRef .tc main_v33) (ix2 k j)) = _
  simp only [e46, e48, e50, e33]
  rfl

/-- Column `n` of a token's projection. -/
def column (r : Fin 16384) (n : Fin 3000) : EReal := colOf (into m c r) (fun k => m ((c : Thread nD τ).loc main_arg10) (ix3 0 k n))

/-- The keys and values after the run. -/
theorem w15_v52 (r : Fin 16384) (n : Fin 4) (h : Fin 2) (d : Fin 64) : W15 m ρ c (Proc.devRef .tc main_v52) (ix6 0 0 r n h d)
    = column m c r ⟨512 + 128 * n.val + 64 * h.val + d.val, by omega⟩ := by
  refine (v52_apply (W14 m ρ c) r n h d).trans ?_
  refine (congrFun ((W14_arr m ρ c 5).trans (kv_final (V13 m ρ) c)) _).trans ?_
  refine (projAt_eq m ρ c r ⟨512 + (128 * n.val + 64 * h.val + d.val), by omega⟩).trans ?_
  refine congrArg (colOf (into m c r)) (funext fun k => ?_)
  refine (w11_v33_attn m ρ c k ⟨512 + (128 * n.val + 64 * h.val + d.val), by omega⟩).trans ?_
  exact congrArg (fun a => m ((c : Thread nD τ).loc main_arg10) (ix3 0 k a)) (Fin.ext (by simp only []; omega))

/-- The window's keys and values after the run. -/
theorem w15_v54 (t : Fin 512) (n : Fin 2) (h : Fin 2) (d : Fin 64) : W15 m ρ c (Proc.devRef .tc main_v54) (ix6 0 0 t n h d)
    = column m c ⟨15872 + t.val, by omega⟩ ⟨1024 + 128 * n.val + 64 * h.val + d.val, by omega⟩ := by
  refine (v54_apply (W14 m ρ c) t n h d).trans ?_
  refine (congrFun ((W14_arr m ρ c 6).trans (win_final (V13 m ρ) c)) _).trans ?_
  refine (projAt_eq m ρ c ⟨15872 + t.val, by omega⟩ ⟨1024 + (128 * n.val + 64 * h.val + d.val), by omega⟩).trans ?_
  refine congrArg (colOf (into m c _)) (funext fun k => ?_)
  refine (w11_v33_attn m ρ c k ⟨1024 + (128 * n.val + 64 * h.val + d.val), by omega⟩).trans ?_
  exact congrArg (fun a => m ((c : Thread nD τ).loc main_arg10) (ix3 0 k a)) (Fin.ext (by simp only []; omega))

/-- The last token's columns of the recurrence after the run. -/
theorem w15_v62 (n : Fin 1696) : W15 m ρ c (Proc.devRef .tc main_v62) (ix3 0 0 n) = column m c 16383 ⟨1304 + n.val, by omega⟩ := by
  refine (v62_apply (W14 m ρ c) n).trans ?_
  refine (congrFun ((W14_arr m ρ c 8).trans (rw_final (V13 m ρ) c)) _).trans ?_
  refine (projAt_eq m ρ c 16383 ⟨1408 + (padCol n).val, by omega⟩).trans ?_
  exact congrArg (colOf (into m c _)) (funext fun k => w11_v33_rw m ρ c k n)

/-! ## The claim -/

/-- The reference's keys and values of the same arguments. -/
theorem kv_eq : W15 m ρ c (Proc.devRef .tc main_v52) = Cert.PromptRefIdeal.Read.val_main_v112 (F := Ideal)
    (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) := by
  refine funext fun (y : S1x1x16384x4x2x64.Idx) => ?_
  obtain ⟨r, n, h, d, rfl⟩ : ∃ (r : Fin 16384) (n : Fin 4) (h : Fin 2) (d : Fin 64), y = ix6 0 0 r n h d :=
    ⟨y 2, y 3, y 4, y 5, (eq_ix6 y).trans (congrArg₂ (fun a b => ix6 a b (y 2) (y 3) (y 4) (y 5)) (Subsingleton.elim (α := Fin 1) (y 0) 0) (Subsingleton.elim (α := Fin 1) (y 1) 0))⟩
  rw [w15_v52, PromptRef.v112_apply, PromptRef.v77_apply]
  rfl

/-- The reference's window of the same arguments. -/
theorem win_eq : W15 m ρ c (Proc.devRef .tc main_v54) = Cert.PromptRefIdeal.Read.val_main_v114 (F := Ideal)
    (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) := by
  refine funext fun (y : S1x1x512x2x2x64.Idx) => ?_
  obtain ⟨t, n, h, d, rfl⟩ : ∃ (t : Fin 512) (n : Fin 2) (h : Fin 2) (d : Fin 64), y = ix6 0 0 t n h d :=
    ⟨y 2, y 3, y 4, y 5, (eq_ix6 y).trans (congrArg₂ (fun a b => ix6 a b (y 2) (y 3) (y 4) (y 5)) (Subsingleton.elim (α := Fin 1) (y 0) 0) (Subsingleton.elim (α := Fin 1) (y 1) 0))⟩
  rw [w15_v54, PromptRef.v114_apply, PromptRef.v77_apply]
  rfl

/-- The reference's last token of the same arguments. -/
theorem shift_eq : W15 m ρ c (Proc.devRef .tc main_v62) = Cert.PromptRefIdeal.Read.val_main_v115 (F := Ideal)
    (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) := by
  refine funext fun (y : S1x1x1696.Idx) => ?_
  obtain ⟨n, rfl⟩ : ∃ n : Fin 1696, y = ix3 0 0 n :=
    ⟨y 2, (eq_ix3 y).trans (congrArg₂ (fun a b => ix3 a b (y 2)) (Subsingleton.elim (α := Fin 1) (y 0) 0) (Subsingleton.elim (α := Fin 1) (y 1) 0))⟩
  rw [w15_v62, PromptRef.v115_apply, PromptRef.v77_apply]
  rfl

/-- The algebraic claim: from equal arguments, the program's three results are the reference's. -/
theorem algebraic : Cert.algebraic_PromptIdeal_PromptRefIdeal (hPromptIdeal := Cert.PromptIdeal.Gen.facts)
    (hPromptRefIdeal := Cert.PromptRefIdeal.Gen.facts) := by
  intro m g m' g' _ hargs
  refine ⟨fun c => W15 m g c (Proc.devRef .tc main_v52), fun c => W15 m g c (Proc.devRef .tc main_v54), fun c => W15 m g c (Proc.devRef .tc main_v62), ?_, ?_⟩
  · refine (θ_run (Cert.PromptIdeal.defs (F := Ideal)) _ _).mono (fun r h c => ?_) (PromptRun.run m g)
    exact ⟨h c _ (mem_uc main_v52 (by decide)), h c _ (mem_uc main_v54 (by decide)), h c _ (mem_uc main_v62 (by decide)),
      (h c _ (mem_uc main_arg0 (by decide))).trans (W15_main_arg0 m g c), (h c _ (mem_uc main_arg1 (by decide))).trans (W15_main_arg1 m g c),
      (h c _ (mem_uc main_arg2 (by decide))).trans (W15_main_arg2 m g c), (h c _ (mem_uc main_arg3 (by decide))).trans (W15_main_arg3 m g c),
      (h c _ (mem_uc main_arg4 (by decide))).trans (W15_main_arg4 m g c), (h c _ (mem_uc main_arg5 (by decide))).trans (W15_main_arg5 m g c),
      (h c _ (mem_uc main_arg6 (by decide))).trans (W15_main_arg6 m g c), (h c _ (mem_uc main_arg7 (by decide))).trans (W15_main_arg7 m g c),
      (h c _ (mem_uc main_arg8 (by decide))).trans (W15_main_arg8 m g c), (h c _ (mem_uc main_arg9 (by decide))).trans (W15_main_arg9 m g c),
      (h c _ (mem_uc main_arg10 (by decide))).trans (W15_main_arg10 m g c)⟩
  · refine (θ_run (Cert.PromptRefIdeal.defs (F := Ideal)) _ _).mono (fun r h c => ?_) (Cert.PromptRefIdeal.Value.run (F := Ideal) m' g')
    obtain ⟨h0, h1, h2, h3, h4, h5, h6, h7, h8, h9, h10⟩ := hargs c
    refine ⟨(h c).1.trans ((Cert.PromptRefIdeal.Read.val_main_v112_eq (StableHlo.launchContents m' c)).trans ?_),
      (h c).2.1.trans ((Cert.PromptRefIdeal.Read.val_main_v114_eq (StableHlo.launchContents m' c)).trans ?_),
      (h c).2.2.1.trans ((Cert.PromptRefIdeal.Read.val_main_v115_eq (StableHlo.launchContents m' c)).trans ?_), (h c).2.2.2⟩
    · refine Eq.trans ?_ (kv_eq m g c).symm
      rw [← h0, ← h1, ← h3, ← h4, ← h5, ← h6, ← h7, ← h8, ← h9, ← h10]
    · refine Eq.trans ?_ (win_eq m g c).symm
      rw [← h0, ← h1, ← h3, ← h4, ← h5, ← h6, ← h7, ← h8, ← h9, ← h10]
    · refine Eq.trans ?_ (shift_eq m g c).symm
      rw [← h0, ← h1, ← h3, ← h4, ← h5, ← h6, ← h7, ← h8, ← h9, ← h10]

end Cert.Proof.PromptValue

end
-- ==== Proof.SampleHost.lean ====
/-
  What the host lines of the samples' program leave in the arrays they write, read at an index.
-/
module

public import proofs.«01_k».proof.Proof.Into
public import proofs.«01_k».proof.Proof.Gen.SampleIdeal.Launch
public import Idealize.ShloMosaic.Lib.StableHlo.ReadAt

@[expose] public section

set_option maxRecDepth 16384

noncomputable section

namespace Cert.Proof.SampleHost

open Idealize.ShloMosaic Idealize.ShloMosaic.TcCoe Idealize.ShloMosaic.StableHlo Cert.SampleIdeal Cert.SampleIdeal.Gen Cert.Proof.Row

/-- The row of token `t` of sample `b`. -/
abbrev tok (b : Fin 32) (t : Fin 4) : Fin 128 := ⟨4 * b.val + t.val, by omega⟩

variable (V : Valuation τ sig (Elt Ideal))

/-- The rows of conditions after the first are the samples'. -/
theorem v1_apply (b : Fin 32) (k : Fin 1024) : after hostOps0 V (Proc.devRef .tc main_v1) (ix2 ⟨1 + b.val, by omega⟩ k) = V (Proc.devRef .tc main_arg3) (ix2 b k) := by
  after_reads_at

/-- The modulation's weights as a matrix. -/
theorem v2_apply (k : Fin 1024) (j : Fin 9216) : after hostOps0 V (Proc.devRef .tc main_v2) (ix2 k j) = V (Proc.devRef .tc main_arg4) (ix3 0 k j) := by
  after_reads_at

/-- The modulation's biases as a row. -/
theorem v4_apply (j : Fin 9216) : after hostOps0 V (Proc.devRef .tc main_v4) (ix2 0 j) = V (Proc.devRef .tc main_arg5) (ix2 0 j) := by
  after_reads_at

/-- The nine rows of modulation of each token, cut from its sample's row. -/
theorem v10_apply (i : Fin 9) (b : Fin 32) (t : Fin 4) (k : Fin 1024) : after hostOps1 V (Proc.devRef .tc main_v10) (ix3 i (tok b t) k) = V (Proc.devRef .tc main_v5) (ix2 ⟨1 + b.val, by omega⟩ (mcol i k)) := by
  after_reads_at
  exact congrArg (V (Proc.devRef .tc main_v5)) (congrArg₂ ix2 (Fin.ext (by simp only []; omega)) (Fin.ext (by simp only [mcol]; omega)))

/-- The gate's weights. -/
theorem v12_apply (a : Fin 1024) (b : Fin 2816) : after hostOps1 V (Proc.devRef .tc main_v12) (ix2 a b) = V (Proc.devRef .tc main_arg8) (ix3 0 a b) := by
  after_reads_at

/-- The up projection's weights. -/
theorem v14_apply (a : Fin 1024) (b : Fin 2816) : after hostOps1 V (Proc.devRef .tc main_v14) (ix2 a b) = V (Proc.devRef .tc main_arg9) (ix3 0 a b) := by
  after_reads_at

/-- The down projection's weights. -/
theorem v16_apply (a : Fin 2816) (b : Fin 1024) : after hostOps1 V (Proc.devRef .tc main_v16) (ix2 a b) = V (Proc.devRef .tc main_arg10) (ix3 0 a b) := by
  after_reads_at

/-- The samples' tokens as rows. -/
theorem v17_apply (b : Fin 32) (t : Fin 4) (k : Fin 1024) : after hostOps1 V (Proc.devRef .tc main_v17) (ix2 (tok b t) k) = V (Proc.devRef .tc main_arg0) (ix3 b t k) := by
  after_reads_at
  exact congrArg (V (Proc.devRef .tc main_arg0)) (congrArg₂ (fun b t => ix3 b t k) (Fin.ext (by simp only []; omega)) (Fin.ext (by simp only []; omega)))

/-- The attention's columns of the input projection, up to the gates'. -/
theorem v25_apply (k : Fin 1024) (j : Fin 1280) : after hostOps1 V (Proc.devRef .tc main_v25) (ix2 k j) = V (Proc.devRef .tc main_arg11) (ix3 0 k ⟨j.val, by omega⟩) := by
  after_reads_at

/-- The recurrence's columns of the input projection. -/
theorem v20_apply (k : Fin 1024) (j : Fin 1696) : after hostOps1 V (Proc.devRef .tc main_v20) (ix2 k j) = V (Proc.devRef .tc main_arg11) (ix3 0 k ⟨1304 + j.val, by omega⟩) := by
  after_reads_at

/-- Its first three blocks. -/
theorem v27_apply (k : Fin 1024) (j : Fin 1536) : after hostOps1_2 V (Proc.devRef .tc main_v27) (ix2 k j) = V (Proc.devRef .tc main_v20) (ix2 k ⟨j.val, by omega⟩) := by
  after_reads_at

/-- The decay's columns. -/
theorem v28_apply (k : Fin 1024) (j : Fin 32) : after hostOps1_2 V (Proc.devRef .tc main_v28) (ix2 k j) = V (Proc.devRef .tc main_v20) (ix2 k ⟨1536 + j.val, by omega⟩) := by
  after_reads_at

/-- The rate's columns. -/
theorem v30_apply (k : Fin 1024) (j : Fin 32) : after hostOps1_4 V (Proc.devRef .tc main_v30) (ix2 k j) = V (Proc.devRef .tc main_v20) (ix2 k ⟨1568 + j.val, by omega⟩) := by
  after_reads_at

/-- The gate's columns. -/
theorem v32_apply (k : Fin 1024) (j : Fin 96) : after hostOps1_6 V (Proc.devRef .tc main_v32) (ix2 k j) = V (Proc.devRef .tc main_v20) (ix2 k ⟨1600 + j.val, by omega⟩) := by
  after_reads_at

/-- The decay's columns, within their padded block. -/
theorem v29_apply (k : Fin 1024) (j : Fin 128) (h : j.val < 32) : after hostOps1_3 V (Proc.devRef .tc main_v29) (ix2 k j) = V (Proc.devRef .tc main_v28) (ix2 k ⟨j.val, h⟩) := by
  after_reads_at
  rw [dif_pos h]

/-- The rate's columns, within their padded block. -/
theorem v31_apply (k : Fin 1024) (j : Fin 128) (h : j.val < 32) : after hostOps1_5 V (Proc.devRef .tc main_v31) (ix2 k j) = V (Proc.devRef .tc main_v30) (ix2 k ⟨j.val, h⟩) := by
  after_reads_at
  rw [dif_pos h]

/-- The gate's columns, within their padded block. -/
theorem v33_apply (k : Fin 1024) (j : Fin 128) (h : j.val < 96) : after hostOps1_7 V (Proc.devRef .tc main_v33) (ix2 k j) = V (Proc.devRef .tc main_v32) (ix2 k ⟨j.val, h⟩) := by
  after_reads_at
  rw [dif_pos h]

/-- The rearranged projection at the attention's columns. -/
theorem v36_attn (k : Fin 1024) (j : Fin 1280) : after hostOps1_8 V (Proc.devRef .tc main_v36) (ix2 k ⟨j.val, by omega⟩) = V (Proc.devRef .tc main_v25) (ix2 k j) := by
  after_reads_at
  after_reads_at

/-- The rearranged projection at the recurrence's first three blocks. -/
theorem v36_rkv (k : Fin 1024) (j : Fin 1536) : after hostOps1_8 V (Proc.devRef .tc main_v36) (ix2 k ⟨1408 + j.val, by omega⟩) = V (Proc.devRef .tc main_v27) (ix2 k j) := by
  after_reads_at
  rw [dif_neg (by omega), dif_neg (by omega)]
  after_reads_at
  rw [dif_pos (by omega)]
  exact congrArg (fun a => V (Proc.devRef .tc main_v27) (ix2 k a)) (Fin.ext (by simp only []; omega))

/-- The rearranged projection at the decay's padded block. -/
theorem v36_decay (k : Fin 1024) (j : Fin 128) : after hostOps1_8 V (Proc.devRef .tc main_v36) (ix2 k ⟨2944 + j.val, by omega⟩) = V (Proc.devRef .tc main_v29) (ix2 k j) := by
  after_reads_at
  rw [dif_neg (by omega), dif_neg (by omega)]
  after_reads_at
  rw [dif_neg (by omega), dif_pos (by omega)]
  exact congrArg (fun a => V (Proc.devRef .tc main_v29) (ix2 k a)) (Fin.ext (by simp only []; omega))

/-- The rearranged projection at the rate's padded block. -/
theorem v36_rate (k : Fin 1024) (j : Fin 128) : after hostOps1_8 V (Proc.devRef .tc main_v36) (ix2 k ⟨3072 + j.val, by omega⟩) = V (Proc.devRef .tc main_v31) (ix2 k j) := by
  after_reads_at
  rw [dif_neg (by omega), dif_neg (by omega)]
  after_reads_at
  rw [dif_neg (by omega), dif_neg (by omega), dif_pos (by omega)]
  exact congrArg (fun a => V (Proc.devRef .tc main_v31) (ix2 k a)) (Fin.ext (by simp only []; omega))

/-- The rearranged projection at the gate's padded block. -/
theorem v36_gate (k : Fin 1024) (j : Fin 128) : after hostOps1_8 V (Proc.devRef .tc main_v36) (ix2 k ⟨3200 + j.val, by omega⟩) = V (Proc.devRef .tc main_v33) (ix2 k j) := by
  after_reads_at
  rw [dif_neg (by omega), dif_neg (by omega)]
  after_reads_at
  rw [dif_neg (by omega), dif_neg (by omega), dif_neg (by omega)]
  exact congrArg (fun a => V (Proc.devRef .tc main_v33) (ix2 k a)) (Fin.ext (by simp only []; omega))

/-- The shift of the first sublayer. -/
theorem v38_apply (q : Fin 128) (k : Fin 1024) : after hostOps1_8 V (Proc.devRef .tc main_v38) (ix2 q k) = V (Proc.devRef .tc main_v10) (ix3 0 q k) := by
  after_reads_at

/-- The scale of the first sublayer. -/
theorem v40_apply (q : Fin 128) (k : Fin 1024) : after hostOps1_8 V (Proc.devRef .tc main_v40) (ix2 q k) = V (Proc.devRef .tc main_v10) (ix3 1 q k) := by
  after_reads_at

/-- The gate of the first sublayer. -/
theorem v42_apply (q : Fin 128) (k : Fin 1024) : after hostOps1_8 V (Proc.devRef .tc main_v42) (ix2 q k) = V (Proc.devRef .tc main_v10) (ix3 2 q k) := by
  after_reads_at

/-- The first norm's gain. -/
theorem v47_apply (k : Fin 1024) : after hostOps1_8 V (Proc.devRef .tc main_v47) (ix2 0 k) = V (Proc.devRef .tc main_arg6) (ix3 0 0 k) := by
  after_reads_at

/-- The first norm's bias. -/
theorem v48_apply (k : Fin 1024) : after hostOps1_8 V (Proc.devRef .tc main_v48) (ix2 0 k) = V (Proc.devRef .tc main_arg7) (ix3 0 0 k) := by
  after_reads_at

/-- The shift of the second sublayer. -/
theorem v51_apply (q : Fin 128) (k : Fin 1024) : after hostOps2 V (Proc.devRef .tc main_v51) (ix2 q k) = V (Proc.devRef .tc main_v10) (ix3 3 q k) := by
  after_reads_at

/-- The scale of the second sublayer. -/
theorem v53_apply (q : Fin 128) (k : Fin 1024) : after hostOps2 V (Proc.devRef .tc main_v53) (ix2 q k) = V (Proc.devRef .tc main_v10) (ix3 4 q k) := by
  after_reads_at

/-- The keys and values, their columns split into branches, heads and coordinates. -/
theorem v55_apply (b : Fin 32) (t : Fin 4) (n : Fin 4) (h : Fin 2) (d : Fin 64) :
    after hostOps3 V (Proc.devRef .tc main_v55) (ix6 0 b t n h d)
      = V (Proc.devRef .tc main_v54_1) (ix2 (tok b t) ⟨128 * n.val + 64 * h.val + d.val, by omega⟩) := by
  after_reads_at
  exact congrArg (V (Proc.devRef .tc main_v54_1)) (congrArg₂ ix2 (Fin.ext (by simp only []; omega)) (Fin.ext (by simp only []; omega)))

/-- The window's past tokens, moved forward by the four new ones. -/
theorem v60_old (b : Fin 32) (t : Fin 508) (n : Fin 2) (h : Fin 2) (d : Fin 64) :
    after hostOps3 V (Proc.devRef .tc main_v60) (ix6 0 b ⟨t.val, by omega⟩ n h d)
      = V (Proc.devRef .tc main_arg1) (ix6 0 b ⟨4 + t.val, by omega⟩ n h d) := by
  after_reads_at
  rw [dif_pos (by omega)]
  after_reads_at

/-- The window's last four tokens, the new ones. -/
theorem v60_new (b : Fin 32) (t : Fin 4) (n : Fin 2) (h : Fin 2) (d : Fin 64) :
    after hostOps3 V (Proc.devRef .tc main_v60) (ix6 0 b ⟨508 + t.val, by omega⟩ n h d)
      = V (Proc.devRef .tc main_v54_2) (ix2 (tok b t) ⟨128 * n.val + 64 * h.val + d.val, by omega⟩) := by
  after_reads_at
  rw [dif_neg (by omega)]
  after_reads_at
  exact congrArg (V (Proc.devRef .tc main_v54_2)) (congrArg₂ ix2 (Fin.ext (by simp only []; omega)) (Fin.ext (by simp only []; omega)))

/-- Each sample's last token's columns of the recurrence, the padding left out. -/
theorem v69_apply (b : Fin 32) (n : Fin 1696) :
    after hostOps3 V (Proc.devRef .tc main_v69) (ix3 0 b n) = V (Proc.devRef .tc main_v54_4) (ix2 (tok b 3) (padCol n)) := by
  after_reads_at
  by_cases h1 : n.val < 1536
  · rw [dif_pos h1]
    after_reads_at
    exact congrArg (V (Proc.devRef .tc main_v54_4)) (congrArg₂ ix2 (Fin.ext (by simp only [] <;> omega)) (Fin.ext (by simp only [padCol]; split_ifs <;> simp only [] <;> omega)))
  by_cases h2 : n.val < 1568
  · rw [dif_neg h1, dif_pos (by omega)]
    after_reads_at
    exact congrArg (V (Proc.devRef .tc main_v54_4)) (congrArg₂ ix2 (Fin.ext (by simp only [] <;> omega)) (Fin.ext (by simp only [padCol]; split_ifs <;> simp only [] <;> omega)))
  by_cases h3 : n.val < 1600
  · rw [dif_neg h1, dif_neg (by omega), dif_pos (by omega)]
    after_reads_at
    exact congrArg (V (Proc.devRef .tc main_v54_4)) (congrArg₂ ix2 (Fin.ext (by simp only [] <;> omega)) (Fin.ext (by simp only [padCol]; split_ifs <;> simp only [] <;> omega)))
  · rw [dif_neg h1, dif_neg (by omega), dif_neg (by omega)]
    after_reads_at
    exact congrArg (V (Proc.devRef .tc main_v54_4)) (congrArg₂ ix2 (Fin.ext (by simp only [] <;> omega)) (Fin.ext (by simp only [padCol]; split_ifs <;> simp only [] <;> omega)))

end Cert.Proof.SampleHost

end
-- ==== Proof.SamplePay.lean ====
/-
  The samples' kernels' bodies, read at an index: the modulation, the feed-forward block and the input projection.
-/
module

public import proofs.«01_k».proof.Proof.Into
public import proofs.«01_k».proof.Proof.Gen.SampleIdeal.Frame

@[expose] public section

set_option maxRecDepth 16384

noncomputable section

namespace Cert.Proof.SamplePay

open Idealize.ShloMosaic Cert.SampleIdeal Cert.SampleIdeal.Gen Cert.Proof.Row

/-- What the modulation's body leaves in its block. -/
theorem ada_apply (x0 : Vec Ideal S40x1024 .f32) (x1 : Vec Ideal S1024x1152 .f32) (x2 : Vec Ideal S1x1152 .f32) (r : Fin 40) (j : Fin 1152) :
    out0_3 x0 x1 x2 (ix2 r j) = adaCol (fun k => x0 (ix2 r k)) (fun k => x1 (ix2 k j)) (x2 (ix2 0 j)) := by
  have hz : (![0, 0] : Fin S40x1152.rank → Nat) = fun _ => 0 := funext fun a => by fin_cases a <;> rfl
  unfold out0_3
  rw [View.canon_unit_zero hz]
  pointwise [k0_pay1, adaCol]

/-- The modulated row. -/
theorem pay5_apply (v0 : Vec Ideal S128x1024 .f32) (v2 v4 : Vec Ideal S128x1024 .f32) (r : Fin 128) (j : Fin 1024) :
    k1_pay5 v0 v2 v4 (ix2 r j) = modul (fun k => v0 (ix2 r k)) (fun k => v4 (ix2 r k)) (fun k => v2 (ix2 r k)) j := by
  pointwise [k1_pay5, k1_pay1, modul]

/-- The first half of the hidden units. -/
theorem pay6_apply (v0 : Vec Ideal S128x1024 .f32) (v2 v4 : Vec Ideal S128x1024 .f32) (v20 v23 : Vec Ideal S1024x1408 .bf16) (v30 : Vec Ideal S1408x1024 .bf16) (r : Fin 128) (j : Fin 1024) :
    k1_pay6 v0 v2 v4 v20 v23 v30 (ix2 r j)
      = ∑ f, unit (fun k => k1_pay5 v0 v2 v4 (ix2 r k)) (fun k => v20 (ix2 k f)) (fun k => v23 (ix2 k f)) * v30 (ix2 f j) := by
  pointwise [k1_pay6, unit]

/-- The second half of the hidden units, and the norm. -/
theorem pay8_apply (v1 : FVec Ideal S128x1024 .f32) (v7 : FVec Ideal S128x1024 .f32) (v9 v11 : FVec Ideal S1x1024 .f32) (v18 : FVec Ideal S128x1024 .bf16) (v33 : FVec Ideal S128x1024 .f32) (v34 : FVec Ideal S1024x1408 .bf16) (v37 : Vec Ideal S1024x1408 .bf16) (v44 : Vec Ideal S1408x1024 .bf16) (r : Fin 128) (j : Fin 1024) :
    k1_pay8 v1 v7 v9 v11 v18 v33 v34 v37 v44 (ix2 r j)
      = ln (resid (fun k => v1 (ix2 r k)) (fun k => v7 (ix2 r k)) fun j => Ideal.ofBits .f32 0x3F000000#32 *
          (v33 (ix2 r j) + ∑ f, unit (fun k => v18 (ix2 r k)) (fun k => v34 (ix2 k f)) (fun k => v37 (ix2 k f)) * v44 (ix2 f j)))
          (fun k => v9 (ix2 0 k)) (fun k => v11 (ix2 0 k)) j := by
  pointwise [k1_pay8, ln, ctr, var, mean, resid, unit]

/-- What the feed-forward body leaves in its block: the sublayer on row `r`. -/
theorem ffn_apply (x0 : Vec Ideal S128x1024 .f32) (x1 x2 x3 : Vec Ideal S128x1024 .f32) (x4 x5 : Vec Ideal S1x1024 .f32) (x6 x7 : Vec Ideal S1024x2816 .bf16) (x8 : Vec Ideal S2816x1024 .bf16) (r : Fin 128) (j : Fin 1024) :
    out1_9 x0 x1 x2 x3 x4 x5 x6 x7 x8 (ix2 r j)
      = ffnRow (fun k => x0 (ix2 r k)) (fun k => x1 (ix2 r k)) (fun k => x2 (ix2 r k)) (fun k => x3 (ix2 r k)) (fun k => x4 (ix2 0 k))
          (fun k => x5 (ix2 0 k)) (fun a b => x6 (ix2 a b)) (fun a b => x7 (ix2 a b)) (fun a b => x8 (ix2 a b)) j := by
  have hz : (![0, 0] : Fin S128x1024.rank → Nat) = fun _ => 0 := funext fun a => by fin_cases a <;> rfl
  unfold out1_9
  rw [View.canon_unit_zero hz, pay8_apply]
  simp only [pay6_apply, pay5_apply]
  unfold ffnRow
  have hh : ∀ j, halfFf (modul (fun k => x0 (ix2 r k)) (fun k => x2 (ix2 r k)) (fun k => x1 (ix2 r k)))
          (fun a b => x6 (ix2 a b)) (fun a b => x7 (ix2 a b)) (fun a b => x8 (ix2 a b)) j = _ := fun j => by
    unfold halfFf; rw [ff_halves]
  simp only [funext hh]
  pointwise [k1_pay1, k1_pay2, k1_pay3, k1_pay4, k1_pay7]

/-- The projection of the modulated rows. -/
theorem proj_apply (v0 : Vec Ideal S128x1024 .f32) (v2 v8 : Vec Ideal S128x1024 .f32) (v13 : Vec Ideal S1024x3328 .bf16) (r : Fin 128) (j : Fin 3328) :
    k2_pay1 v0 v2 v8 v13 (ix2 r j)
      = colOf (modul (fun k => v0 (ix2 r k)) (fun k => v2 (ix2 r k)) (fun k => v8 (ix2 r k))) (fun k => v13 (ix2 k j)) := by
  pointwise [k2_pay1, colOf, modul]

variable (x0 : Vec Ideal S128x1024 .f32) (x1 x2 : Vec Ideal S128x1024 .f32) (x3 : Vec Ideal S1024x3328 .bf16) (r : Fin 128)

/-- The key and value columns that the projection's body stores. -/
theorem kv_apply (j : Fin 512) : out2_5 x0 x1 x2 x3 (ix2 r j)
    = colOf (modul (fun k => x0 (ix2 r k)) (fun k => x2 (ix2 r k)) (fun k => x1 (ix2 r k))) (fun k => x3 (ix2 k ⟨512 + j.val, by omega⟩)) := by
  have hz : (![0, 0] : Fin S128x512.rank → Nat) = fun _ => 0 := funext fun a => by fin_cases a <;> rfl
  unfold out2_5
  rw [View.canon_unit_zero hz]
  pointwise [k2_pay3]
  rw [proj_apply]
  pointwise

/-- The window's columns that the projection's body stores. -/
theorem win_apply (j : Fin 256) : out2_6 x0 x1 x2 x3 (ix2 r j)
    = colOf (modul (fun k => x0 (ix2 r k)) (fun k => x2 (ix2 r k)) (fun k => x1 (ix2 r k))) (fun k => x3 (ix2 k ⟨1024 + j.val, by omega⟩)) := by
  have hz : (![0, 0] : Fin S128x256.rank → Nat) = fun _ => 0 := funext fun a => by fin_cases a <;> rfl
  unfold out2_6
  rw [View.canon_unit_zero hz]
  pointwise [k2_pay4]
  rw [proj_apply]
  pointwise

/-- The recurrence's columns that the projection's body stores. -/
theorem rw_apply (j : Fin 1920) : out2_8 x0 x1 x2 x3 (ix2 r j)
    = colOf (modul (fun k => x0 (ix2 r k)) (fun k => x2 (ix2 r k)) (fun k => x1 (ix2 r k))) (fun k => x3 (ix2 k ⟨1408 + j.val, by omega⟩)) := by
  have hz : (![0, 0] : Fin S128x1920.rank → Nat) = fun _ => 0 := funext fun a => by fin_cases a <;> rfl
  unfold out2_8
  rw [View.canon_unit_zero hz]
  pointwise [k2_pay6]
  rw [proj_apply]
  pointwise

end Cert.Proof.SamplePay

end
-- ==== Proof.SampleRegion.lean ====
/-
  What each of the samples' three kernels leaves in its result arrays, over the arrays it finds.
-/
module

public import proofs.«01_k».proof.Proof.SamplePay
public import Idealize.ShloMosaic.Lib.Pipeline.ValueKit

@[expose] public section

set_option maxRecDepth 16384

noncomputable section

namespace Cert.Proof.SampleRegion

open Idealize.ShloMosaic Idealize.ShloMosaic.TcCoe Cert.SampleIdeal Cert.SampleIdeal.Gen Cert.Proof.Row

variable (V : (c : Dev nD) → (b : Ref sig .tc) → Buf (Elt Ideal) ((c : Thread nD τ).loc b)) (c : Dev nD)

/-! ## The modulation -/

/-- The modulation's blocks: the conditions whole, the weights, biases and results by columns. -/
theorem idx0 : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- Column `j` of block `t`, as a column of the modulation. -/
def col (t : Fin cfg0.N) (j : Fin 1152) : Fin 9216 := ⟨t.val * 1152 + j.val, by have h : t.val < 8 := t.isLt; omega⟩

/-- The block of the conditions. -/
theorem blk0_0 (t : Fin cfg0.N) (r : Fin 40) (k : Fin 1024) : iblk0 V c 0 t (ix2 r k) = V c main_v1 (ix2 r k) := by
  blk_ext [iblk0, idx0 t]

/-- The block of the modulation's weights. -/
theorem blk0_1 (t : Fin cfg0.N) (k : Fin 1024) (j : Fin 1152) : iblk0 V c 1 t (ix2 k j) = V c main_v2 (ix2 k (col t j)) := by
  blk_ext [iblk0, idx0 t, col]

/-- The block of the modulation's biases. -/
theorem blk0_2 (t : Fin cfg0.N) (j : Fin 1152) : iblk0 V c 2 t (ix2 0 j) = V c main_v4 (ix2 0 (col t j)) := by
  blk_ext [iblk0, idx0 t, col]

/-- The modulation as an array over the arrays found. -/
def adaArr : (⟨S40x9216, .f32⟩ : BufTy).Contents (Elt Ideal) :=
  fun y => adaCol (fun k => V c main_v1 (ix2 (y 0) k)) (fun k => V c main_v2 (ix2 k (y 1))) (V c main_v4 (ix2 0 (y 1)))

/-- The modulation's result. -/
theorem ada_final : (dat0 V c).arrAt 3 cfg0.N = adaArr V c := by
  refine (dat0 V c).arrAt_eq_of_covers 3 _ (by decide +kernel) fun t hf y => ?_
  blk_simp
  rw [after0_3]
  obtain ⟨r, j, rfl⟩ : ∃ (r : Fin 40) (j : Fin 1152), y = ix2 r j := ⟨y 0, y 1, eq_ix2 y⟩
  have he : ((cfg0.win 3).blk t).view.emb (ix2 r j) = ix2 r (col t j) := by
    blk_ext [idx0 t, col]
  refine (SamplePay.ada_apply _ _ _ r j).trans ?_
  refine Eq.trans ?_ (congrArg _ he.symm)
  simp only [blk0_0 V c t, blk0_1 V c t, blk0_2 V c t]
  rfl

/-! ## The first feed-forward sublayer -/

/-- The feed-forward's blocks: the rows of the point. -/
theorem idx1 : ∀ t : Fin cfg1.N, win1_0.index t = ![0, 0] ∧ win1_9.index t = ![0, 0] :=
  (by decide +kernel : ∀ t : Fin grid1.N, _)

/-- The windows staged whole stay at the origin. -/
theorem idx1w : ∀ t : Fin cfg1.N, win1_1.index t = ![0, 0] ∧ win1_2.index t = ![0, 0] ∧ win1_3.index t = ![0, 0] ∧ win1_4.index t = ![0, 0]
    ∧ win1_5.index t = ![0, 0] ∧ win1_6.index t = ![0, 0] ∧ win1_7.index t = ![0, 0] ∧ win1_8.index t = ![0, 0] :=
  (by decide +kernel : ∀ t : Fin grid1.N, _)

variable (t : Fin cfg1.N)

/-- The block of the tokens' rows. -/
theorem blk1_0 (r : Fin 128) (k : Fin 1024) : iblk1 V c 0 t (ix2 r k) = V c main_v17 (ix2 r k) := by
  blk_ext [iblk1, idx1 t]

/-- The shift, whole. -/
theorem blk1_1 (r : Fin 128) (k : Fin 1024) : iblk1 V c 1 t (ix2 r k) = V c main_v38 (ix2 r k) := by
  blk_ext [iblk1, idx1w t]

/-- The scale, whole. -/
theorem blk1_2 (r : Fin 128) (k : Fin 1024) : iblk1 V c 2 t (ix2 r k) = V c main_v40 (ix2 r k) := by
  blk_ext [iblk1, idx1w t]

/-- The gate, whole. -/
theorem blk1_3 (r : Fin 128) (k : Fin 1024) : iblk1 V c 3 t (ix2 r k) = V c main_v42 (ix2 r k) := by
  blk_ext [iblk1, idx1w t]

/-- The norm's gain, whole. -/
theorem blk1_4 (k : Fin 1024) : iblk1 V c 4 t (ix2 0 k) = V c main_v47 (ix2 0 k) := by
  blk_ext [iblk1, idx1w t]

/-- The norm's bias, whole. -/
theorem blk1_5 (k : Fin 1024) : iblk1 V c 5 t (ix2 0 k) = V c main_v48 (ix2 0 k) := by
  blk_ext [iblk1, idx1w t]

/-- The gate's weights, whole. -/
theorem blk1_6 (a : Fin 1024) (b : Fin 2816) : iblk1 V c 6 t (ix2 a b) = V c main_v12 (ix2 a b) := by
  blk_ext [iblk1, idx1w t]

/-- The up projection's weights, whole. -/
theorem blk1_7 (a : Fin 1024) (b : Fin 2816) : iblk1 V c 7 t (ix2 a b) = V c main_v14 (ix2 a b) := by
  blk_ext [iblk1, idx1w t]

/-- The down projection's weights, whole. -/
theorem blk1_8 (a : Fin 2816) (b : Fin 1024) : iblk1 V c 8 t (ix2 a b) = V c main_v16 (ix2 a b) := by
  blk_ext [iblk1, idx1w t]

/-- The rows after the first sublayer, over the arrays found. -/
def ffnArr : (⟨S128x1024, .f32⟩ : BufTy).Contents (Elt Ideal) := fun y =>
  ffnRow (fun k => V c main_v17 (ix2 (y 0) k)) (fun k => V c main_v38 (ix2 (y 0) k)) (fun k => V c main_v40 (ix2 (y 0) k)) (fun k => V c main_v42 (ix2 (y 0) k))
    (fun k => V c main_v47 (ix2 0 k)) (fun k => V c main_v48 (ix2 0 k)) (fun a b => V c main_v12 (ix2 a b)) (fun a b => V c main_v14 (ix2 a b))
    (fun a b => V c main_v16 (ix2 a b)) (y 1)

/-- The first sublayer's result. -/
theorem ffn_final : (dat1 V c).arrAt 9 cfg1.N = ffnArr V c := by
  refine (dat1 V c).arrAt_eq_of_covers 9 _ (by decide +kernel) fun t hf y => ?_
  blk_simp
  rw [after1_9]
  obtain ⟨r, j, rfl⟩ : ∃ (r : Fin 128) (j : Fin 1024), y = ix2 r j := ⟨y 0, y 1, eq_ix2 y⟩
  have he : ((cfg1.win 9).blk t).view.emb (ix2 r j) = ix2 r j := by
    blk_ext [idx1 t]
  refine (SamplePay.ffn_apply _ _ _ _ _ _ _ _ _ r j).trans ?_
  refine Eq.trans ?_ (congrArg _ he.symm)
  simp only [blk1_0 V c t, blk1_1 V c t, blk1_2 V c t, blk1_3 V c t, blk1_4 V c t, blk1_5 V c t, blk1_6 V c t, blk1_7 V c t, blk1_8 V c t]
  rfl

/-! ## The input projection -/

/-- The projection's blocks: the rows of the point, the modulation and weights whole. -/
theorem idx2 : ∀ t : Fin cfg2.N, win2_0.index t = ![0, 0] ∧ win2_1.index t = ![0, 0] ∧ win2_2.index t = ![0, 0] ∧ win2_3.index t = ![0, 0]
    ∧ win2_5.index t = ![0, 0] ∧ win2_6.index t = ![0, 0] ∧ win2_8.index t = ![0, 0] :=
  (by decide +kernel : ∀ t : Fin grid2.N, _)

/-- The block of the rows. -/
theorem blk2_0 (t : Fin cfg2.N) (r : Fin 128) (k : Fin 1024) : iblk2 V c 0 t (ix2 r k) = V c main_v49 (ix2 r k) := by
  blk_ext [iblk2, idx2 t]

/-- The shift, whole. -/
theorem blk2_1 (t : Fin cfg2.N) (r : Fin 128) (k : Fin 1024) : iblk2 V c 1 t (ix2 r k) = V c main_v51 (ix2 r k) := by
  blk_ext [iblk2, idx2 t]

/-- The scale, whole. -/
theorem blk2_2 (t : Fin cfg2.N) (r : Fin 128) (k : Fin 1024) : iblk2 V c 2 t (ix2 r k) = V c main_v53 (ix2 r k) := by
  blk_ext [iblk2, idx2 t]

/-- The rearranged weights, whole. -/
theorem blk2_3 (t : Fin cfg2.N) (a : Fin 1024) (b : Fin 3328) : iblk2 V c 3 t (ix2 a b) = V c main_v36 (ix2 a b) := by
  blk_ext [iblk2, idx2 t]

/-- Column `j` of row `r` of the projection, over the arrays found. -/
def projAt (r : Fin 128) (j : Fin 3328) : EReal :=
  colOf (modul (fun k => V c main_v49 (ix2 r k)) (fun k => V c main_v53 (ix2 r k)) (fun k => V c main_v51 (ix2 r k))) (fun k => V c main_v36 (ix2 k j))

/-- The keys' and values' columns. -/
def kvArr : (⟨S128x512, .f32⟩ : BufTy).Contents (Elt Ideal) := fun y => projAt V c (y 0) ⟨512 + (y 1).val, by have h : (y 1).val < 512 := (y 1).isLt; omega⟩

/-- The window's columns. -/
def winArr : (⟨S128x256, .f32⟩ : BufTy).Contents (Elt Ideal) := fun y => projAt V c (y 0) ⟨1024 + (y 1).val, by have h : (y 1).val < 256 := (y 1).isLt; omega⟩

/-- The recurrence's columns. -/
def rwArr : (⟨S128x1920, .f32⟩ : BufTy).Contents (Elt Ideal) := fun y => projAt V c (y 0) ⟨1408 + (y 1).val, by have h : (y 1).val < 1920 := (y 1).isLt; omega⟩

/-- The keys and values the projection leaves. -/
theorem kv_final : (dat2 V c).arrAt 5 cfg2.N = kvArr V c := by
  refine (dat2 V c).arrAt_eq_of_covers 5 _ (by decide +kernel) fun t hf y => ?_
  blk_simp
  rw [after2_5]
  obtain ⟨r, j, rfl⟩ : ∃ (r : Fin 128) (j : Fin 512), y = ix2 r j := ⟨y 0, y 1, eq_ix2 y⟩
  have he : ((cfg2.win 5).blk t).view.emb (ix2 r j) = ix2 r j := by
    blk_ext [idx2 t]
  refine (SamplePay.kv_apply _ _ _ _ r j).trans ?_
  refine Eq.trans ?_ (congrArg _ he.symm)
  simp only [blk2_0 V c t, blk2_1 V c t, blk2_2 V c t, blk2_3 V c t]
  rfl

/-- The window's keys and values the projection leaves. -/
theorem win_final : (dat2 V c).arrAt 6 cfg2.N = winArr V c := by
  refine (dat2 V c).arrAt_eq_of_covers 6 _ (by decide +kernel) fun t hf y => ?_
  blk_simp
  rw [after2_6]
  obtain ⟨r, j, rfl⟩ : ∃ (r : Fin 128) (j : Fin 256), y = ix2 r j := ⟨y 0, y 1, eq_ix2 y⟩
  have he : ((cfg2.win 6).blk t).view.emb (ix2 r j) = ix2 r j := by
    blk_ext [idx2 t]
  refine (SamplePay.win_apply _ _ _ _ r j).trans ?_
  refine Eq.trans ?_ (congrArg _ he.symm)
  simp only [blk2_0 V c t, blk2_1 V c t, blk2_2 V c t, blk2_3 V c t]
  rfl

/-- The recurrence's columns the projection leaves. -/
theorem rw_final : (dat2 V c).arrAt 8 cfg2.N = rwArr V c := by
  refine (dat2 V c).arrAt_eq_of_covers 8 _ (by decide +kernel) fun t hf y => ?_
  blk_simp
  rw [after2_8]
  obtain ⟨r, j, rfl⟩ : ∃ (r : Fin 128) (j : Fin 1920), y = ix2 r j := ⟨y 0, y 1, eq_ix2 y⟩
  have he : ((cfg2.win 8).blk t).view.emb (ix2 r j) = ix2 r j := by
    blk_ext [idx2 t]
  refine (SamplePay.rw_apply _ _ _ _ r j).trans ?_
  refine Eq.trans ?_ (congrArg _ he.symm)
  simp only [blk2_0 V c t, blk2_1 V c t, blk2_2 V c t, blk2_3 V c t]
  rfl

end Cert.Proof.SampleRegion

end
-- ==== Proof.SampleRef.lean ====
/-
  The samples' reference program read at an index: the modulation, the first feed-forward sublayer and the input
  projection of a token's row.
-/
module

public import proofs.«01_k».proof.Proof.Into
public import proofs.«01_k».proof.Proof.Gen.SampleRefIdeal.Read

@[expose] public section

set_option maxRecDepth 16384

noncomputable section

namespace Cert.Proof.SampleRef

open Idealize.ShloMosaic Cert.SampleRefIdeal Cert.SampleRefIdeal.Gen Cert.SampleRefIdeal.Read Cert.Proof.Row

variable (x0 : Vec Ideal S32x4x1024 .f32) (x1 : Vec Ideal S1x32x512x2x2x64 .f32) (x3 : Vec Ideal S32x1024 .f32) (x4 : Vec Ideal S1x1024x9216 .f32)
  (x5 : Vec Ideal S1x9216 .f32) (x6 x7 : Vec Ideal S1x3x1024 .f32) (x8 x9 : Vec Ideal S1x1024x2816 .f32) (x10 : Vec Ideal S1x2816x1024 .f32)
  (x11 : Vec Ideal S1x1024x3000 .f32) (b : Fin 32) (r : Fin 4) (j : Fin 1024)

/-- One entry of a sequence's modulation, over all nine rows side by side. -/
theorem v6_apply (n : Fin 9216) : val_main_v6 (F := Ideal) x3 x4 x5 (ix2 b n)
    = adaCol (fun k => x3 (ix2 b k)) (fun k => x4 (ix3 0 k n)) (x5 (ix2 0 n)) := by
  pointwise [val_main_v6, val_main_v5, val_main_v4, val_main_v3, val_main_v2, val_main_v1, val_main_v0, val_main_call0_v0, val_main_call0_v1, val_main_call0_v2, val_main_call0_v3, val_main_call0_v4, val_main_call0_v5, val_main_call0_cst, val_main_call0_cst_0, adaCol]
  rfl

/-- Row 1 of a sequence's modulation. -/
theorem v9_apply : val_main_v9 (F := Ideal) x3 x4 x5 (ix3 b 0 j) = modRow (fun k => x3 (ix2 b k)) (fun u v => x4 (ix3 0 u v)) (fun v => x5 (ix2 0 v)) 1 j := by
  pointwise [val_main_v9, val_main_v8, val_main_v7]
  exact v6_apply x3 x4 x5 b (mcol 1 j)

/-- Row 0 of a sequence's modulation. -/
theorem v15_apply : val_main_v15 (F := Ideal) x3 x4 x5 (ix3 b 0 j) = modRow (fun k => x3 (ix2 b k)) (fun u v => x4 (ix3 0 u v)) (fun v => x5 (ix2 0 v)) 0 j := by
  pointwise [val_main_v15, val_main_v14, val_main_v7]
  rw [show (⟨j.val, by omega⟩ : Fin 9216) = mcol 0 j from Fin.ext (by simp [mcol])]
  exact v6_apply x3 x4 x5 b (mcol 0 j)

/-- Row 2 of a sequence's modulation. -/
theorem v31_apply : val_main_v31 (F := Ideal) x3 x4 x5 (ix3 b 0 j) = modRow (fun k => x3 (ix2 b k)) (fun u v => x4 (ix3 0 u v)) (fun v => x5 (ix2 0 v)) 2 j := by
  pointwise [val_main_v31, val_main_v30, val_main_v7]
  exact v6_apply x3 x4 x5 b (mcol 2 j)

/-- Row 4 of a sequence's modulation. -/
theorem v68_apply : val_main_v68 (F := Ideal) x3 x4 x5 (ix3 b 0 j) = modRow (fun k => x3 (ix2 b k)) (fun u v => x4 (ix3 0 u v)) (fun v => x5 (ix2 0 v)) 4 j := by
  pointwise [val_main_v68, val_main_v67, val_main_v7]
  exact v6_apply x3 x4 x5 b (mcol 4 j)

/-- Row 3 of a sequence's modulation. -/
theorem v74_apply : val_main_v74 (F := Ideal) x3 x4 x5 (ix3 b 0 j) = modRow (fun k => x3 (ix2 b k)) (fun u v => x4 (ix3 0 u v)) (fun v => x5 (ix2 0 v)) 3 j := by
  pointwise [val_main_v74, val_main_v73, val_main_v7]
  exact v6_apply x3 x4 x5 b (mcol 3 j)

/-- The modulated row. -/
theorem v17_apply : val_main_v17 (F := Ideal) x0 x3 x4 x5 (ix3 b r j)
    = modul (fun k => x0 (ix3 b r k)) (modRow (fun k => x3 (ix2 b k)) (fun u v => x4 (ix3 0 u v)) (fun v => x5 (ix2 0 v)) 1) (modRow (fun k => x3 (ix2 b k)) (fun u v => x4 (ix3 0 u v)) (fun v => x5 (ix2 0 v)) 0) j := by
  pointwise [val_main_v17, val_main_v16, val_main_v13, val_main_v12, val_main_v11, val_main_v10, val_main_cst]
  simp only [v9_apply, v15_apply]
  pointwise [modul]

/-- The feed-forward block of the modulated row, halved. -/
theorem v27_apply : val_main_v27 (F := Ideal) x0 x3 x4 x5 x8 x9 x10 (ix3 b r j)
    = halfFf (modul (fun k => x0 (ix3 b r k)) (modRow (fun k => x3 (ix2 b k)) (fun u v => x4 (ix3 0 u v)) (fun v => x5 (ix2 0 v)) 1) (modRow (fun k => x3 (ix2 b k)) (fun u v => x4 (ix3 0 u v)) (fun v => x5 (ix2 0 v)) 0))
        (fun u v => x8 (ix3 0 u v)) (fun u v => x9 (ix3 0 u v)) (fun u v => x10 (ix3 0 u v)) j := by
  pointwise [val_main_v27, val_main_v26, val_main_v25, val_main_v24, val_main_v23, val_main_v22, val_main_v21, val_main_v20, val_main_v19, val_main_v18, val_main_cst_0, val_main_call1_v0, val_main_call1_v1, val_main_call1_v2, val_main_call1_v3, val_main_call1_v4, val_main_call1_v5, val_main_call1_cst, val_main_call1_cst_0]
  simp only [v17_apply]
  rfl

/-- The residual sum. -/
theorem v36_apply : val_main_v36 (F := Ideal) x0 x3 x4 x5 x8 x9 x10 (ix3 b r j)
    = resid (fun k => x0 (ix3 b r k)) (modRow (fun k => x3 (ix2 b k)) (fun u v => x4 (ix3 0 u v)) (fun v => x5 (ix2 0 v)) 2)
        (halfFf (modul (fun k => x0 (ix3 b r k)) (modRow (fun k => x3 (ix2 b k)) (fun u v => x4 (ix3 0 u v)) (fun v => x5 (ix2 0 v)) 1) (modRow (fun k => x3 (ix2 b k)) (fun u v => x4 (ix3 0 u v)) (fun v => x5 (ix2 0 v)) 0))
          (fun u v => x8 (ix3 0 u v)) (fun u v => x9 (ix3 0 u v)) (fun u v => x10 (ix3 0 u v))) j := by
  pointwise [val_main_v36, val_main_v35, val_main_v34, val_main_v33, val_main_v32, val_main_v29, val_main_v28, val_main_cst_1, val_main_cst_2]
  simp only [v27_apply, v31_apply]
  pointwise [resid]

/-- The residual sum's mean. -/
theorem v46_apply : val_main_v46 (F := Ideal) x0 x3 x4 x5 x8 x9 x10 (ix3 b r 0) = mean fun k => val_main_v36 (F := Ideal) x0 x3 x4 x5 x8 x9 x10 (ix3 b r k) := by
  pointwise [val_main_v46, val_main_v45, val_main_v44, val_main_v43, val_main_cst_3, val_main_cst_4, mean]

/-- The residual sum's variance. -/
theorem v53_apply : val_main_v53 (F := Ideal) x0 x3 x4 x5 x8 x9 x10 (ix3 b r 0) = var fun k => val_main_v36 (F := Ideal) x0 x3 x4 x5 x8 x9 x10 (ix3 b r k) := by
  pointwise [val_main_v53, val_main_v52, val_main_v51, val_main_v50, val_main_v49, val_main_v48, val_main_v47, val_main_cst_5, val_main_cst_6]
  simp only [v46_apply]
  rfl

/-- The row after the sublayer's norm. -/
theorem v66_apply : val_main_v66 (F := Ideal) x0 x3 x4 x5 x6 x7 x8 x9 x10 (ix3 b r j)
    = ffnRow (fun k => x0 (ix3 b r k)) (modRow (fun k => x3 (ix2 b k)) (fun u v => x4 (ix3 0 u v)) (fun v => x5 (ix2 0 v)) 0) (modRow (fun k => x3 (ix2 b k)) (fun u v => x4 (ix3 0 u v)) (fun v => x5 (ix2 0 v)) 1) (modRow (fun k => x3 (ix2 b k)) (fun u v => x4 (ix3 0 u v)) (fun v => x5 (ix2 0 v)) 2)
        (fun k => x6 (ix3 0 0 k)) (fun k => x7 (ix3 0 0 k)) (fun u v => x8 (ix3 0 u v)) (fun u v => x9 (ix3 0 u v)) (fun u v => x10 (ix3 0 u v)) j := by
  pointwise [val_main_v66, val_main_v65, val_main_v64, val_main_v63, val_main_v62, val_main_v61, val_main_v60, val_main_v59, val_main_v58, val_main_v57, val_main_v56, val_main_v55, val_main_v54, val_main_v42, val_main_v41, val_main_v40, val_main_v39, val_main_v38, val_main_v37, val_main_cst_7]
  simp only [v46_apply, v53_apply, v36_apply]
  rfl

/-- The row that the projection takes. -/
theorem v76_apply : val_main_v76 (F := Ideal) x0 x3 x4 x5 x6 x7 x8 x9 x10 (ix3 b r j)
    = intoRow (fun k => x0 (ix3 b r k)) (fun k => x3 (ix2 b k)) (fun u v => x4 (ix3 0 u v)) (fun v => x5 (ix2 0 v)) (fun k => x6 (ix3 0 0 k)) (fun k => x7 (ix3 0 0 k)) (fun u v => x8 (ix3 0 u v)) (fun u v => x9 (ix3 0 u v)) (fun u v => x10 (ix3 0 u v)) j := by
  pointwise [val_main_v76, val_main_v75, val_main_v72, val_main_v71, val_main_v70, val_main_v69, val_main_cst_8]
  simp only [v66_apply, v68_apply, v74_apply]
  pointwise [intoRow, modul]

/-- One column of the projection. -/
theorem v78_apply (n : Fin 3000) : val_main_v78 (F := Ideal) x0 x3 x4 x5 x6 x7 x8 x9 x10 x11 (ix3 b r n)
    = colOf (intoRow (fun k => x0 (ix3 b r k)) (fun k => x3 (ix2 b k)) (fun u v => x4 (ix3 0 u v)) (fun v => x5 (ix2 0 v)) (fun k => x6 (ix3 0 0 k)) (fun k => x7 (ix3 0 0 k)) (fun u v => x8 (ix3 0 u v)) (fun u v => x9 (ix3 0 u v)) (fun u v => x10 (ix3 0 u v))) (fun k => x11 (ix3 0 k n)) := by
  pointwise [val_main_v78, val_main_v77]
  simp only [v76_apply]
  rfl

/-- The key and value rows that the reference returns: four kinds, two heads each. -/
theorem v115_apply (n : Fin 4) (h : Fin 2) (d : Fin 64) : val_main_v115 (F := Ideal) x0 x3 x4 x5 x6 x7 x8 x9 x10 x11 (ix6 0 b r n h d)
    = val_main_v78 (F := Ideal) x0 x3 x4 x5 x6 x7 x8 x9 x10 x11 (ix3 b r ⟨512 + 128 * n.val + 64 * h.val + d.val, by omega⟩) := by
  fin_cases n <;> pointwise [val_main_v115, val_main_v107, val_main_v106, val_main_v105, val_main_v104, val_main_v103, val_main_v99, val_main_v98, val_main_v97, val_main_v96, val_main_v84, val_main_v83, val_main_v82, val_main_v81, val_main_v79]
  all_goals exact congrArg (fun a => val_main_v78 (F := Ideal) x0 x3 x4 x5 x6 x7 x8 x9 x10 x11 (ix3 b r a)) (Fin.ext (by simp only [Fin.val_mk]; omega))

/-- The window's rows that the reference returns, where they are the buffer's, four tokens later. -/
theorem v117_old (t : Fin 508) (n : Fin 2) (h : Fin 2) (d : Fin 64) : val_main_v117 (F := Ideal) x0 x1 x3 x4 x5 x6 x7 x8 x9 x10 x11 (ix6 0 b ⟨t.val, by omega⟩ n h d)
    = x1 (ix6 0 b ⟨4 + t.val, by omega⟩ n h d) := by
  pointwise [val_main_v117, val_main_v116, val_main_v114, val_main_v113]
  rw [dif_pos (by omega)]

/-- The new tokens' window rows. -/
theorem v110_apply (n : Fin 2) (h : Fin 2) (d : Fin 64) : val_main_v110 (F := Ideal) x0 x3 x4 x5 x6 x7 x8 x9 x10 x11 (ix5 b r n h d)
    = val_main_v78 (F := Ideal) x0 x3 x4 x5 x6 x7 x8 x9 x10 x11 (ix3 b r ⟨1024 + 128 * n.val + 64 * h.val + d.val, by omega⟩) := by
  fin_cases n <;> pointwise [val_main_v110, val_main_v109, val_main_v108, val_main_v101, val_main_v100, val_main_v86, val_main_v85, val_main_v79]
  all_goals exact congrArg (fun a => val_main_v78 (F := Ideal) x0 x3 x4 x5 x6 x7 x8 x9 x10 x11 (ix3 b r a)) (Fin.ext (by simp only [Fin.val_mk]; omega))

/-- The window's rows that the reference returns, where they are the new tokens'. -/
theorem v117_new (n : Fin 2) (h : Fin 2) (d : Fin 64) : val_main_v117 (F := Ideal) x0 x1 x3 x4 x5 x6 x7 x8 x9 x10 x11 (ix6 0 b ⟨508 + r.val, by omega⟩ n h d)
    = val_main_v78 (F := Ideal) x0 x3 x4 x5 x6 x7 x8 x9 x10 x11 (ix3 b r ⟨1024 + 128 * n.val + 64 * h.val + d.val, by omega⟩) := by
  pointwise [val_main_v117, val_main_v116, val_main_v114, val_main_v113]
  rw [dif_neg (by omega)]
  exact (congrArg (fun a => val_main_v110 (F := Ideal) x0 x3 x4 x5 x6 x7 x8 x9 x10 x11 (ix5 b a n h d)) (Fin.ext (by simp only [Fin.val_mk]; omega))).trans
    (v110_apply x0 x3 x4 x5 x6 x7 x8 x9 x10 x11 b r n h d)

/-- The last token's columns of the recurrence that the reference returns. -/
theorem v118_apply (n : Fin 1696) : val_main_v118 (F := Ideal) x0 x3 x4 x5 x6 x7 x8 x9 x10 x11 (ix3 0 b n)
    = val_main_v78 (F := Ideal) x0 x3 x4 x5 x6 x7 x8 x9 x10 x11 (ix3 b 3 ⟨1304 + n.val, by omega⟩) := by
  pointwise [val_main_v118, val_main_v112, val_main_v111, val_main_v102]

end Cert.Proof.SampleRef

end
-- ==== Proof.SampleRun.lean ====
/-
  The samples' program run to its end, every array read there: the boundary contents after its last host line.
-/
module

public import proofs.«01_k».proof.Proof.Into
public import proofs.«01_k».proof.Proof.Gen.SampleIdeal.Frame

@[expose] public section

set_option maxRecDepth 16384

noncomputable section

namespace Cert.Proof.SampleRun

open Idealize.ShloMosaic Idealize.ShloMosaic.TcCoe Idealize.ShloMosaic.Tactic Cert.SampleIdeal Cert.SampleIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

set_option backward.isDefEq.respectTransparency.types false in
/-- Every execution of the samples' program ends, and then each array of the host has its contents after the last
    host line. -/
theorem run : θ_run defs (onTc (τ := τ) (main (F := Ideal))) ⟨m, fun _ => 0, ρ⟩
    (fun r => ∀ (c : Dev nD), ∀ b ∈ Pipeline.ucRefs τ sig, r.2.mem (((c : Thread nD τ)).1, b) = W15 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htok; imodintro
      isplitl [Htok]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Htok
      iapply (show (BI.emp : sProp (MT nD τ sig Unit (Elt Ideal) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun c => by
        dsimp only [Pipeline.Seg.post, hseg, Pipeline.HostSeg.ofOps]
        iintro ⟨Hheld, Hreg, HO⟩
        isplitl [Hheld Hreg]
        · isplitl [Hheld]; · iexact Hheld
          iexact Hreg
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, HO, -, Hreg, -⟩, -⟩
      imodintro
      isplitl [Hheld]; · iexact Hheld
      isplitl [Hreg]; · iexists _; iexact Hreg
      iexists ∅; iexact HO)
    (QY := fun c s => ∀ b ∈ Pipeline.ucRefs τ sig, s.mem (((c : Thread nD τ)).1, b) = W15 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W15 m ρ c) s')
      isplitl [Hheld] <;> iassumption)
    (hQ := fun s h _ => h)

end Cert.Proof.SampleRun

end
-- ==== Proof.SampleValue.lean ====
/-
  The samples' program: its results after the run, and their agreement with the reference.
-/
module

public import proofs.«01_k».proof.Defs
public import proofs.«01_k».proof.Proof.SampleHost
public import proofs.«01_k».proof.Proof.SampleRegion
public import proofs.«01_k».proof.Proof.SampleRef
public import proofs.«01_k».proof.Proof.SampleRun
public import proofs.«01_k».proof.Proof.Gen.SampleRefIdeal.Run

@[expose] public section

set_option maxRecDepth 16384

noncomputable section

namespace Cert.Proof.SampleValue

open Idealize.ShloMosaic Idealize.SL.Sem Idealize.ShloMosaic.TcCoe Cert.SampleIdeal Cert.SampleIdeal.Gen Cert.Proof.Row Cert.Proof.SampleHost
  Cert.Proof.SampleRegion

variable (m : (ℓ : Loc nD τ sig) → Buf (Elt Ideal) ℓ) (ρ : Dev nD → PrngReg) (c : Dev nD)

/-! ## The modulation -/

/-- Modulation row `i` of sample `b`, over the arguments. -/
def mods (b : Fin 32) (i : Fin 9) (k : Fin 1024) : EReal :=
  modRow (fun k => m ((c : Thread nD τ).loc main_arg3) (ix2 b k)) (fun a b => m ((c : Thread nD τ).loc main_arg4) (ix3 0 a b))
    (fun b => m ((c : Thread nD τ).loc main_arg5) (ix2 0 b)) i k

/-- A sample's row of the modulation's result. -/
theorem w2_v5 (b : Fin 32) (j : Fin 9216) : W2 m ρ c (Proc.devRef .tc main_v5) (ix2 ⟨1 + b.val, by omega⟩ j)
    = adaCol (fun k => m ((c : Thread nD τ).loc main_arg3) (ix2 b k)) (fun k => m ((c : Thread nD τ).loc main_arg4) (ix3 0 k j))
        (m ((c : Thread nD τ).loc main_arg5) (ix2 0 j)) := by
  refine (congrFun ((W2_arr m ρ c 3).trans (ada_final (V1 m ρ) c)) (ix2 ⟨1 + b.val, by omega⟩ j)).trans ?_
  change adaCol (fun k => StableHlo.after hostOps0 (W0 m ρ c) (Proc.devRef .tc main_v1) (ix2 ⟨1 + b.val, by omega⟩ k))
    (fun k => StableHlo.after hostOps0 (W0 m ρ c) (Proc.devRef .tc main_v2) (ix2 k j))
    (StableHlo.after hostOps0 (W0 m ρ c) (Proc.devRef .tc main_v4) (ix2 0 j)) = _
  exact (congrArg₂ (fun f g => adaCol f g (StableHlo.after hostOps0 (W0 m ρ c) (Proc.devRef .tc main_v4) (ix2 0 j)))
    (funext fun k => v1_apply (W0 m ρ c) b k) (funext fun k => v2_apply (W0 m ρ c) k j)).trans (congrArg (adaCol _ _) (v4_apply (W0 m ρ c) j))

/-- The rows of the modulation. -/
theorem w3_v10 (i : Fin 9) (b : Fin 32) (t : Fin 4) (k : Fin 1024) : W3 m ρ c (Proc.devRef .tc main_v10) (ix3 i (tok b t) k) = mods m c b i k := by
  refine (v10_apply (W2 m ρ c) i b t k).trans ?_
  rw [w2_v5]
  rfl

/-- An array of the first host lines after the modulation, until the last of them before the feed-forward. -/
theorem w10_of (r : Ref sig .tc) (h1 : r ∉ hostOps1_1_W) (h2 : r ∉ hostOps1_2_W) (h3 : r ∉ hostOps1_3_W) (h4 : r ∉ hostOps1_4_W)
    (h5 : r ∉ hostOps1_5_W) (h6 : r ∉ hostOps1_6_W) (h7 : r ∉ hostOps1_7_W) :
    W10 m ρ c (Proc.devRef .tc r) = W3 m ρ c (Proc.devRef .tc r) :=
  ((((((W10_of m ρ c r h7).trans (W9_of m ρ c r h6)).trans (W8_of m ρ c r h5)).trans (W7_of m ρ c r h4)).trans (W6_of m ρ c r h3)).trans
    (W5_of m ρ c r h2)).trans (W4_of m ρ c r h1)

/-- The modulation's rows before the feed-forward. -/
theorem w10_v10 (i : Fin 9) (b : Fin 32) (t : Fin 4) (k : Fin 1024) : W10 m ρ c (Proc.devRef .tc main_v10) (ix3 i (tok b t) k) = mods m c b i k :=
  (congrFun (w10_of m ρ c main_v10 (by decide) (by decide) (by decide) (by decide) (by decide) (by decide) (by decide)) _).trans (w3_v10 m ρ c i b t k)

/-! ## The feed-forward's operands -/

/-- The tokens' rows. -/
theorem w11_v17 (b : Fin 32) (t : Fin 4) (k : Fin 1024) : W11 m ρ c (Proc.devRef .tc main_v17) (ix2 (tok b t) k) = m ((c : Thread nD τ).loc main_arg0) (ix3 b t k) :=
  (congrFun ((W11_of m ρ c main_v17 (by decide)).trans
    (w10_of m ρ c main_v17 (by decide) (by decide) (by decide) (by decide) (by decide) (by decide) (by decide))) _).trans
    ((v17_apply (W2 m ρ c) b t k).trans (congrFun (W2_args m ρ c main_arg0 (by decide)) _))

/-- The gate's weights. -/
theorem w11_v12 (a : Fin 1024) (b : Fin 2816) : W11 m ρ c (Proc.devRef .tc main_v12) (ix2 a b) = m ((c : Thread nD τ).loc main_arg8) (ix3 0 a b) :=
  (congrFun ((W11_of m ρ c main_v12 (by decide)).trans
    (w10_of m ρ c main_v12 (by decide) (by decide) (by decide) (by decide) (by decide) (by decide) (by decide))) _).trans
    ((v12_apply (W2 m ρ c) a b).trans (congrFun (W2_args m ρ c main_arg8 (by decide)) _))

/-- The up projection's weights. -/
theorem w11_v14 (a : Fin 1024) (b : Fin 2816) : W11 m ρ c (Proc.devRef .tc main_v14) (ix2 a b) = m ((c : Thread nD τ).loc main_arg9) (ix3 0 a b) :=
  (congrFun ((W11_of m ρ c main_v14 (by decide)).trans
    (w10_of m ρ c main_v14 (by decide) (by decide) (by decide) (by decide) (by decide) (by decide) (by decide))) _).trans
    ((v14_apply (W2 m ρ c) a b).trans (congrFun (W2_args m ρ c main_arg9 (by decide)) _))

/-- The down projection's weights. -/
theorem w11_v16 (a : Fin 2816) (b : Fin 1024) : W11 m ρ c (Proc.devRef .tc main_v16) (ix2 a b) = m ((c : Thread nD τ).loc main_arg10) (ix3 0 a b) :=
  (congrFun ((W11_of m ρ c main_v16 (by decide)).trans
    (w10_of m ρ c main_v16 (by decide) (by decide) (by decide) (by decide) (by decide) (by decide) (by decide))) _).trans
    ((v16_apply (W2 m ρ c) a b).trans (congrFun (W2_args m ρ c main_arg10 (by decide)) _))

/-- The first sublayer's shift. -/
theorem w11_v38 (b : Fin 32) (t : Fin 4) (k : Fin 1024) : W11 m ρ c (Proc.devRef .tc main_v38) (ix2 (tok b t) k) = mods m c b 0 k :=
  (v38_apply (W10 m ρ c) (tok b t) k).trans (w10_v10 m ρ c 0 b t k)

/-- The first sublayer's scale. -/
theorem w11_v40 (b : Fin 32) (t : Fin 4) (k : Fin 1024) : W11 m ρ c (Proc.devRef .tc main_v40) (ix2 (tok b t) k) = mods m c b 1 k :=
  (v40_apply (W10 m ρ c) (tok b t) k).trans (w10_v10 m ρ c 1 b t k)

/-- The first sublayer's gate. -/
theorem w11_v42 (b : Fin 32) (t : Fin 4) (k : Fin 1024) : W11 m ρ c (Proc.devRef .tc main_v42) (ix2 (tok b t) k) = mods m c b 2 k :=
  (v42_apply (W10 m ρ c) (tok b t) k).trans (w10_v10 m ρ c 2 b t k)

/-- The first norm's gain. -/
theorem w11_v47 (k : Fin 1024) : W11 m ρ c (Proc.devRef .tc main_v47) (ix2 0 k) = m ((c : Thread nD τ).loc main_arg6) (ix3 0 0 k) :=
  (v47_apply (W10 m ρ c) k).trans (congrFun (W10_args m ρ c main_arg6 (by decide)) _)

/-- The first norm's bias. -/
theorem w11_v48 (k : Fin 1024) : W11 m ρ c (Proc.devRef .tc main_v48) (ix2 0 k) = m ((c : Thread nD τ).loc main_arg7) (ix3 0 0 k) :=
  (v48_apply (W10 m ρ c) k).trans (congrFun (W10_args m ρ c main_arg7 (by decide)) _)

/-! ## The projection's operands -/

/-- The recurrence's columns of the input projection. -/
theorem w3_v20 (k : Fin 1024) (j : Fin 1696) : W3 m ρ c (Proc.devRef .tc main_v20) (ix2 k j) = m ((c : Thread nD τ).loc main_arg11) (ix3 0 k ⟨1304 + j.val, by omega⟩) :=
  (v20_apply (W2 m ρ c) k j).trans (congrFun (W2_args m ρ c main_arg11 (by decide)) _)

/-- The rearranged projection at the attention's columns. -/
theorem w11_v36_attn (k : Fin 1024) (j : Fin 1280) : W11 m ρ c (Proc.devRef .tc main_v36) (ix2 k ⟨j.val, by omega⟩)
    = m ((c : Thread nD τ).loc main_arg11) (ix3 0 k ⟨j.val, by omega⟩) :=
  (v36_attn (W10 m ρ c) k j).trans
    ((congrFun (w10_of m ρ c main_v25 (by decide) (by decide) (by decide) (by decide) (by decide) (by decide) (by decide)) _).trans
      ((v25_apply (W2 m ρ c) k j).trans (congrFun (W2_args m ρ c main_arg11 (by decide)) _)))

/-- The recurrence's columns until the host line that cuts the first of them. -/
theorem w4_v20 (k : Fin 1024) (j : Fin 1696) : W4 m ρ c (Proc.devRef .tc main_v20) (ix2 k j) = m ((c : Thread nD τ).loc main_arg11) (ix3 0 k ⟨1304 + j.val, by omega⟩) :=
  (congrFun (W4_of m ρ c main_v20 (by decide)) _).trans (w3_v20 m ρ c k j)

/-- The recurrence's columns until the host line that cuts the rate's. -/
theorem w6_v20 (k : Fin 1024) (j : Fin 1696) : W6 m ρ c (Proc.devRef .tc main_v20) (ix2 k j) = m ((c : Thread nD τ).loc main_arg11) (ix3 0 k ⟨1304 + j.val, by omega⟩) :=
  (congrFun ((W6_of m ρ c main_v20 (by decide)).trans (W5_of m ρ c main_v20 (by decide))) _).trans (w4_v20 m ρ c k j)

/-- The recurrence's columns until the host line that cuts the gate's. -/
theorem w8_v20 (k : Fin 1024) (j : Fin 1696) : W8 m ρ c (Proc.devRef .tc main_v20) (ix2 k j) = m ((c : Thread nD τ).loc main_arg11) (ix3 0 k ⟨1304 + j.val, by omega⟩) :=
  (congrFun ((W8_of m ρ c main_v20 (by decide)).trans (W7_of m ρ c main_v20 (by decide))) _).trans (w6_v20 m ρ c k j)

/-- The rearranged projection at a column of the recurrence, the padding passed over. -/
theorem w11_v36_rw (k : Fin 1024) (n : Fin 1696) : W11 m ρ c (Proc.devRef .tc main_v36) (ix2 k ⟨1408 + (padCol n).val, by omega⟩)
    = m ((c : Thread nD τ).loc main_arg11) (ix3 0 k ⟨1304 + n.val, by omega⟩) := by
  have fin_at : ∀ {a b : Fin 3328}, a = b → W11 m ρ c (Proc.devRef .tc main_v36) (ix2 k a) = W11 m ρ c (Proc.devRef .tc main_v36) (ix2 k b) :=
    fun h => by rw [h]
  have arg_at : ∀ {a b : Fin 3000}, a = b → m ((c : Thread nD τ).loc main_arg11) (ix3 0 k a) = m ((c : Thread nD τ).loc main_arg11) (ix3 0 k b) :=
    fun h => by rw [h]
  by_cases h1 : n.val < 1536
  · refine (fin_at (b := ⟨1408 + (⟨n.val, h1⟩ : Fin 1536).val, by omega⟩) (Fin.ext ?_)).trans ?_
    · simp only [padCol]; split_ifs <;> simp only [] <;> omega
    refine (v36_rkv (W10 m ρ c) k ⟨n.val, h1⟩).trans ?_
    refine (congrFun (((((W10_of m ρ c main_v27 (by decide)).trans (W9_of m ρ c main_v27 (by decide))).trans (W8_of m ρ c main_v27 (by decide))).trans
      (W7_of m ρ c main_v27 (by decide))).trans (W6_of m ρ c main_v27 (by decide))) _).trans ?_
    exact (v27_apply (W4 m ρ c) k ⟨n.val, h1⟩).trans (w4_v20 m ρ c k _)
  by_cases h2 : n.val < 1568
  · refine (fin_at (b := ⟨2944 + (⟨n.val - 1536, by omega⟩ : Fin 128).val, by omega⟩) (Fin.ext ?_)).trans ?_
    · simp only [padCol]; split_ifs <;> simp only [] <;> omega
    refine (v36_decay (W10 m ρ c) k ⟨n.val - 1536, by omega⟩).trans ?_
    refine (congrFun ((((W10_of m ρ c main_v29 (by decide)).trans (W9_of m ρ c main_v29 (by decide))).trans (W8_of m ρ c main_v29 (by decide))).trans
      (W7_of m ρ c main_v29 (by decide))) _).trans ?_
    refine (v29_apply (W5 m ρ c) k ⟨n.val - 1536, by omega⟩ (by simp only []; omega)).trans ?_
    refine (v28_apply (W4 m ρ c) k ⟨n.val - 1536, by omega⟩).trans ((w4_v20 m ρ c k _).trans (arg_at (Fin.ext ?_)))
    simp only []; omega
  by_cases h3 : n.val < 1600
  · refine (fin_at (b := ⟨3072 + (⟨n.val - 1568, by omega⟩ : Fin 128).val, by omega⟩) (Fin.ext ?_)).trans ?_
    · simp only [padCol]; split_ifs <;> simp only [] <;> omega
    refine (v36_rate (W10 m ρ c) k ⟨n.val - 1568, by omega⟩).trans ?_
    refine (congrFun ((W10_of m ρ c main_v31 (by decide)).trans (W9_of m ρ c main_v31 (by decide))) _).trans ?_
    refine (v31_apply (W7 m ρ c) k ⟨n.val - 1568, by omega⟩ (by simp only []; omega)).trans ?_
    refine (v30_apply (W6 m ρ c) k ⟨n.val - 1568, by omega⟩).trans ((w6_v20 m ρ c k _).trans (arg_at (Fin.ext ?_)))
    simp only []; omega
  · refine (fin_at (b := ⟨3200 + (⟨n.val - 1600, by omega⟩ : Fin 128).val, by omega⟩) (Fin.ext ?_)).trans ?_
    · simp only [padCol]; split_ifs <;> simp only [] <;> omega
    refine (v36_gate (W10 m ρ c) k ⟨n.val - 1600, by omega⟩).trans ?_
    refine (v33_apply (W9 m ρ c) k ⟨n.val - 1600, by omega⟩ (by simp only []; omega)).trans ?_
    refine (v32_apply (W8 m ρ c) k ⟨n.val - 1600, by omega⟩).trans ((w8_v20 m ρ c k _).trans (arg_at (Fin.ext ?_)))
    simp only []; omega

/-- The rows after the first sublayer. -/
theorem w12_v49 (b : Fin 32) (t : Fin 4) (k : Fin 1024) : W12 m ρ c (Proc.devRef .tc main_v49) (ix2 (tok b t) k)
    = ffnRow (fun k => m ((c : Thread nD τ).loc main_arg0) (ix3 b t k)) (mods m c b 0) (mods m c b 1) (mods m c b 2)
        (fun k => m ((c : Thread nD τ).loc main_arg6) (ix3 0 0 k)) (fun k => m ((c : Thread nD τ).loc main_arg7) (ix3 0 0 k))
        (fun a b => m ((c : Thread nD τ).loc main_arg8) (ix3 0 a b)) (fun a b => m ((c : Thread nD τ).loc main_arg9) (ix3 0 a b))
        (fun a b => m ((c : Thread nD τ).loc main_arg10) (ix3 0 a b)) k := by
  refine (congrFun ((W12_arr m ρ c 9).trans (ffn_final (V11 m ρ) c)) (ix2 (tok b t) k)).trans ?_
  change ffnRow (fun k => W11 m ρ c (Proc.devRef .tc main_v17) (ix2 (tok b t) k)) (fun k => W11 m ρ c (Proc.devRef .tc main_v38) (ix2 (tok b t) k))
    (fun k => W11 m ρ c (Proc.devRef .tc main_v40) (ix2 (tok b t) k)) (fun k => W11 m ρ c (Proc.devRef .tc main_v42) (ix2 (tok b t) k))
    (fun k => W11 m ρ c (Proc.devRef .tc main_v47) (ix2 0 k)) (fun k => W11 m ρ c (Proc.devRef .tc main_v48) (ix2 0 k))
    (fun a b => W11 m ρ c (Proc.devRef .tc main_v12) (ix2 a b)) (fun a b => W11 m ρ c (Proc.devRef .tc main_v14) (ix2 a b))
    (fun a b => W11 m ρ c (Proc.devRef .tc main_v16) (ix2 a b)) k = _
  simp only [w11_v17 m ρ c, w11_v38 m ρ c, w11_v40 m ρ c, w11_v42 m ρ c, w11_v47 m ρ c, w11_v48 m ρ c, w11_v12 m ρ c, w11_v14 m ρ c, w11_v16 m ρ c]

/-- The modulation's rows before the projection. -/
theorem w12_v10 (i : Fin 9) (b : Fin 32) (t : Fin 4) (k : Fin 1024) : W12 m ρ c (Proc.devRef .tc main_v10) (ix3 i (tok b t) k) = mods m c b i k :=
  (congrFun ((W12_of m ρ c main_v10 (by decide +kernel)).trans (W11_of m ρ c main_v10 (by decide))) _).trans (w10_v10 m ρ c i b t k)

/-- A token's row as the projection takes it. -/
def into (b : Fin 32) (t : Fin 4) : Fin 1024 → EReal :=
  intoRow (fun k => m ((c : Thread nD τ).loc main_arg0) (ix3 b t k)) (fun k => m ((c : Thread nD τ).loc main_arg3) (ix2 b k))
    (fun a b => m ((c : Thread nD τ).loc main_arg4) (ix3 0 a b)) (fun b => m ((c : Thread nD τ).loc main_arg5) (ix2 0 b))
    (fun k => m ((c : Thread nD τ).loc main_arg6) (ix3 0 0 k)) (fun k => m ((c : Thread nD τ).loc main_arg7) (ix3 0 0 k))
    (fun a b => m ((c : Thread nD τ).loc main_arg8) (ix3 0 a b)) (fun a b => m ((c : Thread nD τ).loc main_arg9) (ix3 0 a b))
    (fun a b => m ((c : Thread nD τ).loc main_arg10) (ix3 0 a b))

/-- The projection's columns, over the arguments. -/
theorem projAt_eq (b : Fin 32) (t : Fin 4) (j : Fin 3328) : projAt (V13 m ρ) c (tok b t) j
    = colOf (into m c b t) (fun k => W11 m ρ c (Proc.devRef .tc main_v36) (ix2 k j)) := by
  have e49 : ∀ k, W13 m ρ c (Proc.devRef .tc main_v49) (ix2 (tok b t) k) = _ :=
    fun k => (congrFun (W13_of m ρ c main_v49 (by decide)) (ix2 (tok b t) k)).trans (w12_v49 m ρ c b t k)
  have e51 : ∀ k, W13 m ρ c (Proc.devRef .tc main_v51) (ix2 (tok b t) k) = mods m c b 3 k := fun k => (v51_apply (W12 m ρ c) (tok b t) k).trans (w12_v10 m ρ c 3 b t k)
  have e53 : ∀ k, W13 m ρ c (Proc.devRef .tc main_v53) (ix2 (tok b t) k) = mods m c b 4 k := fun k => (v53_apply (W12 m ρ c) (tok b t) k).trans (w12_v10 m ρ c 4 b t k)
  have e36 : ∀ k, W13 m ρ c (Proc.devRef .tc main_v36) (ix2 k j) = W11 m ρ c (Proc.devRef .tc main_v36) (ix2 k j) :=
    fun k => congrFun ((W13_of m ρ c main_v36 (by decide)).trans (W12_of m ρ c main_v36 (by decide +kernel))) (ix2 k j)
  change colOf (modul (fun k => W13 m ρ c (Proc.devRef .tc main_v49) (ix2 (tok b t) k)) (fun k => W13 m ρ c (Proc.devRef .tc main_v53) (ix2 (tok b t) k))
    (fun k => W13 m ρ c (Proc.devRef .tc main_v51) (ix2 (tok b t) k))) (fun k => W13 m ρ c (Proc.devRef .tc main_v36) (ix2 k j)) = _
  simp only [e49, e51, e53, e36]
  rfl

/-- Column `n` of a token's projection. -/
def column (b : Fin 32) (t : Fin 4) (n : Fin 3000) : EReal := colOf (into m c b t) (fun k => m ((c : Thread nD τ).loc main_arg11) (ix3 0 k n))

/-- The keys and values after the run. -/
theorem w15_v55 (b : Fin 32) (t : Fin 4) (n : Fin 4) (h : Fin 2) (d : Fin 64) : W15 m ρ c (Proc.devRef .tc main_v55) (ix6 0 b t n h d)
    = column m c b t ⟨512 + 128 * n.val + 64 * h.val + d.val, by omega⟩ := by
  refine (v55_apply (W14 m ρ c) b t n h d).trans ?_
  refine (congrFun ((W14_arr m ρ c 5).trans (kv_final (V13 m ρ) c)) _).trans ?_
  refine (projAt_eq m ρ c b t ⟨512 + (128 * n.val + 64 * h.val + d.val), by omega⟩).trans ?_
  refine congrArg (colOf (into m c b t)) (funext fun k => ?_)
  refine (w11_v36_attn m ρ c k ⟨512 + (128 * n.val + 64 * h.val + d.val), by omega⟩).trans ?_
  exact congrArg (fun a => m ((c : Thread nD τ).loc main_arg11) (ix3 0 k a)) (Fin.ext (by simp only []; omega))

/-- The window's past tokens after the run. -/
theorem w15_v60_old (b : Fin 32) (t : Fin 508) (n : Fin 2) (h : Fin 2) (d : Fin 64) : W15 m ρ c (Proc.devRef .tc main_v60) (ix6 0 b ⟨t.val, by omega⟩ n h d)
    = m ((c : Thread nD τ).loc main_arg1) (ix6 0 b ⟨4 + t.val, by omega⟩ n h d) :=
  (v60_old (W14 m ρ c) b t n h d).trans (congrFun (W14_args m ρ c main_arg1 (by decide)) _)

/-- The window's new tokens after the run. -/
theorem w15_v60_new (b : Fin 32) (t : Fin 4) (n : Fin 2) (h : Fin 2) (d : Fin 64) : W15 m ρ c (Proc.devRef .tc main_v60) (ix6 0 b ⟨508 + t.val, by omega⟩ n h d)
    = column m c b t ⟨1024 + 128 * n.val + 64 * h.val + d.val, by omega⟩ := by
  refine (v60_new (W14 m ρ c) b t n h d).trans ?_
  refine (congrFun ((W14_arr m ρ c 6).trans (win_final (V13 m ρ) c)) _).trans ?_
  refine (projAt_eq m ρ c b t ⟨1024 + (128 * n.val + 64 * h.val + d.val), by omega⟩).trans ?_
  refine congrArg (colOf (into m c b t)) (funext fun k => ?_)
  refine (w11_v36_attn m ρ c k ⟨1024 + (128 * n.val + 64 * h.val + d.val), by omega⟩).trans ?_
  exact congrArg (fun a => m ((c : Thread nD τ).loc main_arg11) (ix3 0 k a)) (Fin.ext (by simp only []; omega))

/-- Each sample's last token's columns of the recurrence after the run. -/
theorem w15_v69 (b : Fin 32) (n : Fin 1696) : W15 m ρ c (Proc.devRef .tc main_v69) (ix3 0 b n) = column m c b 3 ⟨1304 + n.val, by omega⟩ := by
  refine (v69_apply (W14 m ρ c) b n).trans ?_
  refine (congrFun ((W14_arr m ρ c 8).trans (rw_final (V13 m ρ) c)) _).trans ?_
  refine (projAt_eq m ρ c b 3 ⟨1408 + (padCol n).val, by omega⟩).trans ?_
  exact congrArg (colOf (into m c b 3)) (funext fun k => w11_v36_rw m ρ c k n)

/-! ## The claim -/

/-- The reference's keys and values of the same arguments. -/
theorem kv_eq : W15 m ρ c (Proc.devRef .tc main_v55) = Cert.SampleRefIdeal.Read.val_main_v115 (F := Ideal)
    (m ((c : Thread nD τ).loc main_arg0)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) := by
  refine funext fun (y : S1x32x4x4x2x64.Idx) => ?_
  obtain ⟨b, t, n, h, d, rfl⟩ : ∃ (b : Fin 32) (t : Fin 4) (n : Fin 4) (h : Fin 2) (d : Fin 64), y = ix6 0 b t n h d :=
    ⟨y 1, y 2, y 3, y 4, y 5, (eq_ix6 y).trans (congrArg (fun a => ix6 a (y 1) (y 2) (y 3) (y 4) (y 5)) (Subsingleton.elim (α := Fin 1) (y 0) 0))⟩
  rw [w15_v55, SampleRef.v115_apply, SampleRef.v78_apply]
  rfl

/-- The reference's window of the same arguments. -/
theorem win_eq : W15 m ρ c (Proc.devRef .tc main_v60) = Cert.SampleRefIdeal.Read.val_main_v117 (F := Ideal)
    (m ((c : Thread nD τ).loc main_arg0)) (m ((c : Thread nD τ).loc main_arg1)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) := by
  refine funext fun (y : S1x32x512x2x2x64.Idx) => ?_
  obtain ⟨b, t, n, h, d, rfl⟩ : ∃ (b : Fin 32) (t : Fin 512) (n : Fin 2) (h : Fin 2) (d : Fin 64), y = ix6 0 b t n h d :=
    ⟨y 1, y 2, y 3, y 4, y 5, (eq_ix6 y).trans (congrArg (fun a => ix6 a (y 1) (y 2) (y 3) (y 4) (y 5)) (Subsingleton.elim (α := Fin 1) (y 0) 0))⟩
  by_cases ht : t.val < 508
  · obtain ⟨s, hs⟩ : ∃ s : Fin 508, t = ⟨s.val, by omega⟩ := ⟨⟨t.val, ht⟩, rfl⟩
    rw [hs, w15_v60_old, SampleRef.v117_old]
  · obtain ⟨s, hs⟩ : ∃ s : Fin 4, t = ⟨508 + s.val, by omega⟩ := ⟨⟨t.val - 508, by omega⟩, Fin.ext (by simp only []; omega)⟩
    rw [hs, w15_v60_new, SampleRef.v117_new, SampleRef.v78_apply]
    rfl

/-- The reference's last tokens of the same arguments. -/
theorem shift_eq : W15 m ρ c (Proc.devRef .tc main_v69) = Cert.SampleRefIdeal.Read.val_main_v118 (F := Ideal)
    (m ((c : Thread nD τ).loc main_arg0)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) := by
  refine funext fun (y : S1x32x1696.Idx) => ?_
  obtain ⟨b, n, rfl⟩ : ∃ (b : Fin 32) (n : Fin 1696), y = ix3 0 b n :=
    ⟨y 1, y 2, (eq_ix3 y).trans (congrArg (fun a => ix3 a (y 1) (y 2)) (Subsingleton.elim (α := Fin 1) (y 0) 0))⟩
  rw [w15_v69, SampleRef.v118_apply, SampleRef.v78_apply]
  rfl

/-- The algebraic claim: from equal arguments, the program's three results are the reference's. -/
theorem algebraic : Cert.algebraic_SampleIdeal_SampleRefIdeal (hSampleIdeal := Cert.SampleIdeal.Gen.facts)
    (hSampleRefIdeal := Cert.SampleRefIdeal.Gen.facts) := by
  intro m g m' g' _ hargs
  refine ⟨fun c => W15 m g c (Proc.devRef .tc main_v55), fun c => W15 m g c (Proc.devRef .tc main_v60), fun c => W15 m g c (Proc.devRef .tc main_v69), ?_, ?_⟩
  · refine (θ_run (Cert.SampleIdeal.defs (F := Ideal)) _ _).mono (fun r h c => ?_) (SampleRun.run m g)
    exact ⟨h c _ (mem_uc main_v55 (by decide)), h c _ (mem_uc main_v60 (by decide)), h c _ (mem_uc main_v69 (by decide)),
      (h c _ (mem_uc main_arg0 (by decide))).trans (W15_main_arg0 m g c), (h c _ (mem_uc main_arg1 (by decide))).trans (W15_main_arg1 m g c),
      (h c _ (mem_uc main_arg2 (by decide))).trans (W15_main_arg2 m g c),
      (h c _ (mem_uc main_arg3 (by decide))).trans (W15_main_arg3 m g c), (h c _ (mem_uc main_arg4 (by decide))).trans (W15_main_arg4 m g c),
      (h c _ (mem_uc main_arg5 (by decide))).trans (W15_main_arg5 m g c), (h c _ (mem_uc main_arg6 (by decide))).trans (W15_main_arg6 m g c),
      (h c _ (mem_uc main_arg7 (by decide))).trans (W15_main_arg7 m g c), (h c _ (mem_uc main_arg8 (by decide))).trans (W15_main_arg8 m g c),
      (h c _ (mem_uc main_arg9 (by decide))).trans (W15_main_arg9 m g c), (h c _ (mem_uc main_arg10 (by decide))).trans (W15_main_arg10 m g c),
      (h c _ (mem_uc main_arg11 (by decide))).trans (W15_main_arg11 m g c)⟩
  · refine (θ_run (Cert.SampleRefIdeal.defs (F := Ideal)) _ _).mono (fun r h c => ?_) (Cert.SampleRefIdeal.Value.run (F := Ideal) m' g')
    obtain ⟨h0, h1, h2, h3, h4, h5, h6, h7, h8, h9, h10, h11⟩ := hargs c
    refine ⟨(h c).1.trans ((Cert.SampleRefIdeal.Read.val_main_v115_eq (StableHlo.launchContents m' c)).trans ?_),
      (h c).2.1.trans ((Cert.SampleRefIdeal.Read.val_main_v117_eq (StableHlo.launchContents m' c)).trans ?_),
      (h c).2.2.1.trans ((Cert.SampleRefIdeal.Read.val_main_v118_eq (StableHlo.launchContents m' c)).trans ?_), (h c).2.2.2⟩
    · refine Eq.trans ?_ (kv_eq m g c).symm
      rw [← h0, ← h3, ← h4, ← h5, ← h6, ← h7, ← h8, ← h9, ← h10, ← h11]
    · refine Eq.trans ?_ (win_eq m g c).symm
      rw [← h0, ← h1, ← h3, ← h4, ← h5, ← h6, ← h7, ← h8, ← h9, ← h10, ← h11]
    · refine Eq.trans ?_ (shift_eq m g c).symm
      rw [← h0, ← h3, ← h4, ← h5, ← h6, ← h7, ← h8, ← h9, ← h10, ← h11]

end Cert.Proof.SampleValue

end
-- ==== Proof.OutPay.lean ====
/-
  What one grid point of the output and feed-forward call computes, read at one element: the layer's formulas on the row.
-/
module

public import proofs.«01_k».proof.Proof.Row
public import proofs.«01_k».proof.Proof.Gen.OutIdeal.Frame
public import Idealize.ShloMosaic.Lib.Pipeline.ValueKit

@[expose] public section

set_option maxRecDepth 16384

noncomputable section

namespace Cert.Proof.OutPay

open Idealize.ShloMosaic Cert.OutIdeal Cert.OutIdeal.Gen Cert.Proof.Row

/-- The first residual sum less its mean. -/
theorem pay3_apply (v0 : Vec Ideal S512x512 .f32) (v2 : Vec Ideal S512x1024 .bf16) (v5 : Vec Ideal S512x512 .f32) (v7 : Vec Ideal S512x1024 .bf16) (v11 : Vec Ideal S512x1024 .f32) (v14 : Vec Ideal S1x1024 .f32) (r : Fin 512) (j : Fin 1024) :
    k0_pay3 v0 v2 v5 v7 v11 v14 (ix2 r j)
      = ctr (resid (fun k => v11 (ix2 r k)) (fun k => v14 (ix2 0 k))
          fun k => ∑ x, v0 (ix2 r x) * v2 (ix2 x k) + ∑ x, v5 (ix2 r x) * v7 (ix2 x k)) j := by
  pointwise [k0_pay3, ctr, resid, mean]

/-- The first residual sum's variance. -/
theorem pay4_apply (v0 : Vec Ideal S512x512 .f32) (v2 : Vec Ideal S512x1024 .bf16) (v5 : Vec Ideal S512x512 .f32) (v7 : Vec Ideal S512x1024 .bf16) (v11 : Vec Ideal S512x1024 .f32) (v14 : Vec Ideal S1x1024 .f32) (r : Fin 512) :
    k0_pay4 v0 v2 v5 v7 v11 v14 (ix2 r 0)
      = var (resid (fun k => v11 (ix2 r k)) (fun k => v14 (ix2 0 k))
          fun k => ∑ x, v0 (ix2 r x) * v2 (ix2 x k) + ∑ x, v5 (ix2 r x) * v7 (ix2 x k)) := by
  pointwise [k0_pay4]
  simp only [pay3_apply]
  rfl

/-- The first norm. -/
theorem pay5_apply (v21 : FVec Ideal S1x1024 .f32) (v23 : FVec Ideal S1x1024 .f32) (v29 : FVec Ideal S512x1024 .f32) (v34 : FVec Ideal S512x1 .f32) (r : Fin 512) (j : Fin 1024) :
    k0_pay5 v21 v23 v29 v34 (ix2 r j)
      = v29 (ix2 r j) * Ideal.rsqrt (v34 (ix2 r 0) + Ideal.ofBits .f32 0x3727C5AC#32) * v21 (ix2 0 j) + v23 (ix2 0 j) := by
  pointwise [k0_pay5]

/-- The modulated row. -/
theorem pay8_apply (v21 v23 : FVec Ideal S1x1024 .f32) (v29 : FVec Ideal S512x1024 .f32) (v34 : FVec Ideal S512x1 .f32) (v44 v45 : Vec Ideal S1x1024 .f32) (r : Fin 512) (j : Fin 1024) :
    k0_pay8 v21 v23 v29 v34 v44 v45 (ix2 r j)
      = modul (fun k => k0_pay5 v21 v23 v29 v34 (ix2 r k)) (fun k => v45 (ix2 0 k)) (fun k => v44 (ix2 0 k)) j := by
  pointwise [k0_pay8, modul]

/-- The first half of the hidden units. -/
theorem pay9_apply (v21 v23 : FVec Ideal S1x1024 .f32) (v29 : FVec Ideal S512x1024 .f32) (v34 : FVec Ideal S512x1 .f32) (v44 v45 : Vec Ideal S1x1024 .f32) (v59 v62 : Vec Ideal S1024x1408 .bf16) (v69 : Vec Ideal S1408x1024 .bf16) (r : Fin 512) (j : Fin 1024) :
    k0_pay9 v21 v23 v29 v34 v44 v45 v59 v62 v69 (ix2 r j)
      = ∑ f, unit (fun k => k0_pay8 v21 v23 v29 v34 v44 v45 (ix2 r k)) (fun k => v59 (ix2 k f)) (fun k => v62 (ix2 k f)) * v69 (ix2 f j) := by
  pointwise [k0_pay9, unit]

/-- The second half of the hidden units, and the second norm. -/
theorem pay10_apply (v43 : FVec Ideal S512x1024 .f32) (v46 : Vec Ideal S1x1024 .f32) (v48 v50 : FVec Ideal S1x1024 .f32) (v57 : FVec Ideal S512x1024 .bf16) (v72 : FVec Ideal S512x1024 .f32) (v73 v76 : Vec Ideal S1024x1408 .bf16) (v83 : Vec Ideal S1408x1024 .bf16) (r : Fin 512) (j : Fin 1024) :
    k0_pay10 v43 v46 v48 v50 v57 v72 v73 v76 v83 (ix2 r j)
      = ln (resid (fun k => v43 (ix2 r k)) (fun k => v46 (ix2 0 k)) fun j => Ideal.ofBits .f32 0x3F000000#32 *
          (v72 (ix2 r j) + ∑ f, unit (fun k => v57 (ix2 r k)) (fun k => v73 (ix2 k f)) (fun k => v76 (ix2 k f)) * v83 (ix2 f j)))
          (fun k => v48 (ix2 0 k)) (fun k => v50 (ix2 0 k)) j := by
  pointwise [k0_pay10, ln, ctr, var, mean, resid, unit]

set_option maxHeartbeats 1000000 in
/-- What the body leaves in its output block, at row `r` and column `j`: the two sublayers on row `r`. -/
theorem out_apply (x0 : Vec Ideal S512x1024 .f32) (x1 x2 : Vec Ideal S512x512 .f32) (x3 x4 x5 : Vec Ideal S1x1024 .f32) (x6 : Vec Ideal S1024x1024 .bf16) (x7 x8 x9 x10 x11 : Vec Ideal S1x1024 .f32) (x12 x13 : Vec Ideal S1024x2816 .bf16) (x14 : Vec Ideal S2816x1024 .bf16) (r : Fin 512) (j : Fin 1024) :
    out0_15 x0 x1 x2 x3 x4 x5 x6 x7 x8 x9 x10 x11 x12 x13 x14 (ix2 r j)
      = ffnRow (mixRow (fun k => x0 (ix2 r k)) (fun k => x1 (ix2 r k)) (fun k => x2 (ix2 r k)) (fun k => x3 (ix2 0 k))
            (fun k => x4 (ix2 0 k)) (fun k => x5 (ix2 0 k)) (fun a b => x6 (ix2 a b)))
          (fun k => x7 (ix2 0 k)) (fun k => x8 (ix2 0 k)) (fun k => x9 (ix2 0 k)) (fun k => x10 (ix2 0 k)) (fun k => x11 (ix2 0 k))
          (fun a b => x12 (ix2 a b)) (fun a b => x13 (ix2 a b)) (fun a b => x14 (ix2 a b)) j := by
  have hz : (![0, 0] : Fin S512x1024.rank → Nat) = fun _ => 0 := funext fun a => by fin_cases a <;> rfl
  have hm : ∀ k, k0_pay5 (k0_pay11 x0 x1 x2 x3 x4 x5 x6 x7 x8 x9 x10 x11 x12 x13 x14) (k0_pay12 x0 x1 x2 x3 x4 x5 x6 x7 x8 x9 x10 x11 x12 x13 x14) (k0_pay13 x0 x1 x2 x3 x4 x5 x6 x7 x8 x9 x10 x11 x12 x13 x14) (k0_pay14 x0 x1 x2 x3 x4 x5 x6 x7 x8 x9 x10 x11 x12 x13 x14) (ix2 r k)
      = mixRow (fun k => x0 (ix2 r k)) (fun k => x1 (ix2 r k)) (fun k => x2 (ix2 r k)) (fun k => x3 (ix2 0 k))
            (fun k => x4 (ix2 0 k)) (fun k => x5 (ix2 0 k)) (fun a b => x6 (ix2 a b)) k := by
    intro k
    rw [pay5_apply]
    unfold k0_pay11 k0_pay12 k0_pay13 k0_pay14 mixRow ln
    rw [pay3_apply, pay4_apply]
    pointwise [k0_pay1, k0_pay2]
    rfl
  unfold out0_15
  rw [View.canon_unit_zero hz, pay10_apply]
  simp only [pay9_apply, pay8_apply, hm]
  unfold ffnRow
  have hh : ∀ j, halfFf (modul (mixRow (fun k => x0 (ix2 r k)) (fun k => x1 (ix2 r k)) (fun k => x2 (ix2 r k)) (fun k => x3 (ix2 0 k))
            (fun k => x4 (ix2 0 k)) (fun k => x5 (ix2 0 k)) (fun a b => x6 (ix2 a b))) (fun k => x8 (ix2 0 k)) (fun k => x7 (ix2 0 k)))
          (fun a b => x12 (ix2 a b)) (fun a b => x13 (ix2 a b)) (fun a b => x14 (ix2 a b)) j = _ := fun j => by
    unfold halfFf; rw [ff_halves]
  simp only [funext hh]
  pointwise [k0_pay6, k0_pay7]

end Cert.Proof.OutPay

end
-- ==== Proof.OutRef.lean ====
/-
  The reference of the output and feed-forward call, read at one element: the layer's formulas on the row.
-/
module

public import proofs.«01_k».proof.Proof.Row
public import proofs.«01_k».proof.Proof.Gen.OutRefIdeal.Read

@[expose] public section

set_option maxRecDepth 16384

noncomputable section

namespace Cert.Proof.OutRef

open Idealize.ShloMosaic Cert.OutRefIdeal Cert.OutRefIdeal.Gen Cert.OutRefIdeal.Read Cert.Proof.Row

variable (x0 : Vec Ideal S16384x1024 .f32) (x1 x2 : Vec Ideal S16384x512 .f32) (x3 : Vec Ideal S1x1024 .f32) (x4 x5 : Vec Ideal S1024 .f32)
  (x6 : Vec Ideal S1x1024x1024 .f32) (x7 x8 x9 : Vec Ideal S1x1024 .f32) (x10 x11 : Vec Ideal S1024 .f32)
  (x12 x13 : Vec Ideal S1x1024x2816 .f32) (x14 : Vec Ideal S1x2816x1024 .f32) (r : Fin 16384) (j : Fin 1024)

/-- The first residual sum. -/
theorem v9_apply : val_main_v9 (F := Ideal) x0 x1 x2 x3 x6 (ix2 r j)
    = resid (fun k => x0 (ix2 r k)) (fun k => x3 (ix2 0 k))
        (proj2 (fun k => x1 (ix2 r k)) (fun k => x2 (ix2 r k)) fun a b => x6 (ix3 0 a b)) j := by
  pointwise [val_main_v9, val_main_v8, val_main_v7, val_main_v6, val_main_v5, val_main_v4, val_main_v3, val_main_v2, val_main_v1, val_main_v0,
    val_main_cst, val_main_cst_0, resid, proj2]

/-- The mean of the first residual sum. -/
theorem v13_apply : val_main_v13 (F := Ideal) x0 x1 x2 x3 x6 (ix2 r 0)
    = mean fun k => val_main_v9 (F := Ideal) x0 x1 x2 x3 x6 (ix2 r k) := by
  pointwise [val_main_v13, val_main_v12, val_main_v11, val_main_v10, val_main_cst_1, val_main_cst_2, mean]

/-- The first residual sum's variance. -/
theorem v20_apply : val_main_v20 (F := Ideal) x0 x1 x2 x3 x6 (ix2 r 0)
    = var fun k => val_main_v9 (F := Ideal) x0 x1 x2 x3 x6 (ix2 r k) := by
  pointwise [val_main_v20, val_main_v19, val_main_v18, val_main_v17, val_main_v16, val_main_v15, val_main_v14, val_main_cst_3, val_main_cst_4]
  simp only [v13_apply]
  rfl

/-- The mixer's sublayer. -/
theorem v33_apply : val_main_v33 (F := Ideal) x0 x1 x2 x3 x4 x5 x6 (ix2 r j)
    = mixRow (fun k => x0 (ix2 r k)) (fun k => x1 (ix2 r k)) (fun k => x2 (ix2 r k)) (fun k => x3 (ix2 0 k))
        (fun k => x4 (ix1 k)) (fun k => x5 (ix1 k)) (fun a b => x6 (ix3 0 a b)) j := by
  pointwise [val_main_v33, val_main_v32, val_main_v31, val_main_v30, val_main_v29, val_main_v28, val_main_v27, val_main_v26, val_main_v25,
    val_main_v24, val_main_v23, val_main_v22, val_main_v21, val_main_cst_5]
  simp only [v13_apply, v20_apply, v9_apply]
  rfl

/-- The feed-forward block of the modulated row, halved. -/
theorem v49_apply : val_main_v49 (F := Ideal) x0 x1 x2 x3 x4 x5 x6 x7 x8 x12 x13 x14 (ix2 r j)
    = halfFf (modul (fun k => val_main_v33 (F := Ideal) x0 x1 x2 x3 x4 x5 x6 (ix2 r k)) (fun k => x8 (ix2 0 k)) (fun k => x7 (ix2 0 k)))
        (fun a b => x12 (ix3 0 a b)) (fun a b => x13 (ix3 0 a b)) (fun a b => x14 (ix3 0 a b)) j := by
  have hm : ∀ k, val_main_v39 (F := Ideal) x0 x1 x2 x3 x4 x5 x6 x7 x8 (ix2 r k)
      = modul (fun k => val_main_v33 (F := Ideal) x0 x1 x2 x3 x4 x5 x6 (ix2 r k)) (fun k => x8 (ix2 0 k)) (fun k => x7 (ix2 0 k)) k := by
    intro k
    pointwise [val_main_v39, val_main_v38, val_main_v37, val_main_v36, val_main_v35, val_main_v34, val_main_cst_6, modul]
  pointwise [val_main_v49, val_main_v48, val_main_v47, val_main_v46, val_main_v45, val_main_v44, val_main_v43, val_main_v42, val_main_v41,
    val_main_v40, val_main_cst_7, val_main_call0_v0, val_main_call0_v1, val_main_call0_v2, val_main_call0_v3, val_main_call0_v4,
    val_main_call0_v5, val_main_call0_cst, val_main_call0_cst_0]
  simp only [hm]
  rfl

/-- The second residual sum. -/
theorem v56_apply : val_main_v56 (F := Ideal) x0 x1 x2 x3 x4 x5 x6 x7 x8 x9 x12 x13 x14 (ix2 r j)
    = resid (fun k => val_main_v33 (F := Ideal) x0 x1 x2 x3 x4 x5 x6 (ix2 r k)) (fun k => x9 (ix2 0 k))
        (fun k => val_main_v49 (F := Ideal) x0 x1 x2 x3 x4 x5 x6 x7 x8 x12 x13 x14 (ix2 r k)) j := by
  pointwise [val_main_v56, val_main_v55, val_main_v54, val_main_v53, val_main_v52, val_main_v51, val_main_v50, val_main_cst_8, val_main_cst_9, resid]

/-- The mean of the second residual sum. -/
theorem v60_apply : val_main_v60 (F := Ideal) x0 x1 x2 x3 x4 x5 x6 x7 x8 x9 x12 x13 x14 (ix2 r 0)
    = mean fun k => val_main_v56 (F := Ideal) x0 x1 x2 x3 x4 x5 x6 x7 x8 x9 x12 x13 x14 (ix2 r k) := by
  pointwise [val_main_v60, val_main_v59, val_main_v58, val_main_v57, val_main_cst_10, val_main_cst_11, mean]

/-- The second residual sum's variance. -/
theorem v67_apply : val_main_v67 (F := Ideal) x0 x1 x2 x3 x4 x5 x6 x7 x8 x9 x12 x13 x14 (ix2 r 0)
    = var fun k => val_main_v56 (F := Ideal) x0 x1 x2 x3 x4 x5 x6 x7 x8 x9 x12 x13 x14 (ix2 r k) := by
  pointwise [val_main_v67, val_main_v66, val_main_v65, val_main_v64, val_main_v63, val_main_v62, val_main_v61, val_main_cst_12, val_main_cst_13]
  simp only [v60_apply]
  rfl

/-- The reference's result at row `r` and column `j`: the two sublayers on row `r`. -/
theorem v80_apply : val_main_v80 (F := Ideal) x0 x1 x2 x3 x4 x5 x6 x7 x8 x9 x10 x11 x12 x13 x14 (ix2 r j)
    = ffnRow (mixRow (fun k => x0 (ix2 r k)) (fun k => x1 (ix2 r k)) (fun k => x2 (ix2 r k)) (fun k => x3 (ix2 0 k))
          (fun k => x4 (ix1 k)) (fun k => x5 (ix1 k)) (fun a b => x6 (ix3 0 a b)))
        (fun k => x7 (ix2 0 k)) (fun k => x8 (ix2 0 k)) (fun k => x9 (ix2 0 k)) (fun k => x10 (ix1 k)) (fun k => x11 (ix1 k))
        (fun a b => x12 (ix3 0 a b)) (fun a b => x13 (ix3 0 a b)) (fun a b => x14 (ix3 0 a b)) j := by
  pointwise [val_main_v80, val_main_v79, val_main_v78, val_main_v77, val_main_v76, val_main_v75, val_main_v74, val_main_v73, val_main_v72,
    val_main_v71, val_main_v70, val_main_v69, val_main_v68, val_main_cst_14]
  simp only [v60_apply, v67_apply, v56_apply, v49_apply, v33_apply]
  rfl

end Cert.Proof.OutRef

end
-- ==== Proof.OutValue.lean ====
/-
  The output and feed-forward call's result array after the run, and its agreement with the reference.
-/
module

public import proofs.«01_k».proof.Defs
public import proofs.«01_k».proof.Proof.OutPay
public import proofs.«01_k».proof.Proof.OutRef
public import proofs.«01_k».proof.Proof.Gen.OutIdeal.Value

@[expose] public section

set_option maxRecDepth 16384

noncomputable section

namespace Cert.Proof.OutValue

open Idealize.ShloMosaic Idealize.SL.Sem Idealize.ShloMosaic.TcCoe Cert.OutIdeal Cert.OutIdeal.Gen Cert.Proof.Row

variable (m : (ℓ : Loc nD τ sig) → Buf (Elt Ideal) ℓ) (c : Dev nD) (t : Fin cfg0.N)

/-- Where the windows' blocks lie: the rows of the point, or the whole array. -/
theorem idx : ∀ t : Fin cfg0.N, win0_0.index t = ![t.val, 0] ∧ win0_1.index t = ![t.val, 0] ∧ win0_2.index t = ![t.val, 0]
    ∧ win0_15.index t = ![t.val, 0] :=
  (by decide +kernel : ∀ t : Fin grid0.N, _)

/-- The windows staged whole stay at the origin. -/
theorem idxw : ∀ t : Fin cfg0.N, win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] :=
  (by decide +kernel : ∀ t : Fin grid0.N, _)

/-- Row `r` of point `t`, as a row of the whole array. -/
def row (r : Fin 512) : Fin 16384 := ⟨t.val * 512 + r.val, by have h : t.val < 32 := t.isLt; omega⟩

/-- Window 0's block: the point's rows of the residual stream. -/
theorem iblk0 (r : Fin 512) (k : Fin 1024) : iblk m c 0 t (ix2 r k) = m ((c : Thread nD τ).loc main_arg0) (ix2 (row t r) k) := by
  blk_ext [iblk, V, idx t, row]

/-- Window 1's block: the point's rows of the attention's output. -/
theorem iblk1 (r : Fin 512) (k : Fin 512) : iblk m c 1 t (ix2 r k) = m ((c : Thread nD τ).loc main_arg1) (ix2 (row t r) k) := by
  blk_ext [iblk, V, idx t, row]

/-- Window 2's block: the point's rows of the recurrence's output. -/
theorem iblk2 (r : Fin 512) (k : Fin 512) : iblk m c 2 t (ix2 r k) = m ((c : Thread nD τ).loc main_arg2) (ix2 (row t r) k) := by
  blk_ext [iblk, V, idx t, row]

/-- Window 3's block: the whole row of modulation. -/
theorem iblk3 (k : Fin 1024) : iblk m c 3 t (ix2 0 k) = m ((c : Thread nD τ).loc main_arg3) (ix2 0 k) := by
  blk_ext [iblk, V, idxw t]

/-- Window 7's block: the whole row of modulation. -/
theorem iblk7 (k : Fin 1024) : iblk m c 7 t (ix2 0 k) = m ((c : Thread nD τ).loc main_arg7) (ix2 0 k) := by
  blk_ext [iblk, V, idxw t]

/-- Window 8's block: the whole row of modulation. -/
theorem iblk8 (k : Fin 1024) : iblk m c 8 t (ix2 0 k) = m ((c : Thread nD τ).loc main_arg8) (ix2 0 k) := by
  blk_ext [iblk, V, idxw t]

/-- Window 9's block: the whole row of modulation. -/
theorem iblk9 (k : Fin 1024) : iblk m c 9 t (ix2 0 k) = m ((c : Thread nD τ).loc main_arg9) (ix2 0 k) := by
  blk_ext [iblk, V, idxw t]

/-- Window 4's block: the whole vector of the norm. -/
theorem iblk4 (k : Fin 1024) : iblk m c 4 t (ix2 0 k) = m ((c : Thread nD τ).loc main_arg4) (ix1 k) := by
  blk_ext! [iblk, V, idxw t]

/-- Window 5's block: the whole vector of the norm. -/
theorem iblk5 (k : Fin 1024) : iblk m c 5 t (ix2 0 k) = m ((c : Thread nD τ).loc main_arg5) (ix1 k) := by
  blk_ext! [iblk, V, idxw t]

/-- Window 10's block: the whole vector of the norm. -/
theorem iblk10 (k : Fin 1024) : iblk m c 10 t (ix2 0 k) = m ((c : Thread nD τ).loc main_arg10) (ix1 k) := by
  blk_ext! [iblk, V, idxw t]

/-- Window 11's block: the whole vector of the norm. -/
theorem iblk11 (k : Fin 1024) : iblk m c 11 t (ix2 0 k) = m ((c : Thread nD τ).loc main_arg11) (ix1 k) := by
  blk_ext! [iblk, V, idxw t]

/-- Window 6's block: the whole output projection. -/
theorem iblk6 (a b : Fin 1024) : iblk m c 6 t (ix2 a b) = m ((c : Thread nD τ).loc main_arg6) (ix3 0 a b) := by
  blk_ext! [iblk, V, idxw t]

/-- Window 12's block: the whole weight matrix. -/
theorem iblk12 (a : Fin 1024) (b : Fin 2816) : iblk m c 12 t (ix2 a b) = m ((c : Thread nD τ).loc main_arg12) (ix3 0 a b) := by
  blk_ext! [iblk, V, idxw t]

/-- Window 13's block: the whole weight matrix. -/
theorem iblk13 (a : Fin 1024) (b : Fin 2816) : iblk m c 13 t (ix2 a b) = m ((c : Thread nD τ).loc main_arg13) (ix3 0 a b) := by
  blk_ext! [iblk, V, idxw t]

/-- Window 14's block: the whole down projection. -/
theorem iblk14 (a : Fin 2816) (b : Fin 1024) : iblk m c 14 t (ix2 a b) = m ((c : Thread nD τ).loc main_arg14) (ix3 0 a b) := by
  blk_ext! [iblk, V, idxw t]

/-- The result array after the run is the reference's result of the arguments as launched. -/
theorem final : (dats (F := Ideal) m 0 c).arrAt 15 (cfgs 0).N
    = Cert.OutRefIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats (F := Ideal) m 0 c).arrAt_eq_of_covers 15 _ (by decide +kernel) fun t hf y => ?_
  blk_simp
  rw [after0_15]
  obtain ⟨r, j, rfl⟩ : ∃ (r : Fin 512) (j : Fin 1024), y = ix2 r j := ⟨y 0, y 1, eq_ix2 y⟩
  have he : ((cfg0.win 15).blk t).view.emb (ix2 r j) = ix2 (row t r) j := by
    blk_ext [idx t, row]
  refine (OutPay.out_apply _ _ _ _ _ _ _ _ _ _ _ _ _ _ _ r j).trans ?_
  refine Eq.trans ?_ (congrArg _ he.symm)
  rw [OutRef.v80_apply]
  simp only [iblk0 m c t, iblk1 m c t, iblk2 m c t, iblk3 m c t, iblk4 m c t, iblk5 m c t, iblk6 m c t, iblk7 m c t, iblk8 m c t, iblk9 m c t,
    iblk10 m c t, iblk11 m c t, iblk12 m c t, iblk13 m c t, iblk14 m c t]

/-- The algebraic claim: from equal arguments, the kernel's result is the reference's. -/
theorem algebraic : Cert.algebraic_OutIdeal_OutRefIdeal (hOutIdeal := Cert.OutIdeal.Gen.facts)
    (hOutRefIdeal := Cert.OutRefIdeal.Gen.facts) := by
  intro m g m' g' _ hargs
  refine ⟨fun c => (dats (F := Ideal) m 0 c).arrAt 15 (cfgs 0).N, Cert.OutIdeal.Value.run_blocks (F := Ideal) m g, ?_⟩
  refine (θ_run (Cert.OutRefIdeal.defs (F := Ideal)) _ _).mono (fun r h c => ?_) (Cert.OutRefIdeal.Value.run (F := Ideal) m' g')
  refine ⟨(h c).1.trans ((Cert.OutRefIdeal.Read.val_main_v80_eq (StableHlo.launchContents m' c)).trans ?_), (h c).2⟩
  refine Eq.trans ?_ (final m c).symm
  obtain ⟨h0, h1, h2, h3, h4, h5, h6, h7, h8, h9, h10, h11, h12, h13, h14⟩ := hargs c
  rw [← h0, ← h1, ← h2, ← h3, ← h4, ← h5, ← h6, ← h7, ← h8, ← h9, ← h10, ← h11, ← h12, ← h13, ← h14]

end Cert.Proof.OutValue

end
-- ==== Proof.OutSPay.lean ====
/-
  What the grid point of the output and feed-forward call computes at the samples' shapes, read at one element: the layer's formulas on the row.
-/
module

public import proofs.«01_k».proof.Proof.Row
public import proofs.«01_k».proof.Proof.Gen.OutSIdeal.Frame
public import Idealize.ShloMosaic.Lib.Pipeline.ValueKit

@[expose] public section

set_option maxRecDepth 16384

noncomputable section

namespace Cert.Proof.OutSPay

open Idealize.ShloMosaic Cert.OutSIdeal Cert.OutSIdeal.Gen Cert.Proof.Row

/-- The first residual sum less its mean. -/
theorem pay3_apply (v0 : Vec Ideal S128x512 .f32) (v2 : Vec Ideal S512x1024 .bf16) (v5 : Vec Ideal S128x512 .f32) (v7 : Vec Ideal S512x1024 .bf16) (v11 : Vec Ideal S128x1024 .f32) (v14 : Vec Ideal S128x1024 .f32) (r : Fin 128) (j : Fin 1024) :
    k0_pay3 v0 v2 v5 v7 v11 v14 (ix2 r j)
      = ctr (resid (fun k => v11 (ix2 r k)) (fun k => v14 (ix2 r k))
          fun k => ∑ x, v0 (ix2 r x) * v2 (ix2 x k) + ∑ x, v5 (ix2 r x) * v7 (ix2 x k)) j := by
  pointwise [k0_pay3, ctr, resid, mean]

/-- The first residual sum's variance. -/
theorem pay4_apply (v0 : Vec Ideal S128x512 .f32) (v2 : Vec Ideal S512x1024 .bf16) (v5 : Vec Ideal S128x512 .f32) (v7 : Vec Ideal S512x1024 .bf16) (v11 : Vec Ideal S128x1024 .f32) (v14 : Vec Ideal S128x1024 .f32) (r : Fin 128) :
    k0_pay4 v0 v2 v5 v7 v11 v14 (ix2 r 0)
      = var (resid (fun k => v11 (ix2 r k)) (fun k => v14 (ix2 r k))
          fun k => ∑ x, v0 (ix2 r x) * v2 (ix2 x k) + ∑ x, v5 (ix2 r x) * v7 (ix2 x k)) := by
  pointwise [k0_pay4]
  simp only [pay3_apply]
  rfl

/-- The first norm. -/
theorem pay5_apply (v21 : FVec Ideal S1x1024 .f32) (v23 : FVec Ideal S1x1024 .f32) (v29 : FVec Ideal S128x1024 .f32) (v34 : FVec Ideal S128x1 .f32) (e : Ideal .f32) (r : Fin 128) (j : Fin 1024) :
    k0_pay5 v21 v23 v29 v34 e (ix2 r j)
      = v29 (ix2 r j) * Ideal.rsqrt (v34 (ix2 r 0) + e) * v21 (ix2 0 j) + v23 (ix2 0 j) := by
  pointwise [k0_pay5]

/-- The modulated row. -/
theorem pay8_apply (v21 v23 : FVec Ideal S1x1024 .f32) (v29 : FVec Ideal S128x1024 .f32) (v34 : FVec Ideal S128x1 .f32) (e : Ideal .f32) (v44 v45 : Vec Ideal S128x1024 .f32) (r : Fin 128) (j : Fin 1024) :
    k0_pay8 v21 v23 v29 v34 e v44 v45 (ix2 r j)
      = modul (fun k => k0_pay5 v21 v23 v29 v34 e (ix2 r k)) (fun k => v45 (ix2 r k)) (fun k => v44 (ix2 r k)) j := by
  pointwise [k0_pay8, modul]

/-- The first half of the hidden units. -/
theorem pay9_apply (v21 v23 : FVec Ideal S1x1024 .f32) (v29 : FVec Ideal S128x1024 .f32) (v34 : FVec Ideal S128x1 .f32) (e : Ideal .f32) (v44 v45 : Vec Ideal S128x1024 .f32) (v59 v62 : Vec Ideal S1024x1408 .bf16) (v69 : Vec Ideal S1408x1024 .bf16) (r : Fin 128) (j : Fin 1024) :
    k0_pay9 v21 v23 v29 v34 e v44 v45 v59 v62 v69 (ix2 r j)
      = ∑ f, unit (fun k => k0_pay8 v21 v23 v29 v34 e v44 v45 (ix2 r k)) (fun k => v59 (ix2 k f)) (fun k => v62 (ix2 k f)) * v69 (ix2 f j) := by
  pointwise [k0_pay9, unit]

/-- The second half of the hidden units, and the second norm. -/
theorem pay10_apply (v43 : FVec Ideal S128x1024 .f32) (v46 : Vec Ideal S128x1024 .f32) (v48 v50 : FVec Ideal S1x1024 .f32) (v57 : FVec Ideal S128x1024 .bf16) (v72 : FVec Ideal S128x1024 .f32) (v73 v76 : Vec Ideal S1024x1408 .bf16) (v83 : Vec Ideal S1408x1024 .bf16) (r : Fin 128) (j : Fin 1024) :
    k0_pay10 v43 v46 v48 v50 v57 v72 v73 v76 v83 (ix2 r j)
      = ln (resid (fun k => v43 (ix2 r k)) (fun k => v46 (ix2 r k)) fun j => Ideal.ofBits .f32 0x3F000000#32 *
          (v72 (ix2 r j) + ∑ f, unit (fun k => v57 (ix2 r k)) (fun k => v73 (ix2 k f)) (fun k => v76 (ix2 k f)) * v83 (ix2 f j)))
          (fun k => v48 (ix2 0 k)) (fun k => v50 (ix2 0 k)) j := by
  pointwise [k0_pay10, ln, ctr, var, mean, resid, unit]

set_option maxHeartbeats 1000000 in
/-- What the body leaves in its output block, at row `r` and column `j`: the two sublayers on row `r`. -/
theorem out_apply (x0 : Vec Ideal S128x1024 .f32) (x1 x2 : Vec Ideal S128x512 .f32) (x3 : Vec Ideal S128x1024 .f32) (x4 x5 : Vec Ideal S1x1024 .f32) (x6 : Vec Ideal S1024x1024 .bf16) (x7 x8 x9 : Vec Ideal S128x1024 .f32) (x10 x11 : Vec Ideal S1x1024 .f32) (x12 x13 : Vec Ideal S1024x2816 .bf16) (x14 : Vec Ideal S2816x1024 .bf16) (r : Fin 128) (j : Fin 1024) :
    out0_15 x0 x1 x2 x3 x4 x5 x6 x7 x8 x9 x10 x11 x12 x13 x14 (ix2 r j)
      = ffnRow (mixRow (fun k => x0 (ix2 r k)) (fun k => x1 (ix2 r k)) (fun k => x2 (ix2 r k)) (fun k => x3 (ix2 r k))
            (fun k => x4 (ix2 0 k)) (fun k => x5 (ix2 0 k)) (fun a b => x6 (ix2 a b)))
          (fun k => x7 (ix2 r k)) (fun k => x8 (ix2 r k)) (fun k => x9 (ix2 r k)) (fun k => x10 (ix2 0 k)) (fun k => x11 (ix2 0 k))
          (fun a b => x12 (ix2 a b)) (fun a b => x13 (ix2 a b)) (fun a b => x14 (ix2 a b)) j := by
  have hz : (![0, 0] : Fin S128x1024.rank → Nat) = fun _ => 0 := funext fun a => by fin_cases a <;> rfl
  have hm : ∀ k, k0_pay5 (k0_pay11 x0 x1 x2 x3 x4 x5 x6 x7 x8 x9 x10 x11 x12 x13 x14) (k0_pay12 x0 x1 x2 x3 x4 x5 x6 x7 x8 x9 x10 x11 x12 x13 x14) (k0_pay13 x0 x1 x2 x3 x4 x5 x6 x7 x8 x9 x10 x11 x12 x13 x14) (k0_pay14 x0 x1 x2 x3 x4 x5 x6 x7 x8 x9 x10 x11 x12 x13 x14) (Scalar.ofBits .f32 0x3727C5AC#32) (ix2 r k)
      = mixRow (fun k => x0 (ix2 r k)) (fun k => x1 (ix2 r k)) (fun k => x2 (ix2 r k)) (fun k => x3 (ix2 r k))
            (fun k => x4 (ix2 0 k)) (fun k => x5 (ix2 0 k)) (fun a b => x6 (ix2 a b)) k := by
    intro k
    rw [pay5_apply]
    unfold k0_pay11 k0_pay12 k0_pay13 k0_pay14 mixRow ln
    rw [pay3_apply, pay4_apply]
    pointwise [k0_pay1, k0_pay2]
    rfl
  unfold out0_15
  rw [View.canon_unit_zero hz, pay10_apply]
  simp only [pay9_apply, pay8_apply, hm]
  unfold ffnRow
  have hh : ∀ j, halfFf (modul (mixRow (fun k => x0 (ix2 r k)) (fun k => x1 (ix2 r k)) (fun k => x2 (ix2 r k)) (fun k => x3 (ix2 r k))
            (fun k => x4 (ix2 0 k)) (fun k => x5 (ix2 0 k)) (fun a b => x6 (ix2 a b))) (fun k => x8 (ix2 r k)) (fun k => x7 (ix2 r k)))
          (fun a b => x12 (ix2 a b)) (fun a b => x13 (ix2 a b)) (fun a b => x14 (ix2 a b)) j = _ := fun j => by
    unfold halfFf; rw [ff_halves]
  simp only [funext hh]
  pointwise [k0_pay6, k0_pay7]

end Cert.Proof.OutSPay

end
-- ==== Proof.OutSRef.lean ====
/-
  The reference of the output and feed-forward call at the samples' shapes, read at one element: the layer's formulas on the row.
-/
module

public import proofs.«01_k».proof.Proof.Row
public import proofs.«01_k».proof.Proof.Gen.OutSRefIdeal.Read

@[expose] public section

set_option maxRecDepth 16384

noncomputable section

namespace Cert.Proof.OutSRef

open Idealize.ShloMosaic Cert.OutSRefIdeal Cert.OutSRefIdeal.Gen Cert.OutSRefIdeal.Read Cert.Proof.Row

variable (x0 : Vec Ideal S128x1024 .f32) (x1 x2 : Vec Ideal S128x512 .f32) (x3 : Vec Ideal S128x1024 .f32) (x4 x5 : Vec Ideal S1024 .f32)
  (x6 : Vec Ideal S1x1024x1024 .f32) (x7 x8 x9 : Vec Ideal S128x1024 .f32) (x10 x11 : Vec Ideal S1024 .f32)
  (x12 x13 : Vec Ideal S1x1024x2816 .f32) (x14 : Vec Ideal S1x2816x1024 .f32) (r : Fin 128) (j : Fin 1024)

/-- The first residual sum. -/
theorem v8_apply : val_main_v8 (F := Ideal) x0 x1 x2 x3 x6 (ix2 r j)
    = resid (fun k => x0 (ix2 r k)) (fun k => x3 (ix2 r k))
        (proj2 (fun k => x1 (ix2 r k)) (fun k => x2 (ix2 r k)) fun a b => x6 (ix3 0 a b)) j := by
  pointwise [val_main_v8, val_main_v7, val_main_v6, val_main_v5, val_main_v4, val_main_v3, val_main_v2, val_main_v1, val_main_v0, val_main_cst, val_main_cst_0, resid, proj2]

/-- The mean of the first residual sum. -/
theorem v12_apply : val_main_v12 (F := Ideal) x0 x1 x2 x3 x6 (ix2 r 0)
    = mean fun k => val_main_v8 (F := Ideal) x0 x1 x2 x3 x6 (ix2 r k) := by
  pointwise [val_main_v12, val_main_v11, val_main_v10, val_main_v9, val_main_cst_1, val_main_cst_2, mean]

/-- The first residual sum's variance. -/
theorem v19_apply : val_main_v19 (F := Ideal) x0 x1 x2 x3 x6 (ix2 r 0)
    = var fun k => val_main_v8 (F := Ideal) x0 x1 x2 x3 x6 (ix2 r k) := by
  pointwise [val_main_v19, val_main_v18, val_main_v17, val_main_v16, val_main_v15, val_main_v14, val_main_v13, val_main_cst_3, val_main_cst_4]
  simp only [v12_apply]
  rfl

/-- The mixer's sublayer. -/
theorem v32_apply : val_main_v32 (F := Ideal) x0 x1 x2 x3 x4 x5 x6 (ix2 r j)
    = mixRow (fun k => x0 (ix2 r k)) (fun k => x1 (ix2 r k)) (fun k => x2 (ix2 r k)) (fun k => x3 (ix2 r k))
        (fun k => x4 (ix1 k)) (fun k => x5 (ix1 k)) (fun a b => x6 (ix3 0 a b)) j := by
  pointwise [val_main_v32, val_main_v31, val_main_v30, val_main_v29, val_main_v28, val_main_v27, val_main_v26, val_main_v25, val_main_v24, val_main_v23, val_main_v22, val_main_v21, val_main_v20, val_main_cst_5]
  simp only [v12_apply, v19_apply, v8_apply]
  rfl

/-- The feed-forward block of the modulated row, halved. -/
theorem v46_apply : val_main_v46 (F := Ideal) x0 x1 x2 x3 x4 x5 x6 x7 x8 x12 x13 x14 (ix2 r j)
    = halfFf (modul (fun k => val_main_v32 (F := Ideal) x0 x1 x2 x3 x4 x5 x6 (ix2 r k)) (fun k => x8 (ix2 r k)) (fun k => x7 (ix2 r k)))
        (fun a b => x12 (ix3 0 a b)) (fun a b => x13 (ix3 0 a b)) (fun a b => x14 (ix3 0 a b)) j := by
  have hm : ∀ k, val_main_v36 (F := Ideal) x0 x1 x2 x3 x4 x5 x6 x7 x8 (ix2 r k)
      = modul (fun k => val_main_v32 (F := Ideal) x0 x1 x2 x3 x4 x5 x6 (ix2 r k)) (fun k => x8 (ix2 r k)) (fun k => x7 (ix2 r k)) k := by
    intro k
    pointwise [val_main_v36, val_main_v35, val_main_v34, val_main_v33, val_main_cst_6, modul]
  pointwise [val_main_v46, val_main_v45, val_main_v44, val_main_v43, val_main_v42, val_main_v41, val_main_v40, val_main_v39, val_main_v38, val_main_v37, val_main_cst_7, val_main_call0_v0, val_main_call0_v1, val_main_call0_v2, val_main_call0_v3, val_main_call0_v4, val_main_call0_v5, val_main_call0_cst, val_main_call0_cst_0]
  simp only [hm]
  rfl

/-- The second residual sum. -/
theorem v52_apply : val_main_v52 (F := Ideal) x0 x1 x2 x3 x4 x5 x6 x7 x8 x9 x12 x13 x14 (ix2 r j)
    = resid (fun k => val_main_v32 (F := Ideal) x0 x1 x2 x3 x4 x5 x6 (ix2 r k)) (fun k => x9 (ix2 r k))
        (fun k => val_main_v46 (F := Ideal) x0 x1 x2 x3 x4 x5 x6 x7 x8 x12 x13 x14 (ix2 r k)) j := by
  pointwise [val_main_v52, val_main_v51, val_main_v50, val_main_v49, val_main_v48, val_main_v47, val_main_cst_8, val_main_cst_9, resid]

/-- The mean of the second residual sum. -/
theorem v56_apply : val_main_v56 (F := Ideal) x0 x1 x2 x3 x4 x5 x6 x7 x8 x9 x12 x13 x14 (ix2 r 0)
    = mean fun k => val_main_v52 (F := Ideal) x0 x1 x2 x3 x4 x5 x6 x7 x8 x9 x12 x13 x14 (ix2 r k) := by
  pointwise [val_main_v56, val_main_v55, val_main_v54, val_main_v53, val_main_cst_10, val_main_cst_11, mean]

/-- The second residual sum's variance. -/
theorem v63_apply : val_main_v63 (F := Ideal) x0 x1 x2 x3 x4 x5 x6 x7 x8 x9 x12 x13 x14 (ix2 r 0)
    = var fun k => val_main_v52 (F := Ideal) x0 x1 x2 x3 x4 x5 x6 x7 x8 x9 x12 x13 x14 (ix2 r k) := by
  pointwise [val_main_v63, val_main_v62, val_main_v61, val_main_v60, val_main_v59, val_main_v58, val_main_v57, val_main_cst_12, val_main_cst_13]
  simp only [v56_apply]
  rfl

/-- The reference's result at row `r` and column `j`: the two sublayers on row `r`. -/
theorem v76_apply : val_main_v76 (F := Ideal) x0 x1 x2 x3 x4 x5 x6 x7 x8 x9 x10 x11 x12 x13 x14 (ix2 r j)
    = ffnRow (mixRow (fun k => x0 (ix2 r k)) (fun k => x1 (ix2 r k)) (fun k => x2 (ix2 r k)) (fun k => x3 (ix2 r k))
          (fun k => x4 (ix1 k)) (fun k => x5 (ix1 k)) (fun a b => x6 (ix3 0 a b)))
        (fun k => x7 (ix2 r k)) (fun k => x8 (ix2 r k)) (fun k => x9 (ix2 r k)) (fun k => x10 (ix1 k)) (fun k => x11 (ix1 k))
        (fun a b => x12 (ix3 0 a b)) (fun a b => x13 (ix3 0 a b)) (fun a b => x14 (ix3 0 a b)) j := by
  pointwise [val_main_v76, val_main_v75, val_main_v74, val_main_v73, val_main_v72, val_main_v71, val_main_v70, val_main_v69, val_main_v68, val_main_v67, val_main_v66, val_main_v65, val_main_v64, val_main_cst_14]
  simp only [v56_apply, v63_apply, v52_apply, v46_apply, v32_apply]
  rfl

end Cert.Proof.OutSRef

end
-- ==== Proof.OutSValue.lean ====
/-
  At the samples' shapes, the output and feed-forward call's result array after the run, and its agreement with the reference.
-/
module

public import proofs.«01_k».proof.Defs
public import proofs.«01_k».proof.Proof.OutSPay
public import proofs.«01_k».proof.Proof.OutSRef
public import proofs.«01_k».proof.Proof.Gen.OutSIdeal.Value

@[expose] public section

set_option maxRecDepth 16384

noncomputable section

namespace Cert.Proof.OutSValue

open Idealize.ShloMosaic Idealize.SL.Sem Idealize.ShloMosaic.TcCoe Cert.OutSIdeal Cert.OutSIdeal.Gen Cert.Proof.Row

variable (m : (ℓ : Loc nD τ sig) → Buf (Elt Ideal) ℓ) (c : Dev nD) (t : Fin cfg0.N)

/-- Where the windows' blocks lie: at the origin. -/
theorem idx : ∀ t : Fin cfg0.N, win0_0.index t = ![0, 0] ∧ win0_1.index t = ![0, 0] ∧ win0_2.index t = ![0, 0]
    ∧ win0_15.index t = ![0, 0] :=
  (by decide +kernel : ∀ t : Fin grid0.N, _)

/-- The windows staged whole stay at the origin. -/
theorem idxw : ∀ t : Fin cfg0.N, win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] :=
  (by decide +kernel : ∀ t : Fin grid0.N, _)

/-- Window 0's block: the rows of the residual stream. -/
theorem iblk0 (r : Fin 128) (k : Fin 1024) : iblk m c 0 t (ix2 r k) = m ((c : Thread nD τ).loc main_arg0) (ix2 r k) := by
  blk_ext [iblk, V, idx t]

/-- Window 1's block: the rows of the attention's output. -/
theorem iblk1 (r : Fin 128) (k : Fin 512) : iblk m c 1 t (ix2 r k) = m ((c : Thread nD τ).loc main_arg1) (ix2 r k) := by
  blk_ext [iblk, V, idx t]

/-- Window 2's block: the rows of the recurrence's output. -/
theorem iblk2 (r : Fin 128) (k : Fin 512) : iblk m c 2 t (ix2 r k) = m ((c : Thread nD τ).loc main_arg2) (ix2 r k) := by
  blk_ext [iblk, V, idx t]

/-- Window 3's block: the rows of modulation. -/
theorem iblk3 (r : Fin 128) (k : Fin 1024) : iblk m c 3 t (ix2 r k) = m ((c : Thread nD τ).loc main_arg3) (ix2 r k) := by
  blk_ext [iblk, V, idxw t]

/-- Window 7's block: the rows of modulation. -/
theorem iblk7 (r : Fin 128) (k : Fin 1024) : iblk m c 7 t (ix2 r k) = m ((c : Thread nD τ).loc main_arg7) (ix2 r k) := by
  blk_ext [iblk, V, idxw t]

/-- Window 8's block: the rows of modulation. -/
theorem iblk8 (r : Fin 128) (k : Fin 1024) : iblk m c 8 t (ix2 r k) = m ((c : Thread nD τ).loc main_arg8) (ix2 r k) := by
  blk_ext [iblk, V, idxw t]

/-- Window 9's block: the rows of modulation. -/
theorem iblk9 (r : Fin 128) (k : Fin 1024) : iblk m c 9 t (ix2 r k) = m ((c : Thread nD τ).loc main_arg9) (ix2 r k) := by
  blk_ext [iblk, V, idxw t]

/-- Window 4's block: the whole vector of the norm. -/
theorem iblk4 (k : Fin 1024) : iblk m c 4 t (ix2 0 k) = m ((c : Thread nD τ).loc main_arg4) (ix1 k) := by
  blk_ext! [iblk, V, idxw t]

/-- Window 5's block: the whole vector of the norm. -/
theorem iblk5 (k : Fin 1024) : iblk m c 5 t (ix2 0 k) = m ((c : Thread nD τ).loc main_arg5) (ix1 k) := by
  blk_ext! [iblk, V, idxw t]

/-- Window 10's block: the whole vector of the norm. -/
theorem iblk10 (k : Fin 1024) : iblk m c 10 t (ix2 0 k) = m ((c : Thread nD τ).loc main_arg10) (ix1 k) := by
  blk_ext! [iblk, V, idxw t]

/-- Window 11's block: the whole vector of the norm. -/
theorem iblk11 (k : Fin 1024) : iblk m c 11 t (ix2 0 k) = m ((c : Thread nD τ).loc main_arg11) (ix1 k) := by
  blk_ext! [iblk, V, idxw t]

/-- Window 6's block: the whole output projection. -/
theorem iblk6 (a b : Fin 1024) : iblk m c 6 t (ix2 a b) = m ((c : Thread nD τ).loc main_arg6) (ix3 0 a b) := by
  blk_ext! [iblk, V, idxw t]

/-- Window 12's block: the whole weight matrix. -/
theorem iblk12 (a : Fin 1024) (b : Fin 2816) : iblk m c 12 t (ix2 a b) = m ((c : Thread nD τ).loc main_arg12) (ix3 0 a b) := by
  blk_ext! [iblk, V, idxw t]

/-- Window 13's block: the whole weight matrix. -/
theorem iblk13 (a : Fin 1024) (b : Fin 2816) : iblk m c 13 t (ix2 a b) = m ((c : Thread nD τ).loc main_arg13) (ix3 0 a b) := by
  blk_ext! [iblk, V, idxw t]

/-- Window 14's block: the whole down projection. -/
theorem iblk14 (a : Fin 2816) (b : Fin 1024) : iblk m c 14 t (ix2 a b) = m ((c : Thread nD τ).loc main_arg14) (ix3 0 a b) := by
  blk_ext! [iblk, V, idxw t]

/-- The result array after the run is the reference's result of the arguments as launched. -/
theorem final : (dats (F := Ideal) m 0 c).arrAt 15 (cfgs 0).N
    = Cert.OutSRefIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats (F := Ideal) m 0 c).arrAt_eq_of_covers 15 _ (by decide +kernel) fun t hf y => ?_
  blk_simp
  rw [after0_15]
  obtain ⟨r, j, rfl⟩ : ∃ (r : Fin 128) (j : Fin 1024), y = ix2 r j := ⟨y 0, y 1, eq_ix2 y⟩
  have he : ((cfg0.win 15).blk t).view.emb (ix2 r j) = ix2 r j := by
    blk_ext [idx t]
  refine (OutSPay.out_apply _ _ _ _ _ _ _ _ _ _ _ _ _ _ _ r j).trans ?_
  refine Eq.trans ?_ (congrArg _ he.symm)
  rw [OutSRef.v76_apply]
  simp only [iblk0 m c t, iblk1 m c t, iblk2 m c t, iblk3 m c t, iblk4 m c t, iblk5 m c t, iblk6 m c t, iblk7 m c t, iblk8 m c t, iblk9 m c t,
    iblk10 m c t, iblk11 m c t, iblk12 m c t, iblk13 m c t, iblk14 m c t]

/-- The algebraic claim: from equal arguments, the kernel's result is the reference's. -/
theorem algebraic : Cert.algebraic_OutSIdeal_OutSRefIdeal (hOutSIdeal := Cert.OutSIdeal.Gen.facts)
    (hOutSRefIdeal := Cert.OutSRefIdeal.Gen.facts) := by
  intro m g m' g' _ hargs
  refine ⟨fun c => (dats (F := Ideal) m 0 c).arrAt 15 (cfgs 0).N, Cert.OutSIdeal.Value.run_blocks (F := Ideal) m g, ?_⟩
  refine (θ_run (Cert.OutSRefIdeal.defs (F := Ideal)) _ _).mono (fun r h c => ?_) (Cert.OutSRefIdeal.Value.run (F := Ideal) m' g')
  refine ⟨(h c).1.trans ((Cert.OutSRefIdeal.Read.val_main_v76_eq (StableHlo.launchContents m' c)).trans ?_), (h c).2⟩
  refine Eq.trans ?_ (final m c).symm
  obtain ⟨h0, h1, h2, h3, h4, h5, h6, h7, h8, h9, h10, h11, h12, h13, h14⟩ := hargs c
  rw [← h0, ← h1, ← h2, ← h3, ← h4, ← h5, ← h6, ← h7, ← h8, ← h9, ← h10, ← h11, ← h12, ← h13, ← h14]

end Cert.Proof.OutSValue

end
-- ==== Proof.BandPay.lean ====
/-
  What the bias band's call computes at one element: the bias table's entry at the element's bucket, or the mask.
-/
module

public import proofs.«01_k».proof.Proof.Into
public import proofs.«01_k».proof.Proof.Gen.BandIdeal.Frame
public import Idealize.ShloMosaic.Lib.Pipeline.ValueKit

@[expose] public section

set_option maxRecDepth 16384

noncomputable section

namespace Cert.Proof.BandPay

open Idealize.ShloMosaic Idealize.SL.Sem Idealize.ShloMosaic.TcCoe Cert.BandIdeal Cert.BandIdeal.Gen

/-- The mask: the value where an element has no bucket. -/
def neg : Ideal .f32 := Ideal.ofBits .f32 0xF1800000#32

/-- The entry of `f` at the bucket `b`, or the mask where `b` is none of the 32 buckets. -/
def entry (b : BitVec 32) (f : Fin 32 → Ideal .f32) : Ideal .f32 :=
  if h : b.toNat < 32 then f ⟨b.toNat, h⟩ else neg

/-- The first `n` buckets tried one after the other, the last first, over the mask. -/
def pick (b : BitVec 32) (f : Fin 32 → Ideal .f32) : Nat → Ideal .f32
  | 0 => neg
  | n + 1 => Scalar.select (IntOp.cmpi .eq b (BitVec.ofNat 32 n)) (f (Fin.ofNat 32 n)) (pick b f n)

/-- Trying the first `n` buckets finds the entry where the bucket is among them. -/
theorem pick_eq (b : BitVec 32) (f : Fin 32 → Ideal .f32) : ∀ n, n ≤ 32 →
    pick b f n = if b.toNat < n then entry b f else neg
  | 0, _ => rfl
  | n + 1, hn => by
    rw [pick, pick_eq b f n (by omega)]
    by_cases hb : b = BitVec.ofNat 32 n
    · have ht : b.toNat = n := by rw [hb, BitVec.toNat_ofNat]; omega
      have he : entry b f = f (Fin.ofNat 32 n) := by
        rw [entry, dif_pos (show b.toNat < 32 by omega)]
        exact congrArg f (Fin.ext (show b.toNat = n % 32 by omega))
      have hc : IntOp.cmpi .eq b (BitVec.ofNat 32 n) = 1#1 := by rw [← hb]; simp [IntOp.cmpi]
      rw [if_pos (show b.toNat < n + 1 by omega), he, hc]
      rfl
    · have ht : b.toNat ≠ n := fun h => hb (by rw [← h, BitVec.ofNat_toNat, BitVec.setWidth_eq])
      have hlt : (b.toNat < n + 1) = (b.toNat < n) := propext (by omega)
      have hc : IntOp.cmpi .eq b (BitVec.ofNat 32 n) = 0#1 := by
        rw [IntOp.cmpi, beq_eq_false_iff_ne.mpr hb]
        rfl
      simp only [hc, hlt]
      rfl

/-- All the buckets tried. -/
theorem pick_all (b : BitVec 32) (f : Fin 32 → Ideal .f32) : pick b f 32 = entry b f := by
  rw [pick_eq b f 32 le_rfl]
  unfold entry
  split <;> rfl

variable (m : (ℓ : Loc nD τ sig) → Buf (Elt Ideal) ℓ) (c : Dev nD) (t : Fin cfg0.N)

/-- A point's head. -/
def head : Fin 8 := ⟨t.val, t.isLt⟩

/-- The table's column that a point reads is its head's. -/
theorem off : ∀ t : Fin cfg0.N, k0_off1 (grid0.coords t) 1 = t.val :=
  (by decide +kernel : ∀ t : Fin grid0.N, _)

/-- What a point leaves at row `r` and column `j`: the head's entry at the element's bucket. -/
theorem outs_apply (r : Fin 1152) (j : Fin 128) : outsAt0 m c t (ix3 0 r j)
    = entry (iblk m c 1 t (ix2 r j)) fun n => iblk m c 0 t (ix2 n (head t)) := by
  unfold outsAt0
  frame_out
  pointwise [k0_pay1, k0_pay2, k0_pay3, k0_pay4, k0_pay5, k0_pay6, k0_pay7, k0_pay8, k0_pay9]
  rw [← pick_all]
  have hh : head t = ⟨k0_off1 (grid0.coords t) 1, by rw [off t]; exact t.isLt⟩ := Fin.ext (off t).symm
  rw [hh]
  rfl

end Cert.Proof.BandPay

end
-- ==== Proof.BandRef.lean ====
/-
  The reference of the bias band, read at one element: the bias table's entry at the element's bucket, or the mask.
-/
module

public import proofs.«01_k».proof.Proof.BandPay
public import proofs.«01_k».proof.Proof.Gen.BandRefIdeal.Read

@[expose] public section

set_option maxRecDepth 16384

noncomputable section

namespace Cert.Proof.BandRef

open Idealize.ShloMosaic Cert.BandRefIdeal Cert.BandRefIdeal.Gen Cert.BandRefIdeal.Read Cert.Proof.BandPay

/-- The dimension numbers of a gather of whole rows: one row of an `[N, C]` operand for each index of an `[R, Q, 1]` array. -/
abbrev rowDims (N C R Q : Nat)
    (wf : GatherDims.WF ⟨2, ![N, C]⟩ ⟨3, ![R, Q, 1]⟩ ⟨3, ![R, Q, C]⟩ [2] [0] [] [0] [] 2 ![1, C]) :
    GatherDims ⟨2, ![N, C]⟩ ⟨3, ![R, Q, 1]⟩ ⟨3, ![R, Q, C]⟩ where
  offsetDims := [2]
  collapsedSliceDims := [0]
  operandBatchingDims := []
  startIndicesBatchingDims := []
  startIndexMap := [0]
  indexVectorDim := 2
  sliceSizes := ![1, C]
  wf := wf

/-- A gather of whole rows at one element: the operand at that element's row index, kept inside the operand, and the element's column. -/
theorem rows_apply {α : Type} {N C R Q : Nat} (hN : 0 < N)
    (wf : GatherDims.WF ⟨2, ![N, C]⟩ ⟨3, ![R, Q, 1]⟩ ⟨3, ![R, Q, C]⟩ [2] [0] [] [0] [] 2 ![1, C])
    (x : (⟨2, ![N, C]⟩ : Shape).Idx → α) (q : IVec ⟨3, ![R, Q, 1]⟩ 32) (r : Fin R) (j : Fin Q) (h : Fin C) :
    Host.gather (rowDims N C R Q wf) x q (ix3 r j h) = x (ix2 ⟨min (q (ix3 r j 0)).toInt.toNat (N - 1), by omega⟩ h) := by
  unfold Host.gather
  congr 1
  funext a
  refine Fin.ext ?_
  show (rowDims N C R Q wf).start (ix3 r j h) q a + (rowDims N C R Q wf).batchCoord (ix3 r j h) a
      + (rowDims N C R Q wf).offCoord (ix3 r j h) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C R Q wf).startIndexMap from List.mem_singleton.mpr rfl)]
    have hs : (rowDims N C R Q wf).siIdx (ix3 r j h) ⟨List.idxOf (0 : Fin 2) (rowDims N C R Q wf).startIndexMap,
        List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hs]
    rfl
  · have h1 : (1 : Fin 2) ∉ ([0] : List (Fin 2)) := by decide
    unfold GatherDims.start
    rw [dif_neg h1, Nat.zero_add]
    unfold GatherDims.offCoord
    rw [dif_pos ((GatherDims.mem_sKept _ _).mpr ⟨h1, List.not_mem_nil⟩)]
    rfl

variable (x0 : Vec Ideal S32x8 .f32) (x1 : Vec Ideal S1152x128 .i32) (r : Fin 1152) (j : Fin 128) (h : Fin 8)

/-- The gathered row at a bucket, read at one head. -/
theorem v7_apply : val_main_v7 (F := Ideal) x0 x1 (ix3 r j h)
    = x0 (ix2 ⟨min (val_main_v5 (F := Ideal) x1 (ix2 r j)).toInt.toNat 31, by omega⟩ h) := by
  have h6 : val_main_v6 (F := Ideal) x1 (ix3 r j 0) = val_main_v5 (F := Ideal) x1 (ix2 r j) := by
    pointwise [val_main_v6]
  simp only [← h6]
  exact rows_apply (by decide) _ x0 (val_main_v6 (F := Ideal) x1) r j h

/-- Clipping a bucket to the table leaves it where it is one of the 32, and the index that the gather reads is it. -/
theorem clip_eq : ∀ n : Fin 32,
    IntOp.minsi 31#32 (IntOp.maxsi 0#32 (BitVec.ofNat 32 n.val)) = BitVec.ofNat 32 n.val
      ∧ IntOp.cmpi .slt (BitVec.ofNat 32 n.val) 0#32 = 0#1
      ∧ IntOp.andi (IntOp.cmpi .sge (BitVec.ofNat 32 n.val) 0#32) (IntOp.cmpi .slt (BitVec.ofNat 32 n.val) 32#32) = 1#1
      ∧ min (BitVec.ofNat 32 n.val).toInt.toNat 31 = n.val := by
  decide +kernel

/-- The mask's condition fails off the 32 buckets. -/
theorem off_eq (b : BitVec 32) (hb : ¬ b.toNat < 32) :
    IntOp.andi (IntOp.cmpi .sge b 0#32) (IntOp.cmpi .slt b 32#32) = 0#1 := by
  have hn : ((0#32).sle b && b.slt 32#32) = false := by
    rw [Bool.and_eq_false_iff, ← Bool.not_eq_true, ← Bool.not_eq_true, BitVec.sle_iff_toInt_le, BitVec.slt_iff_toInt_lt]
    have h0 : (0#32).toInt = 0 := by decide
    have h32 : (32#32).toInt = 32 := by decide
    rw [h0, h32, BitVec.toInt_eq_toNat_cond]
    split <;> omega
  show BitVec.ofBool ((0#32).sle b) &&& BitVec.ofBool (b.slt 32#32) = 0#1
  rw [BitVec.ofBool_and_ofBool, hn]
  rfl

/-- The select of the reference at a bucket: the entry of the table at the bucket, or the mask. -/
theorem select_eq (b : BitVec 32) (f : Fin 32 → Ideal .f32) (q : BitVec 32)
    (hq : q = IntOp.minsi 31#32 (IntOp.maxsi 0#32 b)) :
    Scalar.select (IntOp.andi (IntOp.cmpi .sge b 0#32) (IntOp.cmpi .slt b 32#32))
      (f ⟨min (Scalar.select (IntOp.cmpi .slt q 0#32) (IntOp.addi q 32#32) q).toInt.toNat 31, by omega⟩) neg
      = entry b f := by
  by_cases hb : b.toNat < 32
  · have he : b = BitVec.ofNat 32 (⟨b.toNat, hb⟩ : Fin 32).val := by rw [BitVec.ofNat_toNat, BitVec.setWidth_eq]
    obtain ⟨h1, h2, h3, h4⟩ := clip_eq ⟨b.toNat, hb⟩
    rw [← he] at h1 h2 h3 h4
    rw [h1] at hq
    subst hq
    rw [h3, entry, dif_pos hb]
    refine congrArg f (Fin.ext ?_)
    show min (Scalar.select (IntOp.cmpi .slt q 0#32) (IntOp.addi q 32#32) q).toInt.toNat 31 = q.toNat
    rw [h2]
    exact h4
  · rw [off_eq b hb, entry, dif_neg hb]
    rfl

/-- The reference at one element: the head's entry at the element's bucket, or the mask. -/
theorem v15_apply : val_main_v15 (F := Ideal) x0 x1 (ix3 h r j)
    = entry (x1 (ix2 r j)) fun n => x0 (ix2 n h) := by
  pointwise [val_main_v15, val_main_v14, val_main_v13, val_main_v12, val_main_v11, val_main_v10, val_main_v9, val_main_v8, val_main_c_3, val_main_c_4, val_main_cst, val_main_call1_v0, val_main_call1_v1, val_main_call1_v2]
  rw [v7_apply]
  pointwise [val_main_v5, val_main_v4, val_main_v3, val_main_v2, val_main_v1, val_main_v0, val_main_call0_v0, val_main_call0_v1, val_main_call0_v2, val_main_call0_v3, val_main_call0_v4, val_main_c, val_main_c_0, val_main_c_1, val_main_c_2]
  exact select_eq (x1 (ix2 r j)) (fun n => x0 (ix2 n h)) _ rfl

end Cert.Proof.BandRef

end
-- ==== Proof.BandValue.lean ====
/-
  The bias band's result array after the run, and its agreement with the reference.
-/
module

public import proofs.«01_k».proof.Defs
public import proofs.«01_k».proof.Proof.BandPay
public import proofs.«01_k».proof.Proof.BandRef
public import proofs.«01_k».proof.Proof.Gen.BandIdeal.Value

@[expose] public section

set_option maxRecDepth 16384

noncomputable section

namespace Cert.Proof.BandValue

open Idealize.ShloMosaic Idealize.SL.Sem Idealize.ShloMosaic.TcCoe Cert.BandIdeal Cert.BandIdeal.Gen Cert.Proof.BandPay

variable (m : (ℓ : Loc nD τ sig) → Buf (Elt Ideal) ℓ) (c : Dev nD) (t : Fin cfg0.N)

/-- Where the windows' blocks lie: the arguments at the origin, the result at its point's head. -/
theorem idx : ∀ t : Fin cfg0.N, win0_0.index t = ![0, 0] ∧ win0_1.index t = ![0, 0] ∧ win0_2.index t = ![t.val, 0, 0] :=
  (by decide +kernel : ∀ t : Fin grid0.N, _)

/-- Window 0's block: the whole bias table. -/
theorem iblk0 (n : Fin 32) (h : Fin 8) : iblk m c 0 t (ix2 n h) = m ((c : Thread nD τ).loc main_arg0) (ix2 n h) := by
  blk_ext [iblk, V, idx t]

/-- Window 1's block: every bucket. -/
theorem iblk1 (r : Fin 1152) (j : Fin 128) : iblk m c 1 t (ix2 r j) = m ((c : Thread nD τ).loc main_arg1) (ix2 r j) := by
  blk_ext [iblk, V, idx t]

/-- The result array after the run is the reference's result of the arguments as launched. -/
theorem final : (dats (F := Ideal) m 0 c).arrAt 2 (cfgs 0).N
    = Cert.BandRefIdeal.Read.val_main_v15 (F := Ideal) (m ((c : Thread nD τ).loc main_arg0)) (m ((c : Thread nD τ).loc main_arg1)) := by
  refine (dats (F := Ideal) m 0 c).arrAt_eq_of_covers 2 _ (by decide +kernel) fun t hf y => ?_
  blk_simp
  rw [after0_2]
  obtain ⟨r, j, rfl⟩ : ∃ (r : Fin 1152) (j : Fin 128), y = ix3 0 r j :=
    ⟨y 1, y 2, (eq_ix3 y).trans (congrArg (fun q => ix3 q (y 1) (y 2)) (Subsingleton.elim (α := Fin 1) _ _))⟩
  have he : ((cfg0.win 2).blk t).view.emb (ix3 0 r j) = ix3 (head t) r j := by
    blk_ext [idx t, head]
  refine (outs_apply m c t r j).trans ?_
  refine Eq.trans ?_ (congrArg _ he.symm)
  rw [BandRef.v15_apply]
  simp only [iblk0 m c t, iblk1 m c t]

/-- The algebraic claim: from equal arguments, the kernel's result is the reference's. -/
theorem algebraic : Cert.algebraic_BandIdeal_BandRefIdeal (hBandIdeal := Cert.BandIdeal.Gen.facts)
    (hBandRefIdeal := Cert.BandRefIdeal.Gen.facts) := by
  intro m g m' g' _ hargs
  refine ⟨fun c => (dats (F := Ideal) m 0 c).arrAt 2 (cfgs 0).N, Cert.BandIdeal.Value.run_blocks (F := Ideal) m g, ?_⟩
  refine (θ_run (Cert.BandRefIdeal.defs (F := Ideal)) _ _).mono (fun r h c => ?_) (Cert.BandRefIdeal.Value.run (F := Ideal) m' g')
  refine ⟨(h c).1.trans ((Cert.BandRefIdeal.Read.val_main_v15_eq (m' ((c : Thread nD τ).loc Cert.BandRefIdeal.main_arg0)) (m' ((c : Thread nD τ).loc Cert.BandRefIdeal.main_arg1))).trans ?_), (h c).2⟩
  refine Eq.trans ?_ (final m c).symm
  obtain ⟨h0, h1⟩ := hargs c
  rw [← h0, ← h1]

end Cert.Proof.BandValue

end
-- ==== Proof.lean ====
/-
  The proof of the claims: the generated frames, and the value claims proved in the modules beside them.
-/
module

public import proofs.«01_k».proof.Defs
public import proofs.«01_k».proof.Proof.Gen.Prompt.Frame
public import proofs.«01_k».proof.Proof.Gen.PromptIdeal.Frame
public import proofs.«01_k».proof.Proof.Gen.PromptRefIdeal.Run
public import proofs.«01_k».proof.Proof.Gen.PromptRefIdeal.Read
public import proofs.«01_k».proof.Proof.Gen.Sample.Frame
public import proofs.«01_k».proof.Proof.Gen.SampleIdeal.Frame
public import proofs.«01_k».proof.Proof.Gen.SampleRefIdeal.Run
public import proofs.«01_k».proof.Proof.Gen.SampleRefIdeal.Read
public import proofs.«01_k».proof.Proof.Gen.Out.Frame
public import proofs.«01_k».proof.Proof.Gen.OutIdeal.Frame
public import proofs.«01_k».proof.Proof.Gen.OutRefIdeal.Run
public import proofs.«01_k».proof.Proof.Gen.OutS.Frame
public import proofs.«01_k».proof.Proof.Gen.OutSIdeal.Frame
public import proofs.«01_k».proof.Proof.Gen.OutSRefIdeal.Run
public import proofs.«01_k».proof.Proof.Gen.Band.Frame
public import proofs.«01_k».proof.Proof.Gen.BandIdeal.Frame
public import proofs.«01_k».proof.Proof.Gen.BandIdeal.Value
public import proofs.«01_k».proof.Proof.Gen.BandRefIdeal.Run
public import proofs.«01_k».proof.Proof.Gen.BandRefIdeal.Read
public import proofs.«01_k».proof.Proof.PromptValue
public import proofs.«01_k».proof.Proof.SampleValue
public import proofs.«01_k».proof.Proof.OutValue
public import proofs.«01_k».proof.Proof.OutSValue
public import proofs.«01_k».proof.Proof.BandValue

@[expose] public section

open Idealize.ShloMosaic Idealize.SL.Sem Idealize.ShloMosaic.TcCoe

namespace Cert.Proof

/-- The reference of the prompt's call ends with its arguments as they were and every counter at zero: its generated
    run, read at the arguments; it declares no semaphore. -/
theorem frame_prompt_reference : Cert.quiescent_PromptRefIdeal (hPromptRefIdeal := Cert.PromptRefIdeal.Gen.facts) := fun m g _ =>
  (θ_run Cert.PromptRefIdeal.defs _ _).mono
    (fun r h => ⟨fun c => (h c).2.2.2, Idealize.ShloMosaic.sem_eq_zero_of_no_sems (by decide) r.2⟩)
    (Cert.PromptRefIdeal.Value.run (F := Ideal) m g)

/-- The reference of the samples' call, likewise. -/
theorem frame_sample_reference : Cert.quiescent_SampleRefIdeal (hSampleRefIdeal := Cert.SampleRefIdeal.Gen.facts) := fun m g _ =>
  (θ_run Cert.SampleRefIdeal.defs _ _).mono
    (fun r h => ⟨fun c => (h c).2.2.2, Idealize.ShloMosaic.sem_eq_zero_of_no_sems (by decide) r.2⟩)
    (Cert.SampleRefIdeal.Value.run (F := Ideal) m g)

/-- The reference of the output call, likewise. -/
theorem frame_out_reference : Cert.quiescent_OutRefIdeal (hOutRefIdeal := Cert.OutRefIdeal.Gen.facts) := fun m g _ =>
  (θ_run Cert.OutRefIdeal.defs _ _).mono
    (fun r h => ⟨fun c => (h c).2, Idealize.ShloMosaic.sem_eq_zero_of_no_sems (by decide) r.2⟩)
    (Cert.OutRefIdeal.Value.run (F := Ideal) m g)

/-- The reference of the output call at the samples' shapes, likewise. -/
theorem frame_outs_reference : Cert.quiescent_OutSRefIdeal (hOutSRefIdeal := Cert.OutSRefIdeal.Gen.facts) := fun m g _ =>
  (θ_run Cert.OutSRefIdeal.defs _ _).mono
    (fun r h => ⟨fun c => (h c).2, Idealize.ShloMosaic.sem_eq_zero_of_no_sems (by decide) r.2⟩)
    (Cert.OutSRefIdeal.Value.run (F := Ideal) m g)

/-- The reference of the bias band's call, likewise. -/
theorem frame_band_reference : Cert.quiescent_BandRefIdeal (hBandRefIdeal := Cert.BandRefIdeal.Gen.facts) := fun m g _ =>
  (θ_run Cert.BandRefIdeal.defs _ _).mono
    (fun r h => ⟨fun c => (h c).2, Idealize.ShloMosaic.sem_eq_zero_of_no_sems (by decide) r.2⟩)
    (Cert.BandRefIdeal.Value.run (F := Ideal) m g)

/-- Every claim. -/
theorem claim : Cert.Claim :=
  ⟨Cert.Prompt.Gen.facts, Cert.PromptIdeal.Gen.facts, Cert.PromptRefIdeal.Gen.facts,
    Cert.Sample.Gen.facts, Cert.SampleIdeal.Gen.facts, Cert.SampleRefIdeal.Gen.facts,
    Cert.Out.Gen.facts, Cert.OutIdeal.Gen.facts, Cert.OutRefIdeal.Gen.facts,
    Cert.OutS.Gen.facts, Cert.OutSIdeal.Gen.facts, Cert.OutSRefIdeal.Gen.facts,
    Cert.Band.Gen.facts, Cert.BandIdeal.Gen.facts, Cert.BandRefIdeal.Gen.facts,
    fun m g _ => Cert.Prompt.Gen.frame m g, fun m g _ => Cert.PromptIdeal.Gen.frame m g, frame_prompt_reference,
    fun m g _ => Cert.Sample.Gen.frame m g, fun m g _ => Cert.SampleIdeal.Gen.frame m g, frame_sample_reference,
    fun m g _ => Cert.Out.Gen.frame m g, fun m g _ => Cert.OutIdeal.Gen.frame m g, frame_out_reference,
    fun m g _ => Cert.OutS.Gen.frame m g, fun m g _ => Cert.OutSIdeal.Gen.frame m g, frame_outs_reference,
    fun m g _ => Cert.Band.Gen.frame m g, fun m g _ => Cert.BandIdeal.Gen.frame m g, frame_band_reference,
    trivial, PromptValue.algebraic, trivial, SampleValue.algebraic, trivial, OutValue.algebraic, trivial, OutSValue.algebraic,
    trivial, BandValue.algebraic⟩

end Cert.Proof

end
